-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v211_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v26) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v88) = v1 c
          ∧ r.2.mem ((c.tc : Thread Cert.Reference6Ideal.nD Cert.Reference6Ideal.τ).loc Cert.Reference6Ideal.main_v109) = v2 c
          ∧ r.2.mem ((c.tc : Thread Cert.Reference6Ideal.nD Cert.Reference6Ideal.τ).loc Cert.Reference6Ideal.main_v87) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_v63) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite3 : Cert.Pre_finite3.Facts) (hPre_finite4 : Cert.Pre_finite4.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite3.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .bf16) (main_arg1 : FVec F S8192x2816 .bf16) (main_arg2 : FVec F S2816x1024 .f32) (main_arg3 : FVec F S8192x1024 .f32) : IVec S8192x2816 1 × IVec S8192x2816 1 × IVec S2816x1024 1 × IVec S8192x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S2816x1024 .f32 := Host.absf main_arg2
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  (main_v3, main_v7, main_v10, main_v13)
-- ==== Pre_finite4.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bitsLt_bf16_f32 : FTy.bits .bf16 < FTy.bits .f32
  bcast_S_S8192x2816 : S_.BroadcastsInDim S8192x2816 (![] : Fin 0 → Fin S8192x2816.rank)

variable [Facts]

def fn_part1 {F : FTy → Type} [FloatOps F] (main_arg6 : FVec F S8192x1024 .f32) (main_v2 : IVec S8192x1024 1) (main_v5 : IVec S1024 1) (main_v8 : IVec S1024x2816 1) (main_v11 : IVec S1024x2816 1) (main_v15 : IVec S8192x2816 1) (main_v17 : FVec F S8192x2816 .f32) (main_cst_4 : FVec F S_ .f32) : IVec S8192x1024 1 × IVec S1024 1 × IVec S1024x2816 1 × IVec S1024x2816 1 × IVec S8192x2816 1 × IVec S8192x2816 1 × IVec S8192x1024 1 :=
  let main_v18 : FVec F S8192x2816 .f32 := broadcastInDim S8192x2816 ![] bcast_S_S8192x2816 main_cst_4
  let main_v19 : IVec S8192x2816 1 := cmpf .olt main_v17 main_v18
  let main_v20 : FVec F S8192x1024 .f32 := Host.absf main_arg6
  let main_cst_5 : FVec F S_ .f32 := constant S_ .f32 0x7F800000#32
  let main_v21 : FVec F S8192x1024 .f32 := broadcastInDim S8192x1024 ![] bcast_S_S8192x1024 main_cst_5
  let main_v22 : IVec S8192x1024 1 := cmpf .olt main_v20 main_v21
  (main_v2, main_v5, main_v8, main_v11, main_v15, main_v19, main_v22)

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x2816 .bf16) (main_arg5 : FVec F S8192x2816 .bf16) (main_arg6 : FVec F S8192x1024 .f32) : IVec S8192x1024 1 × IVec S1024 1 × IVec S1024x2816 1 × IVec S1024x2816 1 × IVec S8192x2816 1 × IVec S8192x2816 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S8192x2816 .f32 := (extf .f32 · bitsLt_bf16_f32) main_arg4
  let main_v13 : FVec F S8192x2816 .f32 := Host.absf main_v12
  let main_cst_3 : FVec F S_ .f32 := constant S_ .f32 0x7F800000#32
  let main_v14 : FVec F S8192x2816 .f32 := broadcastInDim S8192x2816 ![] bcast_S_S8192x2816 main_cst_3
  let main_v15 : IVec S8192x2816 1 := cmpf .olt main_v13 main_v14
  let main_v16 : FVec F S8192x2816 .f32 := (extf .f32 · bitsLt_bf16_f32) main_arg5
  let main_v17 : FVec F S8192x2816 .f32 := Host.absf main_v16
  let main_cst_4 : FVec F S_ .f32 := constant S_ .f32 0x7F800000#32
  fn_part1 (F := F) main_arg6 main_v2 main_v5 main_v8 main_v11 main_v15 main_v17 main_cst_4
-- ==== Pre_finite6.lean ====
abbrev S8192x2816 : Shape := ⟨2, ![8192, 2816]⟩
abbrev S8192x1024 : Shape := ⟨2, ![8192, 1024]⟩
abbrev S1024 : Shape := ⟨1, ![1024]⟩
abbrev S2816x1024 : Shape := ⟨2, ![2816, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S1024 : S_.BroadcastsInDim S1024 (![] : Fin 0 → Fin S1024.rank)
  bcast_S_S2816x1024 : S_.BroadcastsInDim S2816x1024 (![] : Fin 0 → Fin S2816x1024.rank)

variable [Facts]

def fn {F : FTy → Type} [FloatOps F] (main_arg0 : FVec F S8192x2816 .bf16) (main_arg1 : FVec F S8192x1024 .f32) (main_arg2 : FVec F S8192x1024 .f32) (main_arg3 : FVec F S1024 .f32) (main_arg4 : FVec F S2816x1024 .f32) : IVec S8192x2816 1 × IVec S8192x1024 1 × IVec S8192x1024 1 × IVec S1024 1 × IVec S2816x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S2816x1024 .f32 := Host.absf main_arg4
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  (main_v3, main_v6, main_v9, main_v12, main_v15)
-- ==== Pre_finite7.lean ====
abbrev S8192x1024 : Shape := ⟨2, ![8192, 1024]⟩
abbrev S1024 : Shape := ⟨1, ![1024]⟩
abbrev S1024x1536 : Shape := ⟨2, ![1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bitsLt_bf16_f32 : FTy.bits .bf16 < FTy.bits .f32
  bcast_S_S8192x1536 : S_.BroadcastsInDim S8192x1536 (![] : Fin 0 → Fin S8192x1536.rank)

variable [Facts]

def fn {F : FTy → Type} [FloatOps F] (main_arg0 : FVec F S8192x1024 .f32) (main_arg1 : FVec F S1024 .f32) (main_arg2 : FVec F S1024x1536 .f32) (main_arg3 : FVec F S8192x1536 .bf16) (main_arg4 : FVec F S8192x1024 .f32) : IVec S8192x1024 1 × IVec S1024 1 × IVec S1024x1536 1 × IVec S8192x1536 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S8192x1536 .f32 := (extf .f32 · bitsLt_bf16_f32) main_arg3
  let main_v10 : FVec F S8192x1536 .f32 := Host.absf main_v9
  let main_cst_2 : FVec F S_ .f32 := constant S_ .f32 0x7F800000#32
  let main_v11 : FVec F S8192x1536 .f32 := broadcastInDim S8192x1536 ![] bcast_S_S8192x1536 main_cst_2
  let main_v12 : IVec S8192x1536 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  (main_v2, main_v5, main_v8, main_v12, main_v15)
-- ==== Kernel.lean ====
abbrev S8192x1536 : Shape := ⟨2, ![8192, 1536]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S4x128x128 : Shape := ⟨3, ![4, 128, 128]⟩
abbrev S1024x1024 : Shape := ⟨2, ![1024, 1024]⟩
abbrev S8192x1024 : Shape := ⟨2, ![8192, 1024]⟩
abbrev S_ : Shape := ⟨0, ![]⟩
abbrev S8195x512 : Shape := ⟨2, ![8195, 512]⟩
abbrev S1x512 : Shape := ⟨2, ![1, 512]⟩
abbrev S8192x8x64 : Shape := ⟨3, ![8192, 8, 64]⟩
abbrev S8x64x8192 : Shape := ⟨3, ![8, 64, 8192]⟩
abbrev S8192x4x128 : Shape := ⟨3, ![8192, 4, 128]⟩
abbrev S8192x1x128 : Shape := ⟨3, ![8192, 1, 128]⟩
abbrev S8192x128 : Shape := ⟨2, ![8192, 128]⟩
abbrev S8194x128 : Shape := ⟨2, ![8194, 128]⟩
abbrev S8192 : Shape := ⟨1, ![8192]⟩
abbrev S8192x1 : Shape := ⟨2, ![8192, 1]⟩
abbrev S8196x128 : Shape := ⟨2, ![8196, 128]⟩
abbrev S8200x128 : Shape := ⟨2, ![8200, 128]⟩
abbrev S8208x128 : Shape := ⟨2, ![8208, 128]⟩
abbrev S1x8192x512 : Shape := ⟨3, ![1, 8192, 512]⟩
abbrev S4x8192x512 : Shape := ⟨3, ![4, 8192, 512]⟩
abbrev S272x512 : Shape := ⟨2, ![272, 512]⟩
abbrev S512x512 : Shape := ⟨2, ![512, 512]⟩
abbrev S4x512x512 : Shape := ⟨3, ![4, 512, 512]⟩
abbrev S8x512 : Shape := ⟨2, ![8, 512]⟩
abbrev S512x1024 : Shape := ⟨2, ![512, 1024]⟩
abbrev S512x1536 : Shape := ⟨2, ![512, 1536]⟩
abbrev S2x256x512 : Shape := ⟨3, ![2, 256, 512]⟩
abbrev S16x512 : Shape := ⟨2, ![16, 512]⟩
abbrev S128x512 : Shape := ⟨2, ![128, 512]⟩
abbrev S32x512 : Shape := ⟨2, ![32, 512]⟩
abbrev S64x64 : Shape := ⟨2, ![64, 64]⟩
abbrev S1x64x64 : Shape := ⟨3, ![1, 64, 64]⟩
abbrev S64x256 : Shape := ⟨2, ![64, 256]⟩
abbrev S1x64x256 : Shape := ⟨3, ![1, 64, 256]⟩
abbrev S16x128 : Shape := ⟨2, ![16, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S1x512x512 : Shape := ⟨3, ![1, 512, 512]⟩
abbrev S512x1 : Shape := ⟨2, ![512, 1]⟩
abbrev S64x8x512 : Shape := ⟨3, ![64, 8, 512]⟩
abbrev S496x128 : Shape := ⟨2, ![496, 128]⟩
abbrev S528x128 : Shape := ⟨2, ![528, 128]⟩
abbrev S520x512 : Shape := ⟨2, ![520, 512]⟩
abbrev S512x256 : Shape := ⟨2, ![512, 256]⟩
abbrev S1x256x512 : Shape := ⟨3, ![1, 256, 512]⟩
abbrev S256x512 : Shape := ⟨2, ![256, 512]⟩
abbrev S1x512x256 : Shape := ⟨3, ![1, 512, 256]⟩

abbrev nBuf : Space → Nat
  | .hbm => 287
  | .vmem => 40
  | .smem => 0
  | _ => 0

abbrev hbmTy0_0 (i : Nat) : BufTy := match i % 128 with
  | 0 => ⟨S8192x1536, .f32⟩
  | 1 => ⟨S8192x512, .f32⟩
  | 2 => ⟨S4x512, .f32⟩
  | 3 => ⟨S512, .f32⟩
  | 4 => ⟨S8x64x64, .f32⟩
  | 5 => ⟨S8x64x64, .f32⟩
  | 6 => ⟨S512, .f32⟩
  | 7 => ⟨S512, .f32⟩
  | 8 => ⟨S512, .f32⟩
  | 9 => ⟨S4x128x128, .f32⟩
  | 10 => ⟨S512, .f32⟩
  | 11 => ⟨S512, .f32⟩
  | 12 => ⟨S512, .f32⟩
  | 13 => ⟨S512, .f32⟩
  | 14 => ⟨S1024x1024, .f32⟩
  | 15 => ⟨S8192x1024, .f32⟩
  | 16 => ⟨S8192x512, .f32⟩
  | 17 => ⟨S8192x512, .f32⟩
  | 18 => ⟨S_, .i32⟩
  | 19 => ⟨S_, .f32⟩
  | 20 => ⟨S8195x512, .f32⟩
  | 21 => ⟨S8192x512, .f32⟩
  | 22 => ⟨S1x512, .f32⟩
  | 23 => ⟨S512, .f32⟩
  | 24 => ⟨S1x512, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x8x64, .f32⟩
  | 52 => ⟨S8x64x8192, .f32⟩
  | 53 => ⟨S8192x8x64, .f32⟩
  | 54 => ⟨S8192x512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8x64x8192, .f32⟩
  | 67 => ⟨S8192x8x64, .f32⟩
  | 68 => ⟨S8192x512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S512, .f32⟩
  | 84 => ⟨S_, .f32⟩
  | 85 => ⟨S512, .f32⟩
  | 86 => ⟨S512, .f32⟩
  | 87 => ⟨S512, .f32⟩
  | 88 => ⟨S512, .f32⟩
  | 89 => ⟨S512, .i1⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S1x512, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S8192x512, .f32⟩
  | _ => ⟨S8192x1536, .f32⟩

abbrev hbmTy0_1 (i : Nat) : BufTy := match i % 128 with
  | 0 => ⟨S_, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x4x128, .f32⟩
  | 30 => ⟨S8192x1x128, .f32⟩
  | 31 => ⟨S8192x128, .f32⟩
  | 32 => ⟨S_, .i32⟩
  | 33 => ⟨S_, .f32⟩
  | 34 => ⟨S8194x128, .f32⟩
  | 35 => ⟨S_, .f32⟩
  | 36 => ⟨S_, .f32⟩
  | 37 => ⟨S8194x128, .f32⟩
  | 38 => ⟨S8192x128, .f32⟩
  | 39 => ⟨S8192x128, .f32⟩
  | 40 => ⟨S8192x128, .f32⟩
  | 41 => ⟨S8192, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .f32⟩
  | 49 => ⟨S8192x1, .f32⟩
  | 50 => ⟨S8192x128, .f32⟩
  | 51 => ⟨S8192x128, .f32⟩
  | 52 => ⟨S8192x1x128, .f32⟩
  | 53 => ⟨S8192x128, .f32⟩
  | 54 => ⟨S8192x128, .f32⟩
  | 55 => ⟨S8192x1x128, .f32⟩
  | 56 => ⟨S8192x128, .f32⟩
  | 57 => ⟨S_, .i32⟩
  | 58 => ⟨S_, .f32⟩
  | 59 => ⟨S8196x128, .f32⟩
  | 60 => ⟨S_, .f32⟩
  | 61 => ⟨S_, .f32⟩
  | 62 => ⟨S8196x128, .f32⟩
  | 63 => ⟨S8192x128, .f32⟩
  | 64 => ⟨S8192x128, .f32⟩
  | 65 => ⟨S8192x128, .f32⟩
  | 66 => ⟨S8192, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .f32⟩
  | 74 => ⟨S8192x1, .f32⟩
  | 75 => ⟨S8192x128, .f32⟩
  | 76 => ⟨S8192x128, .f32⟩
  | 77 => ⟨S8192x1x128, .f32⟩
  | 78 => ⟨S8192x128, .f32⟩
  | 79 => ⟨S8192x128, .f32⟩
  | 80 => ⟨S8192x1x128, .f32⟩
  | 81 => ⟨S8192x128, .f32⟩
  | 82 => ⟨S_, .i32⟩
  | 83 => ⟨S_, .f32⟩
  | 84 => ⟨S8200x128, .f32⟩
  | 85 => ⟨S_, .f32⟩
  | 86 => ⟨S_, .f32⟩
  | 87 => ⟨S8200x128, .f32⟩
  | 88 => ⟨S8192x128, .f32⟩
  | 89 => ⟨S8192x128, .f32⟩
  | 90 => ⟨S8192x128, .f32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S8192x1, .f32⟩
  | 100 => ⟨S8192x128, .f32⟩
  | 101 => ⟨S8192x128, .f32⟩
  | 102 => ⟨S8192x1x128, .f32⟩
  | 103 => ⟨S8192x128, .f32⟩
  | 104 => ⟨S8192x128, .f32⟩
  | 105 => ⟨S8192x1x128, .f32⟩
  | 106 => ⟨S8192x128, .f32⟩
  | 107 => ⟨S_, .i32⟩
  | 108 => ⟨S_, .f32⟩
  | 109 => ⟨S8208x128, .f32⟩
  | 110 => ⟨S_, .f32⟩
  | 111 => ⟨S_, .f32⟩
  | 112 => ⟨S8208x128, .f32⟩
  | 113 => ⟨S8192x128, .f32⟩
  | 114 => ⟨S8192x128, .f32⟩
  | 115 => ⟨S8192x128, .f32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .f32⟩
  | 124 => ⟨S8192x1, .f32⟩
  | 125 => ⟨S8192x128, .f32⟩
  | 126 => ⟨S8192x128, .f32⟩
  | 127 => ⟨S8192x1x128, .f32⟩
  | _ => ⟨S8192x1536, .f32⟩

abbrev hbmTy0_2 (i : Nat) : BufTy := match i % 128 with
  | 0 => ⟨S8192x128, .f32⟩
  | 1 => ⟨S8192x128, .f32⟩
  | 2 => ⟨S8192x1x128, .f32⟩
  | 3 => ⟨S8192x1x128, .f32⟩
  | 4 => ⟨S8192x1x128, .f32⟩
  | 5 => ⟨S8192x1x128, .f32⟩
  | 6 => ⟨S8192x4x128, .f32⟩
  | 7 => ⟨S8192x512, .f32⟩
  | 8 => ⟨S1x8192x512, .f32⟩
  | 9 => ⟨S1x8192x512, .f32⟩
  | 10 => ⟨S1x8192x512, .f32⟩
  | 11 => ⟨S1x8192x512, .f32⟩
  | 12 => ⟨S4x8192x512, .f32⟩
  | 13 => ⟨S1x8192x512, .f32⟩
  | 14 => ⟨S1x8192x512, .f32⟩
  | 15 => ⟨S1x8192x512, .f32⟩
  | 16 => ⟨S1x8192x512, .f32⟩
  | 17 => ⟨S4x8192x512, .f32⟩
  | 18 => ⟨S4x8192x512, .bf16⟩
  | 19 => ⟨S1x512, .f32⟩
  | 20 => ⟨S1x512, .f32⟩
  | 21 => ⟨S1x512, .f32⟩
  | 22 => ⟨S1x512, .f32⟩
  | 23 => ⟨S1x512, .f32⟩
  | 24 => ⟨S1x512, .f32⟩
  | 25 => ⟨S1x512, .f32⟩
  | 26 => ⟨S1x512, .f32⟩
  | 27 => ⟨S1024x1024, .bf16⟩
  | 28 => ⟨S8192x1536, .bf16⟩
  | 29 => ⟨S272x512, .f32⟩
  | 30 => ⟨S1024x1024, .f32⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S4x512x512, .f32⟩
  | .local _ .vmem, ⟨3, _⟩ => ⟨S4x512x512, .f32⟩
  | .local _ .vmem, ⟨4, _⟩ => ⟨S4x512x512, .bf16⟩
  | .local _ .vmem, ⟨5, _⟩ => ⟨S4x512x512, .bf16⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x1024, .f32⟩
  | .local _ .vmem, ⟨11, _⟩ => ⟨S512x1024, .f32⟩
  | .local _ .vmem, ⟨12, _⟩ => ⟨S4x512, .f32⟩
  | .local _ .vmem, ⟨13, _⟩ => ⟨S1x512, .f32⟩
  | .local _ .vmem, ⟨14, _⟩ => ⟨S8x64x64, .f32⟩
  | .local _ .vmem, ⟨15, _⟩ => ⟨S8x64x64, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S4x128x128, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S512x1536, .bf16⟩
  | .local _ .vmem, ⟨26, _⟩ => ⟨S512x1536, .bf16⟩
  | .local _ .vmem, ⟨27, _⟩ => ⟨S272x512, .f32⟩
  | .local _ .vmem, ⟨28, _⟩ => ⟨S1024x1024, .f32⟩
  | .local _ .vmem, ⟨29, _⟩ => ⟨S2x256x512, .bf16⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S8x512, .f32⟩
  | .local _ .vmem, ⟨34, _⟩ => ⟨S8x512, .f32⟩
  | .local _ .vmem, ⟨35, _⟩ => ⟨S16x512, .f32⟩
  | .local _ .vmem, ⟨36, _⟩ => ⟨S128x512, .f32⟩
  | .local _ .vmem, ⟨37, _⟩ => ⟨S32x512, .f32⟩
  | .local _ .vmem, ⟨38, _⟩ => ⟨S2x256x512, .f32⟩
  | .local _ .vmem, ⟨39, _⟩ => ⟨S128x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_cst_0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_1 : Ref sig .tc := ⟨.hbm, 74, rfl⟩
abbrev main_v54 : Ref sig .tc := ⟨.hbm, 75, rfl⟩
abbrev main_v55 : Ref sig .tc := ⟨.hbm, 76, rfl⟩
abbrev main_cst_2 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_4 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_5 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_6 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_7 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_8 : Ref sig .tc := ⟨.hbm, 120, rfl⟩
abbrev main_v80 : Ref sig .tc := ⟨.hbm, 121, rfl⟩
abbrev main_v81 : Ref sig .tc := ⟨.hbm, 122, rfl⟩
abbrev main_cst_9 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_10 : Ref sig .tc := ⟨.hbm, 128, rfl⟩
abbrev main_v86 : Ref sig .tc := ⟨.hbm, 129, rfl⟩
abbrev main_v87 : Ref sig .tc := ⟨.hbm, 130, rfl⟩
abbrev main_cst_11 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_12 : Ref sig .tc := ⟨.hbm, 135, rfl⟩
abbrev main_v91 : Ref sig .tc := ⟨.hbm, 136, rfl⟩
abbrev main_v92 : Ref sig .tc := ⟨.hbm, 137, rfl⟩
abbrev main_cst_13 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_14 : Ref sig .tc := ⟨.hbm, 143, rfl⟩
abbrev main_v97 : Ref sig .tc := ⟨.hbm, 144, rfl⟩
abbrev main_v98 : Ref sig .tc := ⟨.hbm, 145, rfl⟩
abbrev main_cst_15 : Ref sig .tc := ⟨.hbm, 146, rfl⟩
abbrev main_v99 : Ref sig .tc := ⟨.hbm, 147, rfl⟩
abbrev main_v100 : Ref sig .tc := ⟨.hbm, 148, rfl⟩
abbrev main_cst_16 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_17 : Ref sig .tc := ⟨.hbm, 160, rfl⟩
abbrev main_call2_v0 : Ref sig .tc := ⟨.hbm, 161, rfl⟩
abbrev main_v111 : Ref sig .tc := ⟨.hbm, 162, rfl⟩
abbrev main_call3_call0_cst : Ref sig .tc := ⟨.hbm, 163, rfl⟩
abbrev main_call3_call0_v0 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_18 : Ref sig .tc := ⟨.hbm, 170, rfl⟩
abbrev main_v117 : Ref sig .tc := ⟨.hbm, 171, rfl⟩
abbrev main_v118 : Ref sig .tc := ⟨.hbm, 172, rfl⟩
abbrev main_c_19 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_20 : Ref sig .tc := ⟨.hbm, 185, rfl⟩
abbrev main_call4_v0 : Ref sig .tc := ⟨.hbm, 186, rfl⟩
abbrev main_v130 : Ref sig .tc := ⟨.hbm, 187, rfl⟩
abbrev main_call5_call0_cst : Ref sig .tc := ⟨.hbm, 188, rfl⟩
abbrev main_call5_call0_v0 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_c_21 : Ref sig .tc := ⟨.hbm, 195, rfl⟩
abbrev main_v136 : Ref sig .tc := ⟨.hbm, 196, rfl⟩
abbrev main_v137 : Ref sig .tc := ⟨.hbm, 197, rfl⟩
abbrev main_c_22 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_c_23 : Ref sig .tc := ⟨.hbm, 210, rfl⟩
abbrev main_call6_v0 : Ref sig .tc := ⟨.hbm, 211, rfl⟩
abbrev main_v149 : Ref sig .tc := ⟨.hbm, 212, rfl⟩
abbrev main_call7_call0_cst : Ref sig .tc := ⟨.hbm, 213, rfl⟩
abbrev main_call7_call0_v0 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_c_24 : Ref sig .tc := ⟨.hbm, 220, rfl⟩
abbrev main_v155 : Ref sig .tc := ⟨.hbm, 221, rfl⟩
abbrev main_v156 : Ref sig .tc := ⟨.hbm, 222, rfl⟩
abbrev main_c_25 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_c_26 : Ref sig .tc := ⟨.hbm, 235, rfl⟩
abbrev main_call8_v0 : Ref sig .tc := ⟨.hbm, 236, rfl⟩
abbrev main_v168 : Ref sig .tc := ⟨.hbm, 237, rfl⟩
abbrev main_call9_call0_cst : Ref sig .tc := ⟨.hbm, 238, rfl⟩
abbrev main_call9_call0_v0 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_c_27 : Ref sig .tc := ⟨.hbm, 245, rfl⟩
abbrev main_v174 : Ref sig .tc := ⟨.hbm, 246, rfl⟩
abbrev main_v175 : Ref sig .tc := ⟨.hbm, 247, rfl⟩
abbrev main_c_28 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211_0 : Ref sig .tc := ⟨.hbm, 284, rfl⟩
abbrev main_v211_1 : Ref sig .tc := ⟨.hbm, 285, rfl⟩
abbrev main_v211_2 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg21_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_scratch10 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem21_0 : DmaSem sig := 28

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_182 : BitVec 32 := 0#32
  let c64_i32 : BitVec 32 := 64#32
  let v368 : BitVec 32 := Scalar.addi c0_i32_182 c64_i32
  let c1_i32_183 : BitVec 32 := 1#32
  ⟨c0_i32_182, v368, c1_i32_183⟩
def k0_mult1 (k0_t1 : Fin k0_t1_loop.trips) : BitVec 32 :=
  let c63_i32 : BitVec 32 := 63#32
  let c0_i32_182 : BitVec 32 := 0#32
  let c1_i32_183 : BitVec 32 := 1#32
  let arg34 : BitVec 32 := Scf.iv c0_i32_182 c1_i32_183 k0_t1
  let v588 : BitVec 32 := Scalar.subi c63_i32 arg34
  let c8_i32_312 : BitVec 32 := 8#32
  let v589 : BitVec 32 := Scalar.muli v588 c8_i32_312
  v589
def k0_off1 (k0_t1 : Fin k0_t1_loop.trips) : Fin 2 → Nat :=
  let c63_i32 : BitVec 32 := 63#32
  let c0_i32_182 : BitVec 32 := 0#32
  let c1_i32_183 : BitVec 32 := 1#32
  let arg34 : BitVec 32 := Scf.iv c0_i32_182 c1_i32_183 k0_t1
  let v588 : BitVec 32 := Scalar.subi c63_i32 arg34
  let c8_i32_312 : BitVec 32 := 8#32
  let v589 : BitVec 32 := Scalar.muli v588 c8_i32_312
  let v590 : BitVec 32 := v589
  let v591 : Index := Scalar.indexCast v590
  let c0_313 : Index := 0#32
  ![v591.toNat, 0]
def k0_cond2 (i : grid0.Coords) : BitVec 1 :=
  let arg0 : BitVec 32 := BitVec.ofNat 32 (i 0).val
  let c15_i32_310 : BitVec 32 := 15#32
  let v585 : BitVec 1 := Scalar.cmpi .eq arg0 c15_i32_310
  let v586 : BitVec 32 := Scalar.extui v585
  let c0_i32_311 : BitVec 32 := 0#32
  let v587 : BitVec 1 := Scalar.cmpi .ne v586 c0_i32_311
  v587

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S272x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x1536 : Shape := ⟨2, ![8192, 1536]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S4x128x128 : Shape := ⟨3, ![4, 128, 128]⟩
abbrev S1024x1024 : Shape := ⟨2, ![1024, 1024]⟩
abbrev S8192x1024 : Shape := ⟨2, ![8192, 1024]⟩
abbrev S_ : Shape := ⟨0, ![]⟩
abbrev S8192x4x128 : Shape := ⟨3, ![8192, 4, 128]⟩
abbrev S8192x1x128 : Shape := ⟨3, ![8192, 1, 128]⟩
abbrev S8192x128 : Shape := ⟨2, ![8192, 128]⟩
abbrev S8194x128 : Shape := ⟨2, ![8194, 128]⟩
abbrev S8192 : Shape := ⟨1, ![8192]⟩
abbrev S8192x1 : Shape := ⟨2, ![8192, 1]⟩
abbrev S8196x128 : Shape := ⟨2, ![8196, 128]⟩
abbrev S8200x128 : Shape := ⟨2, ![8200, 128]⟩
abbrev S8208x128 : Shape := ⟨2, ![8208, 128]⟩
abbrev S4x128x8192 : Shape := ⟨3, ![4, 128, 8192]⟩
abbrev S1x512 : Shape := ⟨2, ![1, 512]⟩

abbrev nBuf : Space → Nat
  | .hbm => 187
  | .vmem => 0
  | .smem => 0
  | _ => 0

abbrev hbmTy0_0 (i : Nat) : BufTy := match i % 128 with
  | 0 => ⟨S8192x1536, .f32⟩
  | 1 => ⟨S8192x512, .f32⟩
  | 2 => ⟨S4x512, .f32⟩
  | 3 => ⟨S512, .f32⟩
  | 4 => ⟨S8x64x64, .f32⟩
  | 5 => ⟨S8x64x64, .f32⟩
  | 6 => ⟨S512, .f32⟩
  | 7 => ⟨S512, .f32⟩
  | 8 => ⟨S512, .f32⟩
  | 9 => ⟨S4x128x128, .f32⟩
  | 10 => ⟨S512, .f32⟩
  | 11 => ⟨S512, .f32⟩
  | 12 => ⟨S512, .f32⟩
  | 13 => ⟨S512, .f32⟩
  | 14 => ⟨S1024x1024, .f32⟩
  | 15 => ⟨S8192x1024, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S8192x4x128, .f32⟩
  | 37 => ⟨S8192x1x128, .f32⟩
  | 38 => ⟨S8192x128, .f32⟩
  | 39 => ⟨S_, .i32⟩
  | 40 => ⟨S_, .f32⟩
  | 41 => ⟨S8194x128, .f32⟩
  | 42 => ⟨S_, .f32⟩
  | 43 => ⟨S_, .f32⟩
  | 44 => ⟨S8194x128, .f32⟩
  | 45 => ⟨S8192x128, .f32⟩
  | 46 => ⟨S8192x128, .f32⟩
  | 47 => ⟨S8192x128, .f32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S8192x1, .f32⟩
  | 57 => ⟨S8192x128, .f32⟩
  | 58 => ⟨S8192x128, .f32⟩
  | 59 => ⟨S8192x1x128, .f32⟩
  | 60 => ⟨S8192x128, .f32⟩
  | 61 => ⟨S8192x128, .f32⟩
  | 62 => ⟨S8192x1x128, .f32⟩
  | 63 => ⟨S8192x128, .f32⟩
  | 64 => ⟨S_, .i32⟩
  | 65 => ⟨S_, .f32⟩
  | 66 => ⟨S8196x128, .f32⟩
  | 67 => ⟨S_, .f32⟩
  | 68 => ⟨S_, .f32⟩
  | 69 => ⟨S8196x128, .f32⟩
  | 70 => ⟨S8192x128, .f32⟩
  | 71 => ⟨S8192x128, .f32⟩
  | 72 => ⟨S8192x128, .f32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192, .f32⟩
  | 81 => ⟨S8192x1, .f32⟩
  | 82 => ⟨S8192x128, .f32⟩
  | 83 => ⟨S8192x128, .f32⟩
  | 84 => ⟨S8192x1x128, .f32⟩
  | 85 => ⟨S8192x128, .f32⟩
  | 86 => ⟨S8192x128, .f32⟩
  | 87 => ⟨S8192x1x128, .f32⟩
  | 88 => ⟨S8192x128, .f32⟩
  | 89 => ⟨S_, .i32⟩
  | 90 => ⟨S_, .f32⟩
  | 91 => ⟨S8200x128, .f32⟩
  | 92 => ⟨S_, .f32⟩
  | 93 => ⟨S_, .f32⟩
  | 94 => ⟨S8200x128, .f32⟩
  | 95 => ⟨S8192x128, .f32⟩
  | 96 => ⟨S8192x128, .f32⟩
  | 97 => ⟨S8192x128, .f32⟩
  | 98 => ⟨S8192, .i32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x128, .f32⟩
  | 108 => ⟨S8192x128, .f32⟩
  | 109 => ⟨S8192x1x128, .f32⟩
  | 110 => ⟨S8192x128, .f32⟩
  | 111 => ⟨S8192x128, .f32⟩
  | 112 => ⟨S8192x1x128, .f32⟩
  | 113 => ⟨S8192x128, .f32⟩
  | 114 => ⟨S_, .i32⟩
  | 115 => ⟨S_, .f32⟩
  | 116 => ⟨S8208x128, .f32⟩
  | 117 => ⟨S_, .f32⟩
  | 118 => ⟨S_, .f32⟩
  | 119 => ⟨S8208x128, .f32⟩
  | 120 => ⟨S8192x128, .f32⟩
  | 121 => ⟨S8192x128, .f32⟩
  | 122 => ⟨S8192x128, .f32⟩
  | 123 => ⟨S8192, .i32⟩
  | 124 => ⟨S_, .i32⟩
  | 125 => ⟨S8192, .i32⟩
  | 126 => ⟨S8192, .i32⟩
  | 127 => ⟨S_, .i32⟩
  | _ => ⟨S8192x1536, .f32⟩

abbrev hbmTy0_1 (i : Nat) : BufTy := match i % 128 with
  | 0 => ⟨S8192, .i32⟩
  | 1 => ⟨S8192, .i32⟩
  | 2 => ⟨S8192, .f32⟩
  | 3 => ⟨S8192x1, .f32⟩
  | 4 => ⟨S8192x128, .f32⟩
  | 5 => ⟨S8192x128, .f32⟩
  | 6 => ⟨S8192x1x128, .f32⟩
  | 7 => ⟨S8192x128, .f32⟩
  | 8 => ⟨S8192x128, .f32⟩
  | 9 => ⟨S8192x1x128, .f32⟩
  | 10 => ⟨S8192x1x128, .f32⟩
  | 11 => ⟨S8192x1x128, .f32⟩
  | 12 => ⟨S8192x1x128, .f32⟩
  | 13 => ⟨S8192x4x128, .f32⟩
  | 14 => ⟨S4x128x8192, .f32⟩
  | 15 => ⟨S8192x4x128, .f32⟩
  | 16 => ⟨S8192x512, .f32⟩
  | 17 => ⟨S1x512, .f32⟩
  | 18 => ⟨S8192x512, .f32⟩
  | 19 => ⟨S8192x512, .f32⟩
  | 20 => ⟨S1x512, .f32⟩
  | 21 => ⟨S8192x512, .f32⟩
  | 22 => ⟨S8192x512, .f32⟩
  | 23 => ⟨S8192x512, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x512, .f32⟩
  | 51 => ⟨S8192x512, .f32⟩
  | 52 => ⟨S1x512, .f32⟩
  | 53 => ⟨S8192x512, .f32⟩
  | 54 => ⟨S8192x512, .f32⟩
  | 55 => ⟨S8192x1024, .f32⟩
  | 56 => ⟨S8192x1024, .f32⟩
  | 57 => ⟨S1024x1024, .f32⟩
  | 58 => ⟨S1024x1024, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_call0_v0 : Ref sig .tc := ⟨.hbm, 40, rfl⟩
abbrev main_v19 : Ref sig .tc := ⟨.hbm, 41, rfl⟩
abbrev main_call1_call0_cst : Ref sig .tc := ⟨.hbm, 42, rfl⟩
abbrev main_call1_call0_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_call2_v0 : Ref sig .tc := ⟨.hbm, 65, rfl⟩
abbrev main_v38 : Ref sig .tc := ⟨.hbm, 66, rfl⟩
abbrev main_call3_call0_cst : Ref sig .tc := ⟨.hbm, 67, rfl⟩
abbrev main_call3_call0_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_6 : Ref sig .tc := ⟨.hbm, 74, rfl⟩
abbrev main_v44 : Ref sig .tc := ⟨.hbm, 75, rfl⟩
abbrev main_v45 : Ref sig .tc := ⟨.hbm, 76, rfl⟩
abbrev main_c_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_8 : Ref sig .tc := ⟨.hbm, 89, rfl⟩
abbrev main_call4_v0 : Ref sig .tc := ⟨.hbm, 90, rfl⟩
abbrev main_v57 : Ref sig .tc := ⟨.hbm, 91, rfl⟩
abbrev main_call5_call0_cst : Ref sig .tc := ⟨.hbm, 92, rfl⟩
abbrev main_call5_call0_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_9 : Ref sig .tc := ⟨.hbm, 99, rfl⟩
abbrev main_v63 : Ref sig .tc := ⟨.hbm, 100, rfl⟩
abbrev main_v64 : Ref sig .tc := ⟨.hbm, 101, rfl⟩
abbrev main_c_10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_11 : Ref sig .tc := ⟨.hbm, 114, rfl⟩
abbrev main_call6_v0 : Ref sig .tc := ⟨.hbm, 115, rfl⟩
abbrev main_v76 : Ref sig .tc := ⟨.hbm, 116, rfl⟩
abbrev main_call7_call0_cst : Ref sig .tc := ⟨.hbm, 117, rfl⟩
abbrev main_call7_call0_v0 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_12 : Ref sig .tc := ⟨.hbm, 124, rfl⟩
abbrev main_v82 : Ref sig .tc := ⟨.hbm, 125, rfl⟩
abbrev main_v83 : Ref sig .tc := ⟨.hbm, 126, rfl⟩
abbrev main_c_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_14 : Ref sig .tc := ⟨.hbm, 152, rfl⟩
abbrev main_v108 : Ref sig .tc := ⟨.hbm, 153, rfl⟩
abbrev main_v109 : Ref sig .tc := ⟨.hbm, 154, rfl⟩
abbrev main_cst_15 : Ref sig .tc := ⟨.hbm, 155, rfl⟩
abbrev main_v110 : Ref sig .tc := ⟨.hbm, 156, rfl⟩
abbrev main_v111 : Ref sig .tc := ⟨.hbm, 157, rfl⟩
abbrev main_cst_16 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_17 : Ref sig .tc := ⟨.hbm, 168, rfl⟩
abbrev main_v121 : Ref sig .tc := ⟨.hbm, 169, rfl⟩
abbrev main_v122 : Ref sig .tc := ⟨.hbm, 170, rfl⟩
abbrev main_cst_18 : Ref sig .tc := ⟨.hbm, 171, rfl⟩
abbrev main_v123 : Ref sig .tc := ⟨.hbm, 172, rfl⟩
abbrev main_v124 : Ref sig .tc := ⟨.hbm, 173, rfl⟩
abbrev main_cst_19 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x1024, .bf16⟩
  | .hbm, ⟨5, _⟩ => ⟨S8192x4x704, .bf16⟩
  | .hbm, ⟨6, _⟩ => ⟨S4x8192x704, .bf16⟩
  | .hbm, ⟨7, _⟩ => ⟨S8192x4x704, .bf16⟩
  | .hbm, ⟨8, _⟩ => ⟨S4x8192x704, .bf16⟩
  | .hbm, ⟨9, _⟩ => ⟨S8192x4x704, .bf16⟩
  | .hbm, ⟨10, _⟩ => ⟨S4x8192x704, .bf16⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x1024, .bf16⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816x1024, .f32⟩
  | .hbm, ⟨9, _⟩ => ⟨S8192x1024, .f32⟩
  | .hbm, ⟨10, _⟩ => ⟨S8192x2816, .f32⟩
  | .hbm, ⟨11, _⟩ => ⟨S8192x1024, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S1024x2816, .f32⟩
  | .hbm, ⟨19, _⟩ => ⟨S2816x1024, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S4x704x1024, .f32⟩
  | .hbm, ⟨26, _⟩ => ⟨S2816x1024, .f32⟩
  | .hbm, ⟨27, _⟩ => ⟨S4x704x1024, .f32⟩
  | .hbm, ⟨28, _⟩ => ⟨S4x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S512x1024 : Shape := ⟨2, ![512, 1024]⟩
abbrev S4x512x704 : Shape := ⟨3, ![4, 512, 704]⟩
abbrev S256x1024 : Shape := ⟨2, ![256, 1024]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 13
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S8192x4x704, .bf16⟩
  | .hbm, ⟨6, _⟩ => ⟨S4x8192x704, .bf16⟩
  | .hbm, ⟨7, _⟩ => ⟨S8192x4x704, .bf16⟩
  | .hbm, ⟨8, _⟩ => ⟨S4x8192x704, .bf16⟩
  | .hbm, ⟨9, _⟩ => ⟨S4x704x1024, .f32⟩
  | .hbm, ⟨10, _⟩ => ⟨S4x704x1024, .bf16⟩
  | .hbm, ⟨11, _⟩ => ⟨S4x8192x704, .bf16⟩
  | .hbm, ⟨12, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 34
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S8192x4x704, .f32⟩
  | .hbm, ⟨32, _⟩ => ⟨S4x8192x704, .f32⟩
  | .hbm, ⟨33, _⟩ => ⟨S4x8192x704, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S1x1024 : Shape := ⟨2, ![1, 1024]⟩
abbrev S2816x1024 : Shape := ⟨2, ![2816, 1024]⟩
abbrev S4x704x1024 : Shape := ⟨3, ![4, 704, 1024]⟩
abbrev S8x1024 : Shape := ⟨2, ![8, 1024]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 20
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S8192x4x704, .bf16⟩
  | .hbm, ⟨8, _⟩ => ⟨S4x8192x704, .bf16⟩
  | .hbm, ⟨9, _⟩ => ⟨S8192x4x704, .bf16⟩
  | .hbm, ⟨10, _⟩ => ⟨S4x8192x704, .bf16⟩
  | .hbm, ⟨11, _⟩ => ⟨S1x1024, .f32⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S2816x1024, .f32⟩
  | .hbm, ⟨16, _⟩ => ⟨S4x704x1024, .f32⟩
  | .hbm, ⟨17, _⟩ => ⟨S4x704x1024, .bf16⟩
  | .hbm, ⟨18, _⟩ => ⟨S8192x1024, .f32⟩
  | .hbm, ⟨19, _⟩ => ⟨S8x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S1024x8x1024 : Shape := ⟨3, ![1024, 8, 1024]⟩
abbrev S1x8x1024 : Shape := ⟨3, ![1, 8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S1024x8x1024, .f32⟩
  | .hbm, ⟨72, _⟩ => ⟨S1x8x1024, .f32⟩
  | .hbm, ⟨73, _⟩ => ⟨S1024x8x1024, .f32⟩
  | .hbm, ⟨74, _⟩ => ⟨S1024x8x1024, .f32⟩
  | .hbm, ⟨75, _⟩ => ⟨S8192x1024, .f32⟩
  | .hbm, ⟨76, _⟩ => ⟨S8192x2816, .f32⟩
  | .hbm, ⟨77, _⟩ => ⟨S8192x2816, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1024x8x1024, .f32⟩
  | .hbm, ⟨82, _⟩ => ⟨S1024x8x1024, .f32⟩
  | .hbm, ⟨83, _⟩ => ⟨S_, .f32⟩
  | .hbm, ⟨84, _⟩ => ⟨S8x1024, .f32⟩
  | .hbm, ⟨85, _⟩ => ⟨S1x8x1024, .f32⟩
  | .hbm, ⟨86, _⟩ => ⟨S_, .f32⟩
  | .hbm, ⟨87, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S8192x1024, .bf16⟩
  | .hbm, ⟨12, _⟩ => ⟨S4x8192x704, .bf16⟩
  | .hbm, ⟨13, _⟩ => ⟨S4x8192x704, .bf16⟩
  | .hbm, ⟨14, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S512x1024, .bf16⟩
  | .local _ .vmem, ⟨6, _⟩ => ⟨S512x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .bf16⟩
  | .hbm, ⟨33, _⟩ => ⟨S8192x4x704, .f32⟩
  | .hbm, ⟨34, _⟩ => ⟨S4x8192x704, .f32⟩
  | .hbm, ⟨35, _⟩ => ⟨S4x8192x704, .bf16⟩
  | .hbm, ⟨36, _⟩ => ⟨S8192x4x704, .f32⟩
  | .hbm, ⟨37, _⟩ => ⟨S4x8192x704, .f32⟩
  | .hbm, ⟨38, _⟩ => ⟨S4x8192x704, .bf16⟩
  | .hbm, ⟨39, _⟩ => ⟨S8192x4x704, .f32⟩
  | .hbm, ⟨40, _⟩ => ⟨S4x8192x704, .f32⟩
  | .hbm, ⟨41, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S1024 : Shape := ⟨1, ![1024]⟩
abbrev S2816x1024 : Shape := ⟨2, ![2816, 1024]⟩
abbrev S8192x4x704 : Shape := ⟨3, ![8192, 4, 704]⟩
abbrev S4x8192x704 : Shape := ⟨3, ![4, 8192, 704]⟩
abbrev S1x1024 : Shape := ⟨2, ![1, 1024]⟩
abbrev S4x704x1024 : Shape := ⟨3, ![4, 704, 1024]⟩
abbrev S8x128 : Shape := ⟨2, ![8, 128]⟩
abbrev S8x1024 : Shape := ⟨2, ![8, 1024]⟩
abbrev S4x512x704 : Shape := ⟨3, ![4, 512, 704]⟩
abbrev S512x1024 : Shape := ⟨2, ![512, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S32x8x1024 : Shape := ⟨3, ![32, 8, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S2816x1024, .f32⟩
  | .hbm, ⟨5, _⟩ => ⟨S8192x4x704, .bf16⟩
  | .hbm, ⟨6, _⟩ => ⟨S4x8192x704, .bf16⟩
  | .hbm, ⟨7, _⟩ => ⟨S1x1024, .f32⟩
  | .hbm, ⟨8, _⟩ => ⟨S4x704x1024, .f32⟩
  | .hbm, ⟨9, _⟩ => ⟨S4x704x1024, .bf16⟩
  | .hbm, ⟨10, _⟩ => ⟨S8192x1024, .f32⟩
  | .hbm, ⟨11, _⟩ => ⟨S8192x1024, .bf16⟩
  | .hbm, ⟨12, _⟩ => ⟨S8x128, .f32⟩
  | .hbm, ⟨13, _⟩ => ⟨S8x1024, .f32⟩
  | .local _ .vmem, ⟨0, _⟩ => ⟨S4x512x704, .bf16⟩
  | .local _ .vmem, ⟨1, _⟩ => ⟨S4x512x704, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x704x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x2816 : Shape := ⟨2, ![8192, 2816]⟩
abbrev S8192x1024 : Shape := ⟨2, ![8192, 1024]⟩
abbrev S1024 : Shape := ⟨1, ![1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S1024x8x1024 : Shape := ⟨3, ![1024, 8, 1024]⟩
abbrev S1x8x1024 : Shape := ⟨3, ![1, 8, 1024]⟩
abbrev S8x128 : Shape := ⟨2, ![8, 128]⟩

abbrev nBuf : Space → Nat
  | .hbm => 151
  | .vmem => 0
  | .smem => 0
  | _ => 0

abbrev hbmTy0_0 (i : Nat) : BufTy := match i % 128 with
  | 0 => ⟨S8192x2816, .bf16⟩
  | 1 => ⟨S8192x1024, .f32⟩
  | 2 => ⟨S8192x1024, .f32⟩
  | 3 => ⟨S1024, .f32⟩
  | 4 => ⟨S2816x1024, .f32⟩
  | 5 => ⟨S8192x2816, .f32⟩
  | 6 => ⟨S8192x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192, .f32⟩
  | 35 => ⟨S_, .f32⟩
  | 36 => ⟨S8192, .f32⟩
  | 37 => ⟨S8192, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S8192, .f32⟩
  | 46 => ⟨S_, .f32⟩
  | 47 => ⟨S8192, .f32⟩
  | 48 => ⟨S8192, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S8192x1024, .f32⟩
  | 58 => ⟨S8192x1024, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8x1024, .f32⟩
  | 71 => ⟨S8192x1024, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S1024x8x1024, .f32⟩
  | 88 => ⟨S1x8x1024, .f32⟩
  | 89 => ⟨S1024x8x1024, .f32⟩
  | 90 => ⟨S1024x8x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192, .f32⟩
  | 99 => ⟨S_, .f32⟩
  | 100 => ⟨S8192, .f32⟩
  | 101 => ⟨S8192, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S8192, .f32⟩
  | 110 => ⟨S_, .f32⟩
  | 111 => ⟨S8192, .f32⟩
  | 112 => ⟨S8192, .f32⟩
  | 113 => ⟨S8192x1024, .f32⟩
  | 114 => ⟨S8192x1024, .f32⟩
  | 115 => ⟨S1024x8x1024, .f32⟩
  | 116 => ⟨S1024x8x1024, .f32⟩
  | 117 => ⟨S_, .f32⟩
  | 118 => ⟨S8x1024, .f32⟩
  | 119 => ⟨S1x8x1024, .f32⟩
  | 120 => ⟨S_, .f32⟩
  | 121 => ⟨S8x1024, .f32⟩
  | 122 => ⟨S8192x1024, .bf16⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x2816, .bf16⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x1024, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S_, .f32⟩
  | 16 => ⟨S8192, .f32⟩
  | 17 => ⟨S8192, .f32⟩
  | 18 => ⟨S_, .f32⟩
  | 19 => ⟨S_, .f32⟩
  | 20 => ⟨S_, .f32⟩
  | 21 => ⟨S_, .f32⟩
  | 22 => ⟨S8x128, .f32⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_cst_20 : Ref sig .tc := ⟨.hbm, 99, rfl⟩
abbrev main_v73 : Ref sig .tc := ⟨.hbm, 100, rfl⟩
abbrev main_v74 : Ref sig .tc := ⟨.hbm, 101, rfl⟩
abbrev main_cst_21 : Ref sig .tc := ⟨.hbm, 102, rfl⟩
abbrev main_v75 : Ref sig .tc := ⟨.hbm, 103, rfl⟩
abbrev main_cst_22 : Ref sig .tc := ⟨.hbm, 104, rfl⟩
abbrev main_v76 : Ref sig .tc := ⟨.hbm, 105, rfl⟩
abbrev main_cst_23 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_cst_25 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_26 : Ref sig .tc := ⟨.hbm, 117, rfl⟩
abbrev main_v85 : Ref sig .tc := ⟨.hbm, 118, rfl⟩
abbrev main_v86 : Ref sig .tc := ⟨.hbm, 119, rfl⟩
abbrev main_cst_27 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_28 : Ref sig .tc := ⟨.hbm, 124, rfl⟩
abbrev main_v90 : Ref sig .tc := ⟨.hbm, 125, rfl⟩
abbrev main_v91 : Ref sig .tc := ⟨.hbm, 126, rfl⟩
abbrev main_cst_29 : Ref sig .tc := ⟨.hbm, 127, rfl⟩
abbrev main_v92 : Ref sig .tc := ⟨.hbm, 128, rfl⟩
abbrev main_v93 : Ref sig .tc := ⟨.hbm, 129, rfl⟩
abbrev main_cst_30 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_31 : Ref sig .tc := ⟨.hbm, 141, rfl⟩
abbrev main_v104 : Ref sig .tc := ⟨.hbm, 142, rfl⟩
abbrev main_cst_32 : Ref sig .tc := ⟨.hbm, 143, rfl⟩
abbrev main_v105 : Ref sig .tc := ⟨.hbm, 144, rfl⟩
abbrev main_v106 : Ref sig .tc := ⟨.hbm, 145, rfl⟩
abbrev main_cst_33 : Ref sig .tc := ⟨.hbm, 146, rfl⟩
abbrev main_v107 : Ref sig .tc := ⟨.hbm, 147, rfl⟩
abbrev main_cst_34 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x1536 : Shape := ⟨2, ![1024, 1536]⟩
abbrev S8192x1536 : Shape := ⟨2, ![8192, 1536]⟩
abbrev S1x1024 : Shape := ⟨2, ![1, 1024]⟩
abbrev S4x1024x384 : Shape := ⟨3, ![4, 1024, 384]⟩
abbrev S8x1024 : Shape := ⟨2, ![8, 1024]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S64x8x1024 : Shape := ⟨3, ![64, 8, 1024]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1536, .bf16⟩
  | .hbm, ⟨4, _⟩ => ⟨S8192x1024, .f32⟩
  | .hbm, ⟨5, _⟩ => ⟨S1x1024, .f32⟩
  | .hbm, ⟨6, _⟩ => ⟨S1024x1536, .bf16⟩
  | .hbm, ⟨7, _⟩ => ⟨S8192x1024, .f32⟩
  | .hbm, ⟨8, _⟩ => ⟨S4x1024x384, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .bf16⟩
  | .local _ .vmem, ⟨3, _⟩ => ⟨S512x1536, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1536, .bf16⟩
  | .local _ .vmem, ⟨8, _⟩ => ⟨S512x1024, .f32⟩
  | .local _ .vmem, ⟨9, _⟩ => ⟨S512x1024, .f32⟩
  | .local _ .vmem, ⟨10, _⟩ => ⟨S4x1024x384, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x1024 : Shape := ⟨2, ![8192, 1024]⟩
abbrev S1024 : Shape := ⟨1, ![1024]⟩
abbrev S1024x1536 : Shape := ⟨2, ![1024, 1536]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩
abbrev S8x1024 : Shape := ⟨2, ![8, 1024]⟩
abbrev S1024x8x1024 : Shape := ⟨3, ![1024, 8, 1024]⟩
abbrev S1x8x1024 : Shape := ⟨3, ![1, 8, 1024]⟩
abbrev S1024x4x384 : Shape := ⟨3, ![1024, 4, 384]⟩
abbrev S4x1024x384 : Shape := ⟨3, ![4, 1024, 384]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1536, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S8192x1536, .f32⟩
  | .hbm, ⟨27, _⟩ => ⟨S1536x1024, .f32⟩
  | .hbm, ⟨28, _⟩ => ⟨S1024x1536, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S1024x8x1024, .f32⟩
  | .hbm, ⟨68, _⟩ => ⟨S1x8x1024, .f32⟩
  | .hbm, ⟨69, _⟩ => ⟨S1024x8x1024, .f32⟩
  | .hbm, ⟨70, _⟩ => ⟨S1024x8x1024, .f32⟩
  | .hbm, ⟨71, _⟩ => ⟨S8192x1024, .f32⟩
  | .hbm, ⟨72, _⟩ => ⟨S8192x1536, .f32⟩
  | .hbm, ⟨73, _⟩ => ⟨S8192x1536, .f32⟩
  | .hbm, ⟨74, _⟩ => ⟨S8192x1024, .f32⟩
  | .hbm, ⟨75, _⟩ => ⟨S1024x8x1024, .f32⟩
  | .hbm, ⟨76, _⟩ => ⟨S1024x8x1024, .f32⟩
  | .hbm, ⟨77, _⟩ => ⟨S_, .f32⟩
  | .hbm, ⟨78, _⟩ => ⟨S8x1024, .f32⟩
  | .hbm, ⟨79, _⟩ => ⟨S1x8x1024, .f32⟩
  | .hbm, ⟨80, _⟩ => ⟨S_, .f32⟩
  | .hbm, ⟨81, _⟩ => ⟨S8x1024, .f32⟩
  | .hbm, ⟨82, _⟩ => ⟨S1024x4x384, .f32⟩
  | .hbm, ⟨83, _⟩ => ⟨S4x1024x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S1x1024x384 : Shape := ⟨3, ![1, 1024, 384]⟩
abbrev S512x384 : Shape := ⟨2, ![512, 384]⟩
abbrev S_ : Shape := ⟨0, ![]⟩
abbrev S8x128 : Shape := ⟨2, ![8, 128]⟩
abbrev S1 : Shape := ⟨1, ![1]⟩
abbrev S1x512x384 : Shape := ⟨3, ![1, 512, 384]⟩
abbrev S1x1 : Shape := ⟨2, ![1, 1]⟩

abbrev nBuf : Space → Nat
  | .hbm => 13
  | .vmem => 17
  | .smem => 1
  | _ => 0

abbrev bufTy : (tb : Table) → Fin (tcTables nBuf tb) → BufTy
  | .hbm, ⟨0, _⟩ => ⟨S1x1024x384, .f32⟩
  | .hbm, ⟨1, _⟩ => ⟨S512x384, .f32⟩
  | .hbm, ⟨2, _⟩ => ⟨S512x384, .f32⟩
  | .hbm, ⟨3, _⟩ => ⟨S1x1024x384, .f32⟩
  | .hbm, ⟨4, _⟩ => ⟨S1x1024x384, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S1x1024x384, .f32⟩
  | .hbm, ⟨10, _⟩ => ⟨S1x1024x384, .f32⟩
  | .hbm, ⟨11, _⟩ => ⟨S1x1024x384, .f32⟩
  | .hbm, ⟨12, _⟩ => ⟨S1x1024x384, .f32⟩
  | .local _ .vmem, ⟨0, _⟩ => ⟨S1x512x384, .f32⟩
  | .local _ .vmem, ⟨1, _⟩ => ⟨S1x512x384, .f32⟩
  | .local _ .vmem, ⟨2, _⟩ => ⟨S512x384, .f32⟩
  | .local _ .vmem, ⟨3, _⟩ => ⟨S512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S8x128, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | .local _ .vmem, ⟨16, _⟩ => ⟨S1x512x384, .f32⟩
  | .local _ .smem, ⟨0, _⟩ => ⟨S1, .i32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S1x1024x384 : Shape := ⟨3, ![1, 1024, 384]⟩
abbrev S512x384 : Shape := ⟨2, ![512, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S512x384, .f32⟩
  | .hbm, ⟨2, _⟩ => ⟨S512x384, .f32⟩
  | .hbm, ⟨3, _⟩ => ⟨S1x1024x384, .f32⟩
  | .hbm, ⟨4, _⟩ => ⟨S1x1024x384, .f32⟩
  | .hbm, ⟨5, _⟩ => ⟨S1024x384, .f32⟩
  | .hbm, ⟨6, _⟩ => ⟨S1x1024x384, .f32⟩
  | .hbm, ⟨7, _⟩ => ⟨S_, .f32⟩
  | .hbm, ⟨8, _⟩ => ⟨S1x1024x384, .f32⟩
  | .hbm, ⟨9, _⟩ => ⟨S1x1024x384, .f32⟩
  | .hbm, ⟨10, _⟩ => ⟨S_, .f32⟩
  | .hbm, ⟨11, _⟩ => ⟨S1x1024x384, .f32⟩
  | .hbm, ⟨12, _⟩ => ⟨S1x1024x384, .f32⟩
  | .hbm, ⟨13, _⟩ => ⟨S1x1024x384, .f32⟩
  | .hbm, ⟨14, _⟩ => ⟨S_, .f32⟩
  | .hbm, ⟨15, _⟩ => ⟨S1x1024x384, .f32⟩
  | .hbm, ⟨16, _⟩ => ⟨S1x1024x384, .f32⟩
  | .hbm, ⟨17, _⟩ => ⟨S1x1024x384, .f32⟩
  | .hbm, ⟨18, _⟩ => ⟨S_, .f32⟩
  | .hbm, ⟨19, _⟩ => ⟨S1x1024x384, .f32⟩
  | .hbm, ⟨20, _⟩ => ⟨S1x1024x384, .f32⟩
  | .hbm, ⟨21, _⟩ => ⟨S1x1024x384, .f32⟩
  | .hbm, ⟨22, _⟩ => ⟨S_, .f32⟩
  | .hbm, ⟨23, _⟩ => ⟨S1x1024x384, .f32⟩
  | .hbm, ⟨24, _⟩ => ⟨S1x1024x384, .f32⟩
  | .hbm, ⟨25, _⟩ => ⟨S_, .f32⟩
  | .hbm, ⟨26, _⟩ => ⟨S1x1024x384, .f32⟩
  | .hbm, ⟨27, _⟩ => ⟨S1x1024x384, .f32⟩
  | .hbm, ⟨28, _⟩ => ⟨S1x1024x384, .f32⟩
  | .hbm, ⟨29, _⟩ => ⟨S_, .f32⟩
  | .hbm, ⟨30, _⟩ => ⟨S1x1024x384, .f32⟩
  | .hbm, ⟨31, _⟩ => ⟨S1x1024x384, .f32⟩
  | .hbm, ⟨32, _⟩ => ⟨S1x1024x384, .f32⟩
  | .hbm, ⟨33, _⟩ => ⟨S_, .f32⟩
  | .hbm, ⟨34, _⟩ => ⟨S1x1024x384, .f32⟩
  | .hbm, ⟨35, _⟩ => ⟨S1x1024x384, .f32⟩
  | .hbm, ⟨36, _⟩ => ⟨S1x1024x384, .f32⟩
  | .hbm, ⟨37, _⟩ => ⟨S_, .f32⟩
  | .hbm, ⟨38, _⟩ => ⟨S1x1024x384, .f32⟩
  | .hbm, ⟨39, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S1x256x1024 : Shape := ⟨3, ![1, 256, 1024]⟩
abbrev S128x1024 : Shape := ⟨2, ![128, 1024]⟩
abbrev S_ : Shape := ⟨0, ![]⟩
abbrev S8x128 : Shape := ⟨2, ![8, 128]⟩
abbrev S1 : Shape := ⟨1, ![1]⟩
abbrev S1x128x1024 : Shape := ⟨3, ![1, 128, 1024]⟩
abbrev S1x1 : Shape := ⟨2, ![1, 1]⟩

abbrev nBuf : Space → Nat
  | .hbm => 13
  | .vmem => 17
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S1x256x1024 : Shape := ⟨3, ![1, 256, 1024]⟩
abbrev S128x1024 : Shape := ⟨2, ![128, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S1x704x1024 : Shape := ⟨3, ![1, 704, 1024]⟩
abbrev S352x1024 : Shape := ⟨2, ![352, 1024]⟩
abbrev S_ : Shape := ⟨0, ![]⟩
abbrev S8x128 : Shape := ⟨2, ![8, 128]⟩
abbrev S1 : Shape := ⟨1, ![1]⟩
abbrev S1x176x1024 : Shape := ⟨3, ![1, 176, 1024]⟩
abbrev S176x1024 : Shape := ⟨2, ![176, 1024]⟩
abbrev S1x1 : Shape := ⟨2, ![1, 1]⟩

abbrev nBuf : Space → Nat
  | .hbm => 13
  | .vmem => 19
  | .smem => 1
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .smem, ⟨0, _⟩ => ⟨S1, .i32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S1x704x1024 : Shape := ⟨3, ![1, 704, 1024]⟩
abbrev S352x1024 : Shape := ⟨2, ![352, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S352x1024, .f32⟩
  | .hbm, ⟨2, _⟩ => ⟨S352x1024, .f32⟩
  | .hbm, ⟨3, _⟩ => ⟨S1x704x1024, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S_, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Mixer.Points.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame

@[expose] public section

noncomputable section

namespace Cert.Mixer

open Idealize.ShloMosaic Idealize.ShloMosaic.TcCoe Idealize.ShloMosaic.Tactic
open Cert.KernelIdeal Cert.KernelIdeal.Gen

/-- The body's first conditional is taken: the point is the first one (the last tile of the rows). -/
abbrev isFirst (i : grid0.Coords) : Prop :=
  (Scalar.cmpi .ne (Scalar.extui (Scalar.cmpi .eq (BitVec.ofNat 32 (i 0).val) 0#32)) 0#32) = 1#1

/-- The body's second conditional is taken: the point is the last one (the first tile of the rows). -/
abbrev isLast (i : grid0.Coords) : Prop := k0_cond2 i = 1#1

/-- The first conditional is taken at point 0 only. -/
theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [isFirst, e0]
    word_cmp
   : ∀ t : Fin grid0.N, isFirst (grid0.coords t) ↔ t.val = 0)

/-- The second conditional is taken at point 15 only. -/
theorem isLast_iff : ∀ t : Fin cfg0.N, isLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [isLast, k0_cond2, e0]
    word_cmp
   : ∀ t : Fin grid0.N, isLast (grid0.coords t) ↔ t.val = 15)

end Cert.Mixer

end
-- ==== Proof.Mixer.RunA.lean ====
module

public import proofs.«01_k».proof.Proof.Mixer.Points

@[expose] public section

set_option maxRecDepth 16384

noncomputable section

namespace Cert.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The body at the first point (the carried memories are cleared first): from the inputs' blocks, the accumulated product at anything and the other
    memories at anything it runs to the end, the inputs as they were and the accumulated product's
    memory with the pieces of the subtype written. -/
def runA (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : isFirst i) (hc1 : ¬isLast i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) :
    { L : List (View.Piece (Elt F) S1024x1024 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f L) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]; · iexists _; iexact H21
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Mixer

end
-- ==== Proof.Mixer.RunB.lean ====
module

public import proofs.«01_k».proof.Proof.Mixer.Points

@[expose] public section

set_option maxRecDepth 16384

noncomputable section

namespace Cert.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The body at a point that is neither first nor last: from the inputs' blocks, the accumulated product at `acc` and the other
    memories at anything it runs to the end, the inputs as they were and the accumulated product's
    memory with the pieces of the subtype written. -/
def runB (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : ¬isFirst i) (hc1 : ¬isLast i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) (acc : Vec F S1024x1024 .f32) :
    { L : List (View.Piece (Elt F) S1024x1024 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare acc ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f L) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg22.eq_unread hf21
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]; · iexists _; iexact H21
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Mixer

end
-- ==== Proof.Mixer.RunC.lean ====
module

public import proofs.«01_k».proof.Proof.Mixer.Points

@[expose] public section

set_option maxRecDepth 16384

noncomputable section

namespace Cert.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The body at the last point (the packed slab is written): from the inputs' blocks, the accumulated product at `acc` and the other
    memories at anything it runs to the end, the inputs as they were and the accumulated product's
    memory with the pieces of the subtype written. -/
def runC (c : Dev nD) (i : grid0.Coords) (arg1 : Memref sig .tc .vmem S512x512 .f32) (harg1 : arg1.IsWhole) (arg2 : Memref sig .tc .vmem S4x512x512 .f32) (harg2 : arg2.IsWhole) (arg3 : Memref sig .tc .vmem S4x512x512 .bf16) (harg3 : arg3.IsWhole) (arg4 : Memref sig .tc .vmem S512x512 .f32) (harg4 : arg4.IsWhole) (arg5 : Memref sig .tc .vmem S8x512 .f32) (harg5 : arg5.IsWhole) (arg6 : Memref sig .tc .vmem S512x1024 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S8x64x64 .f32) (harg9 : arg9.IsWhole) (arg10 : Memref sig .tc .vmem S8x64x64 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S512x1536 .bf16) (harg20 : arg20.IsWhole) (arg21 : Memref sig .tc .vmem S272x512 .f32) (harg21 : arg21.IsWhole) (arg22 : Memref sig .tc .vmem S1024x1024 .f32) (harg22 : arg22.IsWhole) (arg23 : Memref sig .tc .vmem S2x256x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S8x512 .f32) (harg27 : arg27.IsWhole) (arg28 : Memref sig .tc .vmem S8x512 .f32) (harg28 : arg28.IsWhole) (arg29 : Memref sig .tc .vmem S16x512 .f32) (harg29 : arg29.IsWhole) (arg30 : Memref sig .tc .vmem S128x512 .f32) (harg30 : arg30.IsWhole) (arg31 : Memref sig .tc .vmem S32x512 .f32) (harg31 : arg31.IsWhole) (arg32 : Memref sig .tc .vmem S2x256x512 .f32) (harg32 : arg32.IsWhole) (arg33 : Memref sig .tc .vmem S128x512 .f32) (harg33 : arg33.IsWhole) (hc0 : ¬isFirst i) (hc1 : isLast i)
    (x0 : Vec F S512x512 .f32) (x1 : Vec F S4x512x512 .f32) (x2 : Vec F S4x512x512 .bf16) (x3 : Vec F S512x512 .f32) (x4 : Vec F S8x512 .f32) (x5 : Vec F S512x1024 .f32) (x6 : Vec F S4x512 .f32) (x7 : Vec F S1x512 .f32) (x8 : Vec F S8x64x64 .f32) (x9 : Vec F S8x64x64 .f32) (x10 : Vec F S1x512 .f32) (x11 : Vec F S1x512 .f32) (x12 : Vec F S1x512 .f32) (x13 : Vec F S4x128x128 .f32) (x14 : Vec F S1x512 .f32) (x15 : Vec F S1x512 .f32) (x16 : Vec F S1x512 .f32) (x17 : Vec F S1x512 .f32) (x18 : Vec F S1024x1024 .bf16) (acc : Vec F S1024x1024 .f32) :
    { L : List (View.Piece (Elt F) S1024x1024 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare acc ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f L) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg22.eq_unread hf21
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]; · iexists _; iexact H21
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Mixer

end
-- ==== Proof.Mixer.Frame.lean ====
module

public import proofs.«01_k».proof.Proof.Mixer.RunA
public import proofs.«01_k».proof.Proof.Mixer.RunB
public import proofs.«01_k».proof.Proof.Mixer.RunC
public import Idealize.ShloMosaic.Lib.Claim

@[expose] public section

set_option maxRecDepth 16384

noncomputable section

namespace Cert.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memories the body is handed at a point -/

/-- The staging buffer of window 0 at point `t`. -/
abbrev stage0 (t : Fin cfg0.N) : Memref sig .tc .vmem S512x512 .f32 := win0_0.stage (cfg0.slots t 0)
/-- It is the whole of its buffer. -/
abbrev stage0_whole (t : Fin cfg0.N) : (stage0 t).IsWhole := hstage0_0 ((cfg0.slots t 0).cast nbuf0_0)
/-- The staging buffer of window 1 at point `t`. -/
abbrev stage1 (t : Fin cfg0.N) : Memref sig .tc .vmem S4x512x512 .f32 := win0_1.stage (cfg0.slots t 1)
/-- It is the whole of its buffer. -/
abbrev stage1_whole (t : Fin cfg0.N) : (stage1 t).IsWhole := hstage0_1 ((cfg0.slots t 1).cast nbuf0_1)
/-- The staging buffer of window 2 at point `t`. -/
abbrev stage2 (t : Fin cfg0.N) : Memref sig .tc .vmem S4x512x512 .bf16 := win0_2.stage (cfg0.slots t 2)
/-- It is the whole of its buffer. -/
abbrev stage2_whole (t : Fin cfg0.N) : (stage2 t).IsWhole := hstage0_2 ((cfg0.slots t 2).cast nbuf0_2)
/-- The staging buffer of window 3 at point `t`. -/
abbrev stage3 (t : Fin cfg0.N) : Memref sig .tc .vmem S512x512 .f32 := win0_3.stage (cfg0.slots t 3)
/-- It is the whole of its buffer. -/
abbrev stage3_whole (t : Fin cfg0.N) : (stage3 t).IsWhole := hstage0_3 ((cfg0.slots t 3).cast nbuf0_3)
/-- The staging buffer of window 4 at point `t`. -/
abbrev stage4 (t : Fin cfg0.N) : Memref sig .tc .vmem S8x512 .f32 := win0_4.stage (cfg0.slots t 4)
/-- It is the whole of its buffer. -/
abbrev stage4_whole (t : Fin cfg0.N) : (stage4 t).IsWhole := hstage0_4 ((cfg0.slots t 4).cast nbuf0_4)
/-- The staging buffer of window 5 at point `t`. -/
abbrev stage5 (t : Fin cfg0.N) : Memref sig .tc .vmem S512x1024 .f32 := win0_5.stage (cfg0.slots t 5)
/-- It is the whole of its buffer. -/
abbrev stage5_whole (t : Fin cfg0.N) : (stage5 t).IsWhole := hstage0_5 ((cfg0.slots t 5).cast nbuf0_5)
/-- The staging buffer of window 6 at point `t`. -/
abbrev stage6 (t : Fin cfg0.N) : Memref sig .tc .vmem S4x512 .f32 := win0_6.stage (cfg0.slots t 6)
/-- It is the whole of its buffer. -/
abbrev stage6_whole (t : Fin cfg0.N) : (stage6 t).IsWhole := hstage0_6 ((cfg0.slots t 6).cast nbuf0_6)
/-- The staging buffer of window 7 at point `t`. -/
abbrev stage7 (t : Fin cfg0.N) : Memref sig .tc .vmem S1x512 .f32 := win0_7.stage (cfg0.slots t 7)
/-- It is the whole of its buffer. -/
abbrev stage7_whole (t : Fin cfg0.N) : (stage7 t).IsWhole := hstage0_7 ((cfg0.slots t 7).cast nbuf0_7)
/-- The staging buffer of window 8 at point `t`. -/
abbrev stage8 (t : Fin cfg0.N) : Memref sig .tc .vmem S8x64x64 .f32 := win0_8.stage (cfg0.slots t 8)
/-- It is the whole of its buffer. -/
abbrev stage8_whole (t : Fin cfg0.N) : (stage8 t).IsWhole := hstage0_8 ((cfg0.slots t 8).cast nbuf0_8)
/-- The staging buffer of window 9 at point `t`. -/
abbrev stage9 (t : Fin cfg0.N) : Memref sig .tc .vmem S8x64x64 .f32 := win0_9.stage (cfg0.slots t 9)
/-- It is the whole of its buffer. -/
abbrev stage9_whole (t : Fin cfg0.N) : (stage9 t).IsWhole := hstage0_9 ((cfg0.slots t 9).cast nbuf0_9)
/-- The staging buffer of window 10 at point `t`. -/
abbrev stage10 (t : Fin cfg0.N) : Memref sig .tc .vmem S1x512 .f32 := win0_10.stage (cfg0.slots t 10)
/-- It is the whole of its buffer. -/
abbrev stage10_whole (t : Fin cfg0.N) : (stage10 t).IsWhole := hstage0_10 ((cfg0.slots t 10).cast nbuf0_10)
/-- The staging buffer of window 11 at point `t`. -/
abbrev stage11 (t : Fin cfg0.N) : Memref sig .tc .vmem S1x512 .f32 := win0_11.stage (cfg0.slots t 11)
/-- It is the whole of its buffer. -/
abbrev stage11_whole (t : Fin cfg0.N) : (stage11 t).IsWhole := hstage0_11 ((cfg0.slots t 11).cast nbuf0_11)
/-- The staging buffer of window 12 at point `t`. -/
abbrev stage12 (t : Fin cfg0.N) : Memref sig .tc .vmem S1x512 .f32 := win0_12.stage (cfg0.slots t 12)
/-- It is the whole of its buffer. -/
abbrev stage12_whole (t : Fin cfg0.N) : (stage12 t).IsWhole := hstage0_12 ((cfg0.slots t 12).cast nbuf0_12)
/-- The staging buffer of window 13 at point `t`. -/
abbrev stage13 (t : Fin cfg0.N) : Memref sig .tc .vmem S4x128x128 .f32 := win0_13.stage (cfg0.slots t 13)
/-- It is the whole of its buffer. -/
abbrev stage13_whole (t : Fin cfg0.N) : (stage13 t).IsWhole := hstage0_13 ((cfg0.slots t 13).cast nbuf0_13)
/-- The staging buffer of window 14 at point `t`. -/
abbrev stage14 (t : Fin cfg0.N) : Memref sig .tc .vmem S1x512 .f32 := win0_14.stage (cfg0.slots t 14)
/-- It is the whole of its buffer. -/
abbrev stage14_whole (t : Fin cfg0.N) : (stage14 t).IsWhole := hstage0_14 ((cfg0.slots t 14).cast nbuf0_14)
/-- The staging buffer of window 15 at point `t`. -/
abbrev stage15 (t : Fin cfg0.N) : Memref sig .tc .vmem S1x512 .f32 := win0_15.stage (cfg0.slots t 15)
/-- It is the whole of its buffer. -/
abbrev stage15_whole (t : Fin cfg0.N) : (stage15 t).IsWhole := hstage0_15 ((cfg0.slots t 15).cast nbuf0_15)
/-- The staging buffer of window 16 at point `t`. -/
abbrev stage16 (t : Fin cfg0.N) : Memref sig .tc .vmem S1x512 .f32 := win0_16.stage (cfg0.slots t 16)
/-- It is the whole of its buffer. -/
abbrev stage16_whole (t : Fin cfg0.N) : (stage16 t).IsWhole := hstage0_16 ((cfg0.slots t 16).cast nbuf0_16)
/-- The staging buffer of window 17 at point `t`. -/
abbrev stage17 (t : Fin cfg0.N) : Memref sig .tc .vmem S1x512 .f32 := win0_17.stage (cfg0.slots t 17)
/-- It is the whole of its buffer. -/
abbrev stage17_whole (t : Fin cfg0.N) : (stage17 t).IsWhole := hstage0_17 ((cfg0.slots t 17).cast nbuf0_17)
/-- The staging buffer of window 18 at point `t`. -/
abbrev stage18 (t : Fin cfg0.N) : Memref sig .tc .vmem S1024x1024 .bf16 := win0_18.stage (cfg0.slots t 18)
/-- It is the whole of its buffer. -/
abbrev stage18_whole (t : Fin cfg0.N) : (stage18 t).IsWhole := hstage0_18 ((cfg0.slots t 18).cast nbuf0_18)
/-- The staging buffer of window 19 at point `t`. -/
abbrev stage19 (t : Fin cfg0.N) : Memref sig .tc .vmem S512x1536 .bf16 := win0_19.stage (cfg0.slots t 19)
/-- It is the whole of its buffer. -/
abbrev stage19_whole (t : Fin cfg0.N) : (stage19 t).IsWhole := hstage0_19 ((cfg0.slots t 19).cast nbuf0_19)
/-- The staging buffer of window 20 at point `t`. -/
abbrev stage20 (t : Fin cfg0.N) : Memref sig .tc .vmem S272x512 .f32 := win0_20.stage (cfg0.slots t 20)
/-- It is the whole of its buffer. -/
abbrev stage20_whole (t : Fin cfg0.N) : (stage20 t).IsWhole := hstage0_20 ((cfg0.slots t 20).cast nbuf0_20)
/-- The staging buffer of window 21 at point `t`. -/
abbrev stage21 (t : Fin cfg0.N) : Memref sig .tc .vmem S1024x1024 .f32 := win0_21.stage (cfg0.slots t 21)
/-- It is the whole of its buffer. -/
abbrev stage21_whole (t : Fin cfg0.N) : (stage21 t).IsWhole := hstage0_21 ((cfg0.slots t 21).cast nbuf0_21)
/-- Scratch operand 0 of the body. -/
abbrev scratch0 : Memref sig .tc .vmem S2x256x512 .bf16 := Memref.whole cc0_scratch0
/-- Scratch operand 1 of the body. -/
abbrev scratch1 : Memref sig .tc .vmem S512x512 .f32 := Memref.whole cc0_scratch1
/-- Scratch operand 2 of the body. -/
abbrev scratch2 : Memref sig .tc .vmem S512x512 .f32 := Memref.whole cc0_scratch2
/-- Scratch operand 3 of the body. -/
abbrev scratch3 : Memref sig .tc .vmem S512x512 .f32 := Memref.whole cc0_scratch3
/-- Scratch operand 4 of the body. -/
abbrev scratch4 : Memref sig .tc .vmem S8x512 .f32 := Memref.whole cc0_scratch4
/-- Scratch operand 5 of the body. -/
abbrev scratch5 : Memref sig .tc .vmem S8x512 .f32 := Memref.whole cc0_scratch5
/-- Scratch operand 6 of the body. -/
abbrev scratch6 : Memref sig .tc .vmem S16x512 .f32 := Memref.whole cc0_scratch6
/-- Scratch operand 7 of the body. -/
abbrev scratch7 : Memref sig .tc .vmem S128x512 .f32 := Memref.whole cc0_scratch7
/-- Scratch operand 8 of the body. -/
abbrev scratch8 : Memref sig .tc .vmem S32x512 .f32 := Memref.whole cc0_scratch8
/-- Scratch operand 9 of the body. -/
abbrev scratch9 : Memref sig .tc .vmem S2x256x512 .f32 := Memref.whole cc0_scratch9
/-- Scratch operand 10 of the body. -/
abbrev scratch10 : Memref sig .tc .vmem S128x512 .f32 := Memref.whole cc0_scratch10

/-- What the body owns beside its windows: the scratch operands and the generator, at anything. -/
theorem besides_eq (c : Dev nD) :
    (Pipeline.ΦA spec0 c : sProp 𝕄)
      = iprop(iprop((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d) ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d) ∗ (∃ d, owns (c : Thread nD τ) scratch9 fullShare d) ∗ (∃ d, owns (c : Thread nD τ) scratch10 fullShare d)) ∗ (∃ r, prngReg c r)) := by
  unfold Pipeline.ΦA; rw [scopedRest0_eq]; simp only [scratch0, scratch1, scratch2, scratch3, scratch4, scratch5, scratch6, scratch7, scratch8, scratch9, scratch10, owns_whole]; try rfl

/-! ## What the accumulated product's buffer holds -/

/-- A buffer to read the accumulated product through. -/
abbrev accView : View sig .tc .vmem S1024x1024 .f32 :=
  (Memref.whole cc0_stg21_0 : Memref sig .tc .vmem S1024x1024 .f32).view

/-- The pieces written into it at the first point. -/
def piecesA (c : Dev nD) (t : Fin cfg0.N) (h0 : isFirst (grid0.coords t)) (h1 : ¬isLast (grid0.coords t)) : List (View.Piece (Elt F) S1024x1024 .f32) :=
  (runA c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).1

/-- They cover it. -/
theorem coverA (c : Dev nD) (t : Fin cfg0.N) (h0 : isFirst (grid0.coords t)) (h1 : ¬isLast (grid0.coords t)) (y : S1024x1024.Idx) :
    ∃ pc ∈ piecesA m c t h0 h1, y ∈ pc.1.set :=
  View.cover_of_tiledL (piecesA m c t h0 h1) S1024x1024.size (by sl_kernel_rfl) y

/-- What it holds after the first point. -/
def accA (c : Dev nD) (t : Fin cfg0.N) (h0 : isFirst (grid0.coords t)) (h1 : ¬isLast (grid0.coords t)) : Vec F S1024x1024 .f32 :=
  accView.read (Elt F) (accView.writes (Elt F) accView.junk (piecesA m c t h0 h1))

/-- The pieces written into it at a point between the first and the last. -/
def piecesB (c : Dev nD) (t : Fin cfg0.N) (h0 : ¬isFirst (grid0.coords t)) (h1 : ¬isLast (grid0.coords t)) (acc : Vec F S1024x1024 .f32) : List (View.Piece (Elt F) S1024x1024 .f32) :=
  (runB c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) acc).1

/-- They cover it. -/
theorem coverB (c : Dev nD) (t : Fin cfg0.N) (h0 : ¬isFirst (grid0.coords t)) (h1 : ¬isLast (grid0.coords t)) (acc : Vec F S1024x1024 .f32) (y : S1024x1024.Idx) :
    ∃ pc ∈ piecesB m c t h0 h1 acc, y ∈ pc.1.set :=
  View.cover_of_tiledL (piecesB m c t h0 h1 acc) S1024x1024.size (by sl_kernel_rfl) y

/-- What it holds after a point between the first and the last. -/
def accB (c : Dev nD) (t : Fin cfg0.N) (h0 : ¬isFirst (grid0.coords t)) (h1 : ¬isLast (grid0.coords t)) (acc : Vec F S1024x1024 .f32) : Vec F S1024x1024 .f32 :=
  accView.read (Elt F) (accView.writes (Elt F) accView.junk (piecesB m c t h0 h1 acc))

/-- The pieces written into it at the last point. -/
def piecesC (c : Dev nD) (t : Fin cfg0.N) (h0 : ¬isFirst (grid0.coords t)) (h1 : isLast (grid0.coords t)) (acc : Vec F S1024x1024 .f32) : List (View.Piece (Elt F) S1024x1024 .f32) :=
  (runC c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) acc).1

/-- They cover it. -/
theorem coverC (c : Dev nD) (t : Fin cfg0.N) (h0 : ¬isFirst (grid0.coords t)) (h1 : isLast (grid0.coords t)) (acc : Vec F S1024x1024 .f32) (y : S1024x1024.Idx) :
    ∃ pc ∈ piecesC m c t h0 h1 acc, y ∈ pc.1.set :=
  View.cover_of_tiledL (piecesC m c t h0 h1 acc) S1024x1024.size (by sl_kernel_rfl) y

/-- What it holds after the last point. -/
def accC (c : Dev nD) (t : Fin cfg0.N) (h0 : ¬isFirst (grid0.coords t)) (h1 : isLast (grid0.coords t)) (acc : Vec F S1024x1024 .f32) : Vec F S1024x1024 .f32 :=
  accView.read (Elt F) (accView.writes (Elt F) accView.junk (piecesC m c t h0 h1 acc))

/-- A point past the first is not the first. -/
theorem not_first {n : ℕ} (h : n + 1 < cfg0.N) : ¬isFirst (grid0.coords ⟨n + 1, h⟩) :=
  fun hf => absurd ((isFirst_iff ⟨n + 1, h⟩).mp hf) (Nat.succ_ne_zero n)

/-- The first point is the first, and not the last. -/
theorem first_zero (h : 0 < cfg0.N) : isFirst (grid0.coords ⟨0, h⟩) ∧ ¬isLast (grid0.coords ⟨0, h⟩) :=
  ⟨(isFirst_iff ⟨0, h⟩).mpr rfl, fun hl => absurd ((isLast_iff ⟨0, h⟩).mp hl) (show (0 : ℕ) ≠ 15 by decide)⟩

/-- What the accumulated product's buffer holds after the body at each point. -/
def accAt (c : Dev nD) : (n : ℕ) → n < cfg0.N → Vec F S1024x1024 .f32
  | 0, h => accA m c ⟨0, h⟩ (first_zero h).1 (first_zero h).2
  | n + 1, h =>
    if hl : isLast (grid0.coords ⟨n + 1, h⟩) then
      accC m c ⟨n + 1, h⟩ (not_first h) hl (accAt c n (Nat.lt_of_succ_lt h))
    else accB m c ⟨n + 1, h⟩ (not_first h) hl (accAt c n (Nat.lt_of_succ_lt h))

/-- At the first point. -/
theorem accAt_first (c : Dev nD) (t : Fin cfg0.N) (h0 : isFirst (grid0.coords t)) (h1 : ¬isLast (grid0.coords t)) :
    accAt m c t.val t.isLt = accA m c t h0 h1 := by
  obtain ⟨n, hn⟩ := t
  cases n with
  | zero => rfl
  | succ n => exact absurd h0 (not_first hn)

/-- At a point between. -/
theorem accAt_mid (c : Dev nD) (t : Fin cfg0.N) (h0 : ¬isFirst (grid0.coords t)) (h1 : ¬isLast (grid0.coords t)) :
    accAt m c t.val t.isLt = accB m c t h0 h1 (accAt m c (t.val - 1) (Nat.lt_of_le_of_lt (Nat.sub_le _ _) t.isLt)) := by
  obtain ⟨n, hn⟩ := t
  cases n with
  | zero => exact absurd (first_zero hn).1 h0
  | succ n => exact dif_neg h1

/-- At the last point. -/
theorem accAt_last (c : Dev nD) (t : Fin cfg0.N) (h0 : ¬isFirst (grid0.coords t)) (h1 : isLast (grid0.coords t)) :
    accAt m c t.val t.isLt = accC m c t h0 h1 (accAt m c (t.val - 1) (Nat.lt_of_le_of_lt (Nat.sub_le _ _) t.isLt)) := by
  obtain ⟨n, hn⟩ := t
  cases n with
  | zero => exact absurd (first_zero hn).1 h0
  | succ n => exact dif_pos h1

/-! ## The data of the pipeline -/

/-- The outputs whose contents are not named: the gradient of the mixer's inputs and the packed slab. -/
def unnamed0 : Fin 22 → Bool := fun w => w.val == 19 || w.val == 20

/-- The inputs' blocks as fetched, the accumulated product as it stands, the two others unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, _⟩ => accAt m c t.val t.isLt
    | ⟨_ + 22, h⟩ => absurd h (Nat.not_lt.2 (Nat.le_add_left _ _))
  Φ _ := Pipeline.ΦA spec0 c
  q w := Pipeline.shareOf spec0 w
  owed _ := 0

/-- The arrays the region finds. -/
theorem A_eq (c : Dev nD) (w : Fin cfg0.W) : (dats m 0 c).A w = V m c (Pipeline.arrRef spec0 w) := by
  dsimp only [dats]

/-- Window 0 keeps its block, and is found with it. -/
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) :
    (dats m 0 c).leavesExact 0 t = owns (c : Thread nD τ) (stage0 t) fullShare (iblk m c 0 t) := by
  unfold Dat.leavesExact; rw [show cfg0.idle 0 (grid0.coords t) = false from rfl, after0]
/-- Window 1 keeps its block, and is found with it. -/
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) :
    (dats m 0 c).leavesExact 1 t = owns (c : Thread nD τ) (stage1 t) fullShare (iblk m c 1 t) := by
  unfold Dat.leavesExact; rw [show cfg0.idle 1 (grid0.coords t) = false from rfl, after1]
/-- Window 2 keeps its block, and is found with it. -/
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) :
    (dats m 0 c).leavesExact 2 t = owns (c : Thread nD τ) (stage2 t) fullShare (iblk m c 2 t) := by
  unfold Dat.leavesExact; rw [show cfg0.idle 2 (grid0.coords t) = false from rfl, after2]
/-- Window 3 keeps its block, and is found with it. -/
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) :
    (dats m 0 c).leavesExact 3 t = owns (c : Thread nD τ) (stage3 t) fullShare (iblk m c 3 t) := by
  unfold Dat.leavesExact; rw [show cfg0.idle 3 (grid0.coords t) = false from rfl, after3]
/-- Window 4 keeps its block, and is found with it. -/
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) :
    (dats m 0 c).leavesExact 4 t = owns (c : Thread nD τ) (stage4 t) fullShare (iblk m c 4 t) := by
  unfold Dat.leavesExact; rw [show cfg0.idle 4 (grid0.coords t) = false from rfl, after4]
/-- Window 5 keeps its block, and is found with it. -/
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) :
    (dats m 0 c).leavesExact 5 t = owns (c : Thread nD τ) (stage5 t) fullShare (iblk m c 5 t) := by
  unfold Dat.leavesExact; rw [show cfg0.idle 5 (grid0.coords t) = false from rfl, after5]
/-- Window 6 keeps its block, and is found with it. -/
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) :
    (dats m 0 c).leavesExact 6 t = owns (c : Thread nD τ) (stage6 t) fullShare (iblk m c 6 t) := by
  unfold Dat.leavesExact; rw [show cfg0.idle 6 (grid0.coords t) = false from rfl, after6]
/-- Window 7 keeps its block, and is found with it. -/
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) :
    (dats m 0 c).leavesExact 7 t = owns (c : Thread nD τ) (stage7 t) fullShare (iblk m c 7 t) := by
  unfold Dat.leavesExact; rw [show cfg0.idle 7 (grid0.coords t) = false from rfl, after7]
/-- Window 8 keeps its block, and is found with it. -/
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) :
    (dats m 0 c).leavesExact 8 t = owns (c : Thread nD τ) (stage8 t) fullShare (iblk m c 8 t) := by
  unfold Dat.leavesExact; rw [show cfg0.idle 8 (grid0.coords t) = false from rfl, after8]
/-- Window 9 keeps its block, and is found with it. -/
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem leaves9 (c : Dev nD) (t : Fin cfg0.N) :
    (dats m 0 c).leavesExact 9 t = owns (c : Thread nD τ) (stage9 t) fullShare (iblk m c 9 t) := by
  unfold Dat.leavesExact; rw [show cfg0.idle 9 (grid0.coords t) = false from rfl, after9]
/-- Window 10 keeps its block, and is found with it. -/
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem leaves10 (c : Dev nD) (t : Fin cfg0.N) :
    (dats m 0 c).leavesExact 10 t = owns (c : Thread nD τ) (stage10 t) fullShare (iblk m c 10 t) := by
  unfold Dat.leavesExact; rw [show cfg0.idle 10 (grid0.coords t) = false from rfl, after10]
/-- Window 11 keeps its block, and is found with it. -/
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (A_eq m c 11) (after11 m c) t d
theorem leaves11 (c : Dev nD) (t : Fin cfg0.N) :
    (dats m 0 c).leavesExact 11 t = owns (c : Thread nD τ) (stage11 t) fullShare (iblk m c 11 t) := by
  unfold Dat.leavesExact; rw [show cfg0.idle 11 (grid0.coords t) = false from rfl, after11]
/-- Window 12 keeps its block, and is found with it. -/
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (A_eq m c 12) (after12 m c) t d
theorem leaves12 (c : Dev nD) (t : Fin cfg0.N) :
    (dats m 0 c).leavesExact 12 t = owns (c : Thread nD τ) (stage12 t) fullShare (iblk m c 12 t) := by
  unfold Dat.leavesExact; rw [show cfg0.idle 12 (grid0.coords t) = false from rfl, after12]
/-- Window 13 keeps its block, and is found with it. -/
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (A_eq m c 13) (after13 m c) t d
theorem leaves13 (c : Dev nD) (t : Fin cfg0.N) :
    (dats m 0 c).leavesExact 13 t = owns (c : Thread nD τ) (stage13 t) fullShare (iblk m c 13 t) := by
  unfold Dat.leavesExact; rw [show cfg0.idle 13 (grid0.coords t) = false from rfl, after13]
/-- Window 14 keeps its block, and is found with it. -/
theorem after14 (c : Dev nD) (t : Fin cfg0.N) : (dats m 0 c).after 14 t = iblk m c 14 t := by dsimp only [dats]
theorem before14 (c : Dev nD) (t : Fin cfg0.N) (d) : (dats m 0 c).before 14 t d = iblk m c 14 t :=
  before0_14_of m (dats m 0 c) (A_eq m c 14) (after14 m c) t d
theorem leaves14 (c : Dev nD) (t : Fin cfg0.N) :
    (dats m 0 c).leavesExact 14 t = owns (c : Thread nD τ) (stage14 t) fullShare (iblk m c 14 t) := by
  unfold Dat.leavesExact; rw [show cfg0.idle 14 (grid0.coords t) = false from rfl, after14]
/-- Window 15 keeps its block, and is found with it. -/
theorem after15 (c : Dev nD) (t : Fin cfg0.N) : (dats m 0 c).after 15 t = iblk m c 15 t := by dsimp only [dats]
theorem before15 (c : Dev nD) (t : Fin cfg0.N) (d) : (dats m 0 c).before 15 t d = iblk m c 15 t :=
  before0_15_of m (dats m 0 c) (A_eq m c 15) (after15 m c) t d
theorem leaves15 (c : Dev nD) (t : Fin cfg0.N) :
    (dats m 0 c).leavesExact 15 t = owns (c : Thread nD τ) (stage15 t) fullShare (iblk m c 15 t) := by
  unfold Dat.leavesExact; rw [show cfg0.idle 15 (grid0.coords t) = false from rfl, after15]
/-- Window 16 keeps its block, and is found with it. -/
theorem after16 (c : Dev nD) (t : Fin cfg0.N) : (dats m 0 c).after 16 t = iblk m c 16 t := by dsimp only [dats]
theorem before16 (c : Dev nD) (t : Fin cfg0.N) (d) : (dats m 0 c).before 16 t d = iblk m c 16 t :=
  before0_16_of m (dats m 0 c) (A_eq m c 16) (after16 m c) t d
theorem leaves16 (c : Dev nD) (t : Fin cfg0.N) :
    (dats m 0 c).leavesExact 16 t = owns (c : Thread nD τ) (stage16 t) fullShare (iblk m c 16 t) := by
  unfold Dat.leavesExact; rw [show cfg0.idle 16 (grid0.coords t) = false from rfl, after16]
/-- Window 17 keeps its block, and is found with it. -/
theorem after17 (c : Dev nD) (t : Fin cfg0.N) : (dats m 0 c).after 17 t = iblk m c 17 t := by dsimp only [dats]
theorem before17 (c : Dev nD) (t : Fin cfg0.N) (d) : (dats m 0 c).before 17 t d = iblk m c 17 t :=
  before0_17_of m (dats m 0 c) (A_eq m c 17) (after17 m c) t d
theorem leaves17 (c : Dev nD) (t : Fin cfg0.N) :
    (dats m 0 c).leavesExact 17 t = owns (c : Thread nD τ) (stage17 t) fullShare (iblk m c 17 t) := by
  unfold Dat.leavesExact; rw [show cfg0.idle 17 (grid0.coords t) = false from rfl, after17]
/-- Window 18 keeps its block, and is found with it. -/
theorem after18 (c : Dev nD) (t : Fin cfg0.N) : (dats m 0 c).after 18 t = iblk m c 18 t := by dsimp only [dats]
theorem before18 (c : Dev nD) (t : Fin cfg0.N) (d) : (dats m 0 c).before 18 t d = iblk m c 18 t :=
  before0_18_of m (dats m 0 c) (A_eq m c 18) (after18 m c) t d
theorem leaves18 (c : Dev nD) (t : Fin cfg0.N) :
    (dats m 0 c).leavesExact 18 t = owns (c : Thread nD τ) (stage18 t) fullShare (iblk m c 18 t) := by
  unfold Dat.leavesExact; rw [show cfg0.idle 18 (grid0.coords t) = false from rfl, after18]
/-- The accumulated product's window after the body. -/
theorem after21 (c : Dev nD) (t : Fin cfg0.N) : (dats m 0 c).after 21 t = accAt m c t.val t.isLt := by dsimp only [dats]
theorem leaves21 (c : Dev nD) (t : Fin cfg0.N) :
    (dats m 0 c).leavesExact 21 t = owns (c : Thread nD τ) (stage21 t) fullShare (accAt m c t.val t.isLt) := by
  unfold Dat.leavesExact; rw [show cfg0.idle 21 (grid0.coords t) = false from rfl, after21]

/-- Past the first point the body finds the accumulated product as the point before left it. -/
theorem before21 (c : Dev nD) (t : Fin cfg0.N) (h0 : ¬isFirst (grid0.coords t)) (d) :
    (dats m 0 c).before 21 t d = accAt m c (t.val - 1) (Nat.lt_of_le_of_lt (Nat.sub_le _ _) t.isLt) := by
  have hz : t.val ≠ 0 := fun h => h0 ((isFirst_iff t).mpr h)
  have hN : t.val < 16 := lt_of_lt_of_eq t.isLt (show cfg0.N = 16 from N_0)
  rw [Dat.before_out_kept _ 21 rfl t (by omega)
    (Bool.eq_false_iff.mpr fun h => by have := (flush0_21 _).mp h; dsimp only at this; omega)
    (fun _ => rfl) (fun _ _ => rfl)]
  dsimp only [dats]

/-! ## The body at a point -/

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d))
    ∗ (∃ d, owns (c : Thread nD τ) (stage12 t) fullShare ((dats m 0 c).before 12 t d))
    ∗ (∃ d, owns (c : Thread nD τ) (stage13 t) fullShare ((dats m 0 c).before 13 t d))
    ∗ (∃ d, owns (c : Thread nD τ) (stage14 t) fullShare ((dats m 0 c).before 14 t d))
    ∗ (∃ d, owns (c : Thread nD τ) (stage15 t) fullShare ((dats m 0 c).before 15 t d))
    ∗ (∃ d, owns (c : Thread nD τ) (stage16 t) fullShare ((dats m 0 c).before 16 t d))
    ∗ (∃ d, owns (c : Thread nD τ) (stage17 t) fullShare ((dats m 0 c).before 17 t d))
    ∗ (∃ d, owns (c : Thread nD τ) (stage18 t) fullShare ((dats m 0 c).before 18 t d))
    ∗ (∃ d, owns (c : Thread nD τ) (stage19 t) fullShare d)
    ∗ (∃ d, owns (c : Thread nD τ) (stage20 t) fullShare d)
    ∗ (∃ d, owns (c : Thread nD τ) (stage21 t) fullShare ((dats m 0 c).before 21 t d)))

/-- What it gives back. -/
def givenBack (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (∃ d, owns (c : Thread nD τ) (stage19 t) fullShare d)
    ∗ (∃ d, owns (c : Thread nD τ) (stage20 t) fullShare d)
    ∗ (dats m 0 c).leavesExact 21 t)

set_option maxHeartbeats 4000000 in
/-- The body at the first point. -/
theorem body_first (c : Dev nD) (t : Fin cfg0.N) (h0 : isFirst (grid0.coords t)) (h1 : ¬isLast (grid0.coords t)) :
    handed m c t ⊢ wp frame (wpE (defs₀ (F := F)) Variants.none c none) Set.univ (bodyAt0 t) (fun _ => givenBack m c t) := by
  unfold handed givenBack bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [leaves0, leaves1, leaves2, leaves3, leaves4, leaves5, leaves6, leaves7, leaves8, leaves9, leaves10, leaves11, leaves12, leaves13, leaves14, leaves15, leaves16, leaves17, leaves18, leaves21, accAt_first m c t h0 h1, besides_eq]
  unfold accA
  iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runA c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, ⟨%e21, H21⟩, HS0, HS1, HS2, HS3, HS4, HS5, HS6, HS7, HS8, HS9, HS10⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  unfold owns; iexists _; isplitr
  swap; · iexact H21
  ipureintro; exact View.read_writes_of_cover _ _ _ _ _ (coverA m c t h0 h1)

set_option maxHeartbeats 4000000 in
/-- The body at a point between the first and the last. -/
theorem body_mid (c : Dev nD) (t : Fin cfg0.N) (h0 : ¬isFirst (grid0.coords t)) (h1 : ¬isLast (grid0.coords t)) :
    handed m c t ⊢ wp frame (wpE (defs₀ (F := F)) Variants.none c none) Set.univ (bodyAt0 t) (fun _ => givenBack m c t) := by
  unfold handed givenBack bodyAt0
  simp only [before0, before1, before2, before3, before4, before5, before6, before7, before8, before9, before10, before11, before12, before13, before14, before15, before16, before17, before18, before21 m c t h0]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [leaves0, leaves1, leaves2, leaves3, leaves4, leaves5, leaves6, leaves7, leaves8, leaves9, leaves10, leaves11, leaves12, leaves13, leaves14, leaves15, leaves16, leaves17, leaves18, leaves21, accAt_mid m c t h0 h1, besides_eq]
  unfold accB
  iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runB c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (accAt m c (t.val - 1) (Nat.lt_of_le_of_lt (Nat.sub_le _ _) t.isLt))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexact H21
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, ⟨%e21, H21⟩, HS0, HS1, HS2, HS3, HS4, HS5, HS6, HS7, HS8, HS9, HS10⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  unfold owns; iexists _; isplitr
  swap; · iexact H21
  ipureintro; exact View.read_writes_of_cover _ _ _ _ _ (coverB m c t h0 h1 (accAt m c (t.val - 1) (Nat.lt_of_le_of_lt (Nat.sub_le _ _) t.isLt)))

set_option maxHeartbeats 4000000 in
/-- The body at the last point. -/
theorem body_last (c : Dev nD) (t : Fin cfg0.N) (h0 : ¬isFirst (grid0.coords t)) (h1 : isLast (grid0.coords t)) :
    handed m c t ⊢ wp frame (wpE (defs₀ (F := F)) Variants.none c none) Set.univ (bodyAt0 t) (fun _ => givenBack m c t) := by
  unfold handed givenBack bodyAt0
  simp only [before0, before1, before2, before3, before4, before5, before6, before7, before8, before9, before10, before11, before12, before13, before14, before15, before16, before17, before18, before21 m c t h0]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  rw [leaves0, leaves1, leaves2, leaves3, leaves4, leaves5, leaves6, leaves7, leaves8, leaves9, leaves10, leaves11, leaves12, leaves13, leaves14, leaves15, leaves16, leaves17, leaves18, leaves21, accAt_last m c t h0 h1, besides_eq]
  unfold accC
  iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((runC c (grid0.coords t) (stage0 t) (stage0_whole t) (stage1 t) (stage1_whole t) (stage2 t) (stage2_whole t) (stage3 t) (stage3_whole t) (stage4 t) (stage4_whole t) (stage5 t) (stage5_whole t) (stage6 t) (stage6_whole t) (stage7 t) (stage7_whole t) (stage8 t) (stage8_whole t) (stage9 t) (stage9_whole t) (stage10 t) (stage10_whole t) (stage11 t) (stage11_whole t) (stage12 t) (stage12_whole t) (stage13 t) (stage13_whole t) (stage14 t) (stage14_whole t) (stage15 t) (stage15_whole t) (stage16 t) (stage16_whole t) (stage17 t) (stage17_whole t) (stage18 t) (stage18_whole t) (stage19 t) (stage19_whole t) (stage20 t) (stage20_whole t) (stage21 t) (stage21_whole t) scratch0 (Memref.isWhole_whole _) scratch1 (Memref.isWhole_whole _) scratch2 (Memref.isWhole_whole _) scratch3 (Memref.isWhole_whole _) scratch4 (Memref.isWhole_whole _) scratch5 (Memref.isWhole_whole _) scratch6 (Memref.isWhole_whole _) scratch7 (Memref.isWhole_whole _) scratch8 (Memref.isWhole_whole _) scratch9 (Memref.isWhole_whole _) scratch10 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (accAt m c (t.val - 1) (Nat.lt_of_le_of_lt (Nat.sub_le _ _) t.isLt))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexact H21
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, ⟨%e21, H21⟩, HS0, HS1, HS2, HS3, HS4, HS5, HS6, HS7, HS8, HS9, HS10⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  unfold owns; iexists _; isplitr
  swap; · iexact H21
  ipureintro; exact View.read_writes_of_cover _ _ _ _ _ (coverC m c t h0 h1 (accAt m c (t.val - 1) (Nat.lt_of_le_of_lt (Nat.sub_le _ _) t.isLt)))

/-- The body at every point. -/
theorem body_any (c : Dev nD) (t : Fin cfg0.N) :
    handed m c t ⊢ wp frame (wpE (defs₀ (F := F)) Variants.none c none) Set.univ (bodyAt0 t) (fun _ => givenBack m c t) := by
  by_cases h0 : isFirst (grid0.coords t)
  · refine body_first m c t h0 fun h1 => ?_
    have a := (isFirst_iff t).mp h0
    have b := (isLast_iff t).mp h1
    omega
  · by_cases h1 : isLast (grid0.coords t)
    · exact body_last m c t h0 h1
    · exact body_mid m c t h0 h1

/-- The label's row of the table is the body on the point's buffers. -/
theorem row_eq (t : Fin cfg0.N) :
    defs₀ (F := F) .tc cfg0.body (cfg0.bodyArgs t (cfg0.slots t)) = bodyAt0 t := by
  unfold defs₀; rw [Defs.onTc_tc]

/-- The body's obligation, the two unnamed outputs forgotten. -/
theorem obligation (c : Dev nD) :
    BodyObligation (dats (F := F) m 0 c) (defs₀ (F := F)) Variants.none () Set.univ unnamed0 := fun t => by
  rw [bigSep_W0, bigSep_W0, row_eq]
  exact triple_restated (body_any m c t) rfl .rfl fun _ => .rfl

/-! ## The run and the frame -/

theorem enter (c : Dev nD) : Pipeline.ΦA spec0 c ⊢ (dats m 0 c).Φ 0 := Entails.refl _
theorem leave (c : Dev nD) : (dats m 0 c).Φ (Fin.last cfg0.N) ⊢ Pipeline.ΦA spec0 c := Entails.refl _

/-- What a run ends in: the arrays as the pipeline's data say, the semaphores at rest. -/
abbrev Ends (r : PUnit × MemSt nD τ sig (Elt F)) : Prop :=
  Pipeline.RDat.FramePost (cfgs 0) (fun c => (dats m 0 c).toRForget unnamed0) (V m) r ∧ r.2.sem = fun _ => 0

set_option backward.isDefEq.respectTransparency.types false in
/-- The program runs to its end. -/
theorem run_ends : θ_run defs (onTc (τ := τ) (main (F := F))) (s₀ m ρ) (Ends m) :=
  Pipeline.θ_run_frame_track_forget_shared (Q' := _) cfgs (dats m) (0 : Fin 1) launch₀0 defs₀ Variants.none unnamed0 m ρ main
    (hbody := fun c => (obligation m c).loose) (hq := fun _ _ _ => rfl) (howed := fun _ _ => rfl) (V := V m)
    (hmain := hmain m Variants.none) (hA := A_eq m) (hin := enter m) (hout := leave m)

/-- An array that an input window reads is as the region found it. -/
theorem read_kept {r : PUnit × MemSt nD τ sig (Elt F)}
    (h : Pipeline.RDat.FramePost (cfgs 0) (fun c => (dats m 0 c).toRForget unnamed0) (V m) r) (c : Dev nD) (w : Fin (cfgs 0).W)
    (hin : ((cfgs 0).win w).isOut = false) :
    r.2.mem (((cfgs 0).spec w).arr.view.loc (c.tc : Thread nD τ)) = V m c (Pipeline.arrRef spec0 w) :=
  (Pipeline.RDat.FramePost.arr_in h c w hin).trans (A_eq m c w)

/-- Argument 0 is as launched. -/
theorem kept0 {r : PUnit × MemSt nD τ sig (Elt F)}
    (h : Pipeline.RDat.FramePost (cfgs 0) (fun c => (dats m 0 c).toRForget unnamed0) (V m) r) (c : Dev nD) :
    r.2.mem ((c.tc : Thread nD τ).loc main_arg0) = m ((c.tc : Thread nD τ).loc main_arg0) :=
  (read_kept m h c 0 rfl).trans (V_main_arg0 m c)

/-- Argument 1 is as launched. -/
theorem kept1 {r : PUnit × MemSt nD τ sig (Elt F)}
    (h : Pipeline.RDat.FramePost (cfgs 0) (fun c => (dats m 0 c).toRForget unnamed0) (V m) r) (c : Dev nD) :
    r.2.mem ((c.tc : Thread nD τ).loc main_arg1) = m ((c.tc : Thread nD τ).loc main_arg1) :=
  (read_kept m h c 4 rfl).trans (V_main_arg1 m c)

/-- Argument 2 is as launched. -/
theorem kept2 {r : PUnit × MemSt nD τ sig (Elt F)}
    (h : Pipeline.RDat.FramePost (cfgs 0) (fun c => (dats m 0 c).toRForget unnamed0) (V m) r) (c : Dev nD) :
    r.2.mem ((c.tc : Thread nD τ).loc main_arg2) = m ((c.tc : Thread nD τ).loc main_arg2) :=
  (read_kept m h c 6 rfl).trans (V_main_arg2 m c)

/-- Argument 3 is as launched. -/
theorem kept3 {r : PUnit × MemSt nD τ sig (Elt F)}
    (h : Pipeline.RDat.FramePost (cfgs 0) (fun c => (dats m 0 c).toRForget unnamed0) (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- Argument 4 is as launched. -/
theorem kept4 {r : PUnit × MemSt nD τ sig (Elt F)}
    (h : Pipeline.RDat.FramePost (cfgs 0) (fun c => (dats m 0 c).toRForget unnamed0) (V m) r) (c : Dev nD) :
    r.2.mem ((c.tc : Thread nD τ).loc main_arg4) = m ((c.tc : Thread nD τ).loc main_arg4) :=
  (read_kept m h c 8 rfl).trans (V_main_arg4 m c)

/-- Argument 5 is as launched. -/
theorem kept5 {r : PUnit × MemSt nD τ sig (Elt F)}
    (h : Pipeline.RDat.FramePost (cfgs 0) (fun c => (dats m 0 c).toRForget unnamed0) (V m) r) (c : Dev nD) :
    r.2.mem ((c.tc : Thread nD τ).loc main_arg5) = m ((c.tc : Thread nD τ).loc main_arg5) :=
  (read_kept m h c 9 rfl).trans (V_main_arg5 m c)

/-- Argument 6 is as launched. -/
theorem kept6 {r : PUnit × MemSt nD τ sig (Elt F)}
    (h : Pipeline.RDat.FramePost (cfgs 0) (fun c => (dats m 0 c).toRForget unnamed0) (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- Argument 7 is as launched. -/
theorem kept7 {r : PUnit × MemSt nD τ sig (Elt F)}
    (h : Pipeline.RDat.FramePost (cfgs 0) (fun c => (dats m 0 c).toRForget unnamed0) (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

/-- Argument 8 is as launched. -/
theorem kept8 {r : PUnit × MemSt nD τ sig (Elt F)}
    (h : Pipeline.RDat.FramePost (cfgs 0) (fun c => (dats m 0 c).toRForget unnamed0) (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

/-- Argument 9 is as launched. -/
theorem kept9 {r : PUnit × MemSt nD τ sig (Elt F)}
    (h : Pipeline.RDat.FramePost (cfgs 0) (fun c => (dats m 0 c).toRForget unnamed0) (V m) r) (c : Dev nD) :
    r.2.mem ((c.tc : Thread nD τ).loc main_arg9) = m ((c.tc : Thread nD τ).loc main_arg9) :=
  (read_kept m h c 13 rfl).trans (V_main_arg9 m c)

/-- Argument 10 is as launched. -/
theorem kept10 {r : PUnit × MemSt nD τ sig (Elt F)}
    (h : Pipeline.RDat.FramePost (cfgs 0) (fun c => (dats m 0 c).toRForget unnamed0) (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- Argument 11 is as launched. -/
theorem kept11 {r : PUnit × MemSt nD τ sig (Elt F)}
    (h : Pipeline.RDat.FramePost (cfgs 0) (fun c => (dats m 0 c).toRForget unnamed0) (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)

/-- Argument 12 is as launched. -/
theorem kept12 {r : PUnit × MemSt nD τ sig (Elt F)}
    (h : Pipeline.RDat.FramePost (cfgs 0) (fun c => (dats m 0 c).toRForget unnamed0) (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)

/-- Argument 13 is as launched. -/
theorem kept13 {r : PUnit × MemSt nD τ sig (Elt F)}
    (h : Pipeline.RDat.FramePost (cfgs 0) (fun c => (dats m 0 c).toRForget unnamed0) (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)

/-- Argument 14 is as launched. -/
theorem kept14 {r : PUnit × MemSt nD τ sig (Elt F)}
    (h : Pipeline.RDat.FramePost (cfgs 0) (fun c => (dats m 0 c).toRForget unnamed0) (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- Argument 15 is as launched. -/
theorem kept15 {r : PUnit × MemSt nD τ sig (Elt F)}
    (h : Pipeline.RDat.FramePost (cfgs 0) (fun c => (dats m 0 c).toRForget unnamed0) (V m) r) (c : Dev nD) :
    r.2.mem ((c.tc : Thread nD τ).loc main_arg15) = m ((c.tc : Thread nD τ).loc main_arg15) :=
  (read_kept m h c 5 rfl).trans (V_main_arg15 m c)

/-- The frame: the arguments are as launched and the semaphores at rest. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15)) ∧ r.2.sem = fun _ => 0) :=
  (θ_run defs _ _).mono (fun _ h => ⟨fun c => ⟨kept0 m h.1 c, kept1 m h.1 c, kept2 m h.1 c, kept3 m h.1 c, kept4 m h.1 c, kept5 m h.1 c, kept6 m h.1 c, kept7 m h.1 c, kept8 m h.1 c, kept9 m h.1 c, kept10 m h.1 c, kept11 m h.1 c, kept12 m h.1 c, kept13 m h.1 c, kept14 m h.1 c, kept15 m h.1 c⟩, h.2⟩) (run_ends m ρ)

end Cert.Mixer

end
-- ==== Proof.Mixer.Host.lean ====
module

public import proofs.«01_k».proof.Proof.Gen.KernelIdeal.Frame
public import Idealize.ShloMosaic.Lib.Pipeline.ValueKit

/-! The arrays the step around the mixer's backward call keeps for it, as functions of the mixer's input: the gated
unit's activation and the trailing means of the four groups. -/

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ)

/-- The activation of the gated unit's second half. -/
def act (x : FVec Ideal S8192x1536 .f32) : FVec Ideal S8192x512 .f32 :=
  mulf (extractStridedSlice S8192x512 ![0, 512] x slices_S8192x1536_S8192x512_0_512) (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf (extractStridedSlice S8192x512 ![0, 512] x slices_S8192x1536_S8192x512_0_512) (mulf (broadcastInDim S8192x512 ![] bcast_S_S8192x512 (constant S_ .f32 0x3D372713#32)) (mulf (mulf (extractStridedSlice S8192x512 ![0, 512] x slices_S8192x1536_S8192x512_0_512) (extractStridedSlice S8192x512 ![0, 512] x slices_S8192x1536_S8192x512_0_512)) (extractStridedSlice S8192x512 ![0, 512] x slices_S8192x1536_S8192x512_0_512))))))))

/-- The trailing mean of group 0, less the group. -/
def mean0 (x : FVec Ideal S8192x1536 .f32) : FVec Ideal S8192x128 .f32 :=
  subf (Host.divf (subf (extractStridedSlice S8192x128 ![2, 0] (Host.reduceWindowAdd ![8194, 1] ![1, 1] ![8193, 0] ![0, 0] (pad S8194x128 ![2, 0] ![0, 0] ![0, 0] (shapeCast _ (extractStridedSlice S8192x1x128 ![0, 0, 0] (shapeCast _ (extractStridedSlice S8192x512 ![0, 1024] x slices_S8192x1536_S8192x512_0_1024) shapeCasts_S8192x512_S8192x4x128) slices_S8192x4x128_S8192x1x128_0_0_0) shapeCasts_S8192x1x128_S8192x128) (sitofp .f32 (constantI S_ 32 0#32)) pads_S8192x128_S8194x128_200_000 h_S_) (broadcastInDim S_ ![] bcast_S_S_ (constant S_ .f32 0x00000000#32)) reduceWindows_S8194x128_S8194x128_w8194s1p8193_0_w1s1p0_0 h_S_) slices_S8194x128_S8192x128_2_0) (extractStridedSlice S8192x128 ![0, 0] (Host.reduceWindowAdd ![8194, 1] ![1, 1] ![8193, 0] ![0, 0] (pad S8194x128 ![2, 0] ![0, 0] ![0, 0] (shapeCast _ (extractStridedSlice S8192x1x128 ![0, 0, 0] (shapeCast _ (extractStridedSlice S8192x512 ![0, 1024] x slices_S8192x1536_S8192x512_0_1024) shapeCasts_S8192x512_S8192x4x128) slices_S8192x4x128_S8192x1x128_0_0_0) shapeCasts_S8192x1x128_S8192x128) (sitofp .f32 (constantI S_ 32 0#32)) pads_S8192x128_S8194x128_200_000 h_S_) (broadcastInDim S_ ![] bcast_S_S_ (constant S_ .f32 0x00000000#32)) reduceWindows_S8194x128_S8194x128_w8194s1p8193_0_w1s1p0_0 h_S_) slices_S8194x128_S8192x128_0_0)) (broadcastInDim S8192x128 ![0, 1] bcast_S8192x1_S8192x128_0_1 (broadcastInDim S8192x1 ![0] bcast_S8192_S8192x1_0 (sitofp .f32 (minsi (addi (broadcastInDim S8192 ![] bcast_S_S8192 (constantI S_ 32 1#32)) (iotaInDim S8192 32 0)) (broadcastInDim S8192 ![] bcast_S_S8192 (constantI S_ 32 2#32))))))) (shapeCast _ (extractStridedSlice S8192x1x128 ![0, 0, 0] (shapeCast _ (extractStridedSlice S8192x512 ![0, 1024] x slices_S8192x1536_S8192x512_0_1024) shapeCasts_S8192x512_S8192x4x128) slices_S8192x4x128_S8192x1x128_0_0_0) shapeCasts_S8192x1x128_S8192x128)

/-- The trailing mean of group 1, less the group. -/
def mean1 (x : FVec Ideal S8192x1536 .f32) : FVec Ideal S8192x128 .f32 :=
  subf (Host.divf (subf (extractStridedSlice S8192x128 ![4, 0] (Host.reduceWindowAdd ![8196, 1] ![1, 1] ![8195, 0] ![0, 0] (pad S8196x128 ![4, 0] ![0, 0] ![0, 0] (shapeCast _ (extractStridedSlice S8192x1x128 ![0, 1, 0] (shapeCast _ (extractStridedSlice S8192x512 ![0, 1024] x slices_S8192x1536_S8192x512_0_1024) shapeCasts_S8192x512_S8192x4x128) slices_S8192x4x128_S8192x1x128_0_1_0) shapeCasts_S8192x1x128_S8192x128) (sitofp .f32 (constantI S_ 32 0#32)) pads_S8192x128_S8196x128_400_000 h_S_) (broadcastInDim S_ ![] bcast_S_S_ (constant S_ .f32 0x00000000#32)) reduceWindows_S8196x128_S8196x128_w8196s1p8195_0_w1s1p0_0 h_S_) slices_S8196x128_S8192x128_4_0) (extractStridedSlice S8192x128 ![0, 0] (Host.reduceWindowAdd ![8196, 1] ![1, 1] ![8195, 0] ![0, 0] (pad S8196x128 ![4, 0] ![0, 0] ![0, 0] (shapeCast _ (extractStridedSlice S8192x1x128 ![0, 1, 0] (shapeCast _ (extractStridedSlice S8192x512 ![0, 1024] x slices_S8192x1536_S8192x512_0_1024) shapeCasts_S8192x512_S8192x4x128) slices_S8192x4x128_S8192x1x128_0_1_0) shapeCasts_S8192x1x128_S8192x128) (sitofp .f32 (constantI S_ 32 0#32)) pads_S8192x128_S8196x128_400_000 h_S_) (broadcastInDim S_ ![] bcast_S_S_ (constant S_ .f32 0x00000000#32)) reduceWindows_S8196x128_S8196x128_w8196s1p8195_0_w1s1p0_0 h_S_) slices_S8196x128_S8192x128_0_0)) (broadcastInDim S8192x128 ![0, 1] bcast_S8192x1_S8192x128_0_1 (broadcastInDim S8192x1 ![0] bcast_S8192_S8192x1_0 (sitofp .f32 (minsi (addi (broadcastInDim S8192 ![] bcast_S_S8192 (constantI S_ 32 1#32)) (iotaInDim S8192 32 0)) (broadcastInDim S8192 ![] bcast_S_S8192 (constantI S_ 32 4#32))))))) (shapeCast _ (extractStridedSlice S8192x1x128 ![0, 1, 0] (shapeCast _ (extractStridedSlice S8192x512 ![0, 1024] x slices_S8192x1536_S8192x512_0_1024) shapeCasts_S8192x512_S8192x4x128) slices_S8192x4x128_S8192x1x128_0_1_0) shapeCasts_S8192x1x128_S8192x128)

/-- The trailing mean of group 2, less the group. -/
def mean2 (x : FVec Ideal S8192x1536 .f32) : FVec Ideal S8192x128 .f32 :=
  subf (Host.divf (subf (extractStridedSlice S8192x128 ![8, 0] (Host.reduceWindowAdd ![8200, 1] ![1, 1] ![8199, 0] ![0, 0] (pad S8200x128 ![8, 0] ![0, 0] ![0, 0] (shapeCast _ (extractStridedSlice S8192x1x128 ![0, 2, 0] (shapeCast _ (extractStridedSlice S8192x512 ![0, 1024] x slices_S8192x1536_S8192x512_0_1024) shapeCasts_S8192x512_S8192x4x128) slices_S8192x4x128_S8192x1x128_0_2_0) shapeCasts_S8192x1x128_S8192x128) (sitofp .f32 (constantI S_ 32 0#32)) pads_S8192x128_S8200x128_800_000 h_S_) (broadcastInDim S_ ![] bcast_S_S_ (constant S_ .f32 0x00000000#32)) reduceWindows_S8200x128_S8200x128_w8200s1p8199_0_w1s1p0_0 h_S_) slices_S8200x128_S8192x128_8_0) (extractStridedSlice S8192x128 ![0, 0] (Host.reduceWindowAdd ![8200, 1] ![1, 1] ![8199, 0] ![0, 0] (pad S8200x128 ![8, 0] ![0, 0] ![0, 0] (shapeCast _ (extractStridedSlice S8192x1x128 ![0, 2, 0] (shapeCast _ (extractStridedSlice S8192x512 ![0, 1024] x slices_S8192x1536_S8192x512_0_1024) shapeCasts_S8192x512_S8192x4x128) slices_S8192x4x128_S8192x1x128_0_2_0) shapeCasts_S8192x1x128_S8192x128) (sitofp .f32 (constantI S_ 32 0#32)) pads_S8192x128_S8200x128_800_000 h_S_) (broadcastInDim S_ ![] bcast_S_S_ (constant S_ .f32 0x00000000#32)) reduceWindows_S8200x128_S8200x128_w8200s1p8199_0_w1s1p0_0 h_S_) slices_S8200x128_S8192x128_0_0)) (broadcastInDim S8192x128 ![0, 1] bcast_S8192x1_S8192x128_0_1 (broadcastInDim S8192x1 ![0] bcast_S8192_S8192x1_0 (sitofp .f32 (minsi (addi (broadcastInDim S8192 ![] bcast_S_S8192 (constantI S_ 32 1#32)) (iotaInDim S8192 32 0)) (broadcastInDim S8192 ![] bcast_S_S8192 (constantI S_ 32 8#32))))))) (shapeCast _ (extractStridedSlice S8192x1x128 ![0, 2, 0] (shapeCast _ (extractStridedSlice S8192x512 ![0, 1024] x slices_S8192x1536_S8192x512_0_1024) shapeCasts_S8192x512_S8192x4x128) slices_S8192x4x128_S8192x1x128_0_2_0) shapeCasts_S8192x1x128_S8192x128)

/-- The trailing mean of group 3, less the group. -/
def mean3 (x : FVec Ideal S8192x1536 .f32) : FVec Ideal S8192x128 .f32 :=
  subf (Host.divf (subf (extractStridedSlice S8192x128 ![16, 0] (Host.reduceWindowAdd ![8208, 1] ![1, 1] ![8207, 0] ![0, 0] (pad S8208x128 ![16, 0] ![0, 0] ![0, 0] (shapeCast _ (extractStridedSlice S8192x1x128 ![0, 3, 0] (shapeCast _ (extractStridedSlice S8192x512 ![0, 1024] x slices_S8192x1536_S8192x512_0_1024) shapeCasts_S8192x512_S8192x4x128) slices_S8192x4x128_S8192x1x128_0_3_0) shapeCasts_S8192x1x128_S8192x128) (sitofp .f32 (constantI S_ 32 0#32)) pads_S8192x128_S8208x128_1600_000 h_S_) (broadcastInDim S_ ![] bcast_S_S_ (constant S_ .f32 0x00000000#32)) reduceWindows_S8208x128_S8208x128_w8208s1p8207_0_w1s1p0_0 h_S_) slices_S8208x128_S8192x128_16_0) (extractStridedSlice S8192x128 ![0, 0] (Host.reduceWindowAdd ![8208, 1] ![1, 1] ![8207, 0] ![0, 0] (pad S8208x128 ![16, 0] ![0, 0] ![0, 0] (shapeCast _ (extractStridedSlice S8192x1x128 ![0, 3, 0] (shapeCast _ (extractStridedSlice S8192x512 ![0, 1024] x slices_S8192x1536_S8192x512_0_1024) shapeCasts_S8192x512_S8192x4x128) slices_S8192x4x128_S8192x1x128_0_3_0) shapeCasts_S8192x1x128_S8192x128) (sitofp .f32 (constantI S_ 32 0#32)) pads_S8192x128_S8208x128_1600_000 h_S_) (broadcastInDim S_ ![] bcast_S_S_ (constant S_ .f32 0x00000000#32)) reduceWindows_S8208x128_S8208x128_w8208s1p8207_0_w1s1p0_0 h_S_) slices_S8208x128_S8192x128_0_0)) (broadcastInDim S8192x128 ![0, 1] bcast_S8192x1_S8192x128_0_1 (broadcastInDim S8192x1 ![0] bcast_S8192_S8192x1_0 (sitofp .f32 (minsi (addi (broadcastInDim S8192 ![] bcast_S_S8192 (constantI S_ 32 1#32)) (iotaInDim S8192 32 0)) (broadcastInDim S8192 ![] bcast_S_S8192 (constantI S_ 32 16#32))))))) (shapeCast _ (extractStridedSlice S8192x1x128 ![0, 3, 0] (shapeCast _ (extractStridedSlice S8192x512 ![0, 1024] x slices_S8192x1536_S8192x512_0_1024) shapeCasts_S8192x512_S8192x4x128) slices_S8192x4x128_S8192x1x128_0_3_0) shapeCasts_S8192x1x128_S8192x128)

/-- The four groups' trailing means, side by side. -/
def means (x : FVec Ideal S8192x1536 .f32) : FVec Ideal S8192x4x128 .f32 :=
  (concatenate S8192x4x128 1 [⟨S8192x1x128, ((broadcastInDim S8192x1x128 ![0, 2] bcast_S8192x128_S8192x1x128_0_2 (mean0 x)) : (⟨S8192x1x128, .f32⟩ : BufTy).Contents (Elt Ideal))⟩, ⟨S8192x1x128, ((broadcastInDim S8192x1x128 ![0, 2] bcast_S8192x128_S8192x1x128_0_2 (mean1 x)) : (⟨S8192x1x128, .f32⟩ : BufTy).Contents (Elt Ideal))⟩, ⟨S8192x1x128, ((broadcastInDim S8192x1x128 ![0, 2] bcast_S8192x128_S8192x1x128_0_2 (mean2 x)) : (⟨S8192x1x128, .f32⟩ : BufTy).Contents (Elt Ideal))⟩, ⟨S8192x1x128, ((broadcastInDim S8192x1x128 ![0, 2] bcast_S8192x128_S8192x1x128_0_2 (mean3 x)) : (⟨S8192x1x128, .f32⟩ : BufTy).Contents (Elt Ideal))⟩] concatenates_S8192x1x128_S8192x1x128_S8192x1x128_S8192x1x128_S8192x4x128_d1 : (⟨S8192x4x128, .f32⟩ : BufTy).Contents (Elt Ideal))

/-- Four arrays side by side are equal when each of the four is. -/
theorem cat4 {s d : Shape} {k : Fin d.rank} {x₀ x₁ x₂ x₃ y₀ y₁ y₂ y₃ : FVec Ideal s .f32} (h : Shape.Concatenates [s, s, s, s] d k)
    (h₀ : x₀ = y₀) (h₁ : x₁ = y₁) (h₂ : x₂ = y₂) (h₃ : x₃ = y₃) :
    concatenate d k [⟨s, x₀⟩, ⟨s, x₁⟩, ⟨s, x₂⟩, ⟨s, x₃⟩] h = concatenate d k [⟨s, y₀⟩, ⟨s, y₁⟩, ⟨s, y₂⟩, ⟨s, y₃⟩] h := by
  subst h₀ h₁ h₂ h₃
  rfl

set_option maxHeartbeats 40000000 in
theorem act_entry (c : Dev nD) : V m c main_v103 = act (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

set_option maxHeartbeats 40000000 in
theorem mean0_entry (c : Dev nD) : V m c main_v127 = mean0 (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

set_option maxHeartbeats 40000000 in
theorem mean1_entry (c : Dev nD) : V m c main_v146 = mean1 (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

set_option maxHeartbeats 40000000 in
theorem mean2_entry (c : Dev nD) : V m c main_v165 = mean2 (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

set_option maxHeartbeats 40000000 in
theorem mean3_entry (c : Dev nD) : V m c main_v184 = mean3 (m ((c.tc : Thread nD τ).loc main_arg0)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

set_option maxHeartbeats 40000000 in
theorem pooled_entry (c : Dev nD) : V m c main_v190 = shapeCast S8192x512 (means (m ((c.tc : Thread nD τ).loc main_arg0))) shapeCasts_S8192x4x128_S8192x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  dsimp only [Matrix.cons_val]
  refine congrArg (fun z => shapeCast S8192x512 z shapeCasts_S8192x4x128_S8192x512) (cat4 _ ?_ ?_ ?_ ?_)
  all_goals after_results_simp
  all_goals rfl

/-- The last of four arrays stacked. -/
theorem cat_last (x₀ x₁ x₂ x₃ : FVec Ideal S1x8192x512 .f32) (u : Fin 8192) (k : Fin 512) :
    concatenate S4x8192x512 0 [⟨S1x8192x512, x₀⟩, ⟨S1x8192x512, x₁⟩, ⟨S1x8192x512, x₂⟩, ⟨S1x8192x512, x₃⟩]
      concatenates_S1x8192x512_S1x8192x512_S1x8192x512_S1x8192x512_S4x8192x512_d0 (ix3 3 u k) = x₃ (ix3 0 u k) := by
  pointwise
  try rfl

/-- An array stacked. -/
theorem stack_at (X : FVec Ideal S8192x512 .f32) (u : Fin 8192) (k : Fin 512) :
    broadcastInDim S1x8192x512 ![1, 2] bcast_S8192x512_S1x8192x512_1_2 X (ix3 0 u k) = X (ix2 u k) := by
  pointwise
  try rfl

/-- Rounding changes no value. -/
theorem trunc_at (X : FVec Ideal S4x8192x512 .f32) (i : S4x8192x512.Idx) : truncf .bf16 X bitsLt_bf16_f32 i = X i := by
  pointwise
  try rfl

/-- The groups' columns, side by side. -/
theorem regroup_at (X : FVec Ideal S8192x4x128 .f32) (u : Fin 8192) (g : Fin 4) (d : Fin 128) (k : Fin 512) (hk : (k : ℕ) = g * 128 + d) :
    shapeCast S8192x512 X shapeCasts_S8192x4x128_S8192x512 (ix2 u k) = X (ix3 u g d) := by
  pointwise
  blk_ext
  all_goals omega

set_option maxHeartbeats 40000000 in
/-- The activation, as the call is given it. -/
theorem kept_act (c : Dev nD) (u : Fin 8192) (k : Fin 512) : V m c main_v195 (ix3 3 u k) = act (m ((c.tc : Thread nD τ).loc main_arg0)) (ix2 u k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  dsimp only [Matrix.cons_val]
  refine (cat_last _ _ _ _ u k).trans ?_
  after_results_simp
  try dsimp only [Matrix.cons_val]
  refine (stack_at _ u k).trans ?_
  rfl

set_option maxHeartbeats 40000000 in
/-- The trailing means, as the call is given them. -/
theorem kept_means (c : Dev nD) (u : Fin 8192) (g : Fin 4) (d : Fin 128) (k : Fin 512) (hk : (k : ℕ) = g * 128 + d) :
    V m c main_v201 (ix3 3 u k) = means (m ((c.tc : Thread nD τ).loc main_arg0)) (ix3 u g d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  dsimp only [Matrix.cons_val]
  refine (trunc_at _ _).trans ?_
  refine (cat_last _ _ _ _ u k).trans ?_
  after_results_simp
  try dsimp only [Matrix.cons_val]
  refine (stack_at _ u k).trans ?_
  refine (regroup_at _ u g d k hk).trans ?_
  refine congrFun (cat4 _ ?_ ?_ ?_ ?_) (ix3 u g d)
  all_goals after_results_simp
  all_goals rfl

end Cert.Mixer
-- ==== Proof.Mixer.Ref.lean ====
/- The reference's result, the gradient of the mixer's output projection, written with names: the rows of the gated unit
   and of the pooled means, each divided by its root mean square, side by side; their product with the cotangent. -/
module

public import proofs.«01_k».proof.Proof.Gen.ReferenceIdeal.Run
public import proofs.«01_k».proof.Proof.Mixer.Host

@[expose] public section

set_option maxRecDepth 16384

noncomputable section

open Idealize.ShloMosaic Idealize.ShloMosaic.TcCoe Idealize.SL.Sem

namespace Cert.Mixer.Ref

open Cert.ReferenceIdeal Cert.ReferenceIdeal.Gen

/-- A row of constants, over the rows. -/
abbrev over (g : FVec Ideal S512 .f32) : FVec Ideal S8192x512 .f32 :=
  broadcastInDim S8192x512 ![0, 1] bcast_S1x512_S8192x512_0_1 (broadcastInDim S1x512 ![1] bcast_S512_S1x512_1 g)

/-- Rows divided by their root mean square, times a gain. -/
abbrev normed (X : FVec Ideal S8192x512 .f32) (g : FVec Ideal S512 .f32) : FVec Ideal S8192x512 .f32 :=
  mulf (mulf X (broadcastInDim S8192x512 ![0, 1] bcast_S8192x1_S8192x512_0_1 (Host.rsqrt (addf
    (Host.divf (broadcastInDim S8192x1 ![0] bcast_S8192_S8192x1_0 (Host.reduceAdd (mulf X X) (constant S_ .f32 0x00000000#32)
      reducesTo_S8192x512_S8192_d1 h_S_)) (broadcastInDim S8192x1 ![] bcast_S_S8192x1 (constant S_ .f32 0x44000000#32)))
    (broadcastInDim S8192x1 ![] bcast_S_S8192x1 (constant S_ .f32 0x358637BD#32)))))) (over g)

/-- The products of the groups' means with their weights, group by group. -/
abbrev groups (W : FVec Ideal S4x128x128 .f32) (M : FVec Ideal S8192x4x128 .f32) : FVec Ideal S8192x512 .f32 :=
  shapeCast S8192x512 (transpose S8192x4x128 [2, 0, 1] (Host.dotGeneral dot_S4x128x128_S8192x4x128_S4x128x8192_1_2_2_0_0_1 none W M)
    transposes_S4x128x8192_S8192x4x128_2_0_1) shapeCasts_S8192x4x128_S8192x512

/-- The pooled half of the mixer. -/
abbrev pool (W : FVec Ideal S4x128x128 .f32) (M : FVec Ideal S8192x4x128 .f32) (b s : FVec Ideal S512 .f32) : FVec Ideal S8192x512 .f32 :=
  mulf (addf (groups W M) (over b)) (over s)

/-- The recurrent half of the mixer. -/
abbrev gated (h : FVec Ideal S8192x512 .f32) (u : FVec Ideal S8192x1536 .f32) : FVec Ideal S8192x512 .f32 := mulf h (act u)

/-- The two halves side by side: what the output projection is applied to. -/
abbrev rows (X Y : FVec Ideal S8192x512 .f32) (g g' : FVec Ideal S512 .f32) : FVec Ideal S8192x1024 .f32 :=
  concatenate S8192x1024 1 [⟨S8192x512, normed X g⟩, ⟨S8192x512, normed Y g'⟩] concatenates_S8192x512_S8192x512_S8192x1024_d1

/-- The gradient of the output projection. -/
abbrev dw (R D : FVec Ideal S8192x1024 .f32) : FVec Ideal S1024x1024 .f32 :=
  transpose S1024x1024 [1, 0] (Host.dotGeneral dot_S8192x1024_S8192x1024_S1024x1024_0_0_1_1_n_n none D R) transposes_S1024x1024_S1024x1024_1_0

set_option maxHeartbeats 4000000 in
/-- The reference's result. -/
theorem result_eq (m : (ℓ : Loc nD τ sig) → Buf (Elt Ideal) ℓ) (c : Dev nD) : Value.res_main_v136 m c
    = dw (rows (gated (m ((c.tc : Thread nD τ).loc main_arg1)) (m ((c.tc : Thread nD τ).loc main_arg0)))
        (pool (m ((c.tc : Thread nD τ).loc main_arg9)) (means (m ((c.tc : Thread nD τ).loc main_arg0)))
          (m ((c.tc : Thread nD τ).loc main_arg10)) (m ((c.tc : Thread nD τ).loc main_arg11)))
        (m ((c.tc : Thread nD τ).loc main_arg12)) (m ((c.tc : Thread nD τ).loc main_arg13)))
      (m ((c.tc : Thread nD τ).loc main_arg15)) := by
  unfold Value.res_main_v136
  rfl

/-- A group's product at an index. -/
theorem groups_at (W : FVec Ideal S4x128x128 .f32) (M : FVec Ideal S8192x4x128 .f32) (u : Fin 8192) (g : Fin 4) (d : Fin 128) (k : Fin 512)
    (hk : (k : ℕ) = g * 128 + d) : groups W M (ix2 u k) = ∑ e : Fin 128, W (ix3 g e d) * M (ix3 u g e) := by
  refine (regroup_at _ u g d k hk).trans ?_
  pointwise
  try rfl

/-- The gradient at an index. -/
theorem dw_at (R D : FVec Ideal S8192x1024 .f32) (a b : Fin 1024) : dw R D (ix2 a b) = ∑ u : Fin 8192, R (ix2 u a) * D (ix2 u b) := by
  pointwise [dw]
  refine Finset.sum_congr rfl fun u _ => ?_
  first | rfl | exact mul_comm _ _

/-- The left half of the rows. -/
theorem rows_left (X Y : FVec Ideal S8192x512 .f32) (g g' : FVec Ideal S512 .f32) (u : Fin 8192) (k : Fin 512) :
    rows X Y g g' (ix2 u ⟨k, by omega⟩) = normed X g (ix2 u k) := by
  unfold rows
  generalize normed X g = A
  generalize normed Y g' = B
  pointwise
  try rfl

/-- The right half of the rows. -/
theorem rows_right (X Y : FVec Ideal S8192x512 .f32) (g g' : FVec Ideal S512 .f32) (u : Fin 8192) (k : Fin 512) :
    rows X Y g g' (ix2 u ⟨512 + k, by omega⟩) = normed Y g' (ix2 u k) := by
  unfold rows
  generalize normed X g = A
  generalize normed Y g' = B
  pointwise
  blk_ext

end Cert.Mixer.Ref
-- ==== Proof.Mixer.Blocks.lean ====
/- What the mixer's backward call adds to the gradient of the output projection at a point, and what it leaves after the last. -/
module

public import proofs.«01_k».proof.Proof.Mixer.Frame
public import proofs.«01_k».proof.Proof.Mixer.Ref
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ)

/-- What the body leaves in the accumulated product's memory, from the inputs' blocks and what it held. -/
def accum (x1 : Vec Ideal S4x512x512 .f32) (x2 : Vec Ideal S4x512x512 .bf16) (x3 : Vec Ideal S512x512 .f32) (x5 : Vec Ideal S512x1024 .f32)
    (x13 : Vec Ideal S4x128x128 .f32) (x14 x15 x16 x17 : Vec Ideal S1x512 .f32) (acc : Vec Ideal S1024x1024 .f32) : Vec Ideal S1024x1024 .f32 :=
  k0_pay68 (k0_pay64 (View.ld x5 (Rect.unit ![0, 0] ![512, 1024] inb_S512x1024_S512x1024_0_0)))
      (k0_pay66
        (k0_pay58 (k0_pay54 (View.ld x15 (Rect.unit ![0, 0] ![1, 512] inb_S1x512_S1x512_0_0)))
          (View.ld x2 (Rect.unit ![3, 0, 0] ![1, 512, 128] inb_S4x512x512_S1x512x128_3_0_0))
          (View.ld x13 (Rect.unit ![0, 0, 0] ![1, 128, 128] inb_S4x128x128_S1x128x128_0_0_0))
          (View.ld x2 (Rect.unit ![3, 0, 128] ![1, 512, 128] inb_S4x512x512_S1x512x128_3_0_128))
          (View.ld x13 (Rect.unit ![1, 0, 0] ![1, 128, 128] inb_S4x128x128_S1x128x128_1_0_0))
          (View.ld x2 (Rect.unit ![3, 0, 256] ![1, 512, 128] inb_S4x512x512_S1x512x128_3_0_256))
          (View.ld x13 (Rect.unit ![2, 0, 0] ![1, 128, 128] inb_S4x128x128_S1x128x128_2_0_0))
          (View.ld x2 (Rect.unit ![3, 0, 384] ![1, 512, 128] inb_S4x512x512_S1x512x128_3_0_384))
          (View.ld x13 (Rect.unit ![3, 0, 0] ![1, 128, 128] inb_S4x128x128_S1x128x128_3_0_0))
          (View.ld x14 (Rect.unit ![0, 0] ![1, 512] inb_S1x512_S1x512_0_0)))
        (View.ld x3 (Rect.unit ![0, 0] ![512, 512] inb_S512x512_S512x512_0_0))
        (View.ld x1 (Rect.unit ![3, 0, 0] ![1, 512, 512] inb_S4x512x512_S1x512x512_3_0_0))
        (View.ld x16 (Rect.unit ![0, 0] ![1, 512] inb_S1x512_S1x512_0_0))
        (View.ld x17 (Rect.unit ![0, 0] ![1, 512] inb_S1x512_S1x512_0_0)))
      (k0_pay67 acc)

/-- At a point, from the blocks there. -/
abbrev accumAt (c : Dev nD) (t : Fin cfg0.N) (acc : Vec Ideal S1024x1024 .f32) : Vec Ideal S1024x1024 .f32 :=
  accum (iblk m c 1 t) (iblk m c 2 t) (iblk m c 3 t) (iblk m c 5 t) (iblk m c 13 t) (iblk m c 14 t) (iblk m c 15 t) (iblk m c 16 t)
    (iblk m c 17 t) acc

set_option maxHeartbeats 4000000 in
/-- Between the first point and the last. -/
theorem accB_eq (c : Dev nD) (t : Fin cfg0.N) (h0 : ¬isFirst (grid0.coords t)) (h1 : ¬isLast (grid0.coords t)) (acc : Vec Ideal S1024x1024 .f32) :
    accB m c t h0 h1 acc = accumAt m c t acc := by
  unfold accB piecesB runB
  unfold runB.sl.H21_1 runB.sl.r_12 runB.sl.r_14 runB.sl.r_15 runB.sl.r_6 runB.sl.r_7 runB.sl.r_2 runB.sl.r_4
  refine (View.read_writes_full _ _ _ _ _).trans ?_
  simp only [View.readAt_full, View.readAt_eq_ld, Memref.IsWhole.read_unread]
  refine congrArg (fun z => k0_pay68 _ _ (k0_pay67 z)) ?_
  exact View.ld_unit_zero (funext fun a => by fin_cases a <;> rfl) _ _

set_option maxHeartbeats 4000000 in
/-- At the last point. -/
theorem accC_eq (c : Dev nD) (t : Fin cfg0.N) (h0 : ¬isFirst (grid0.coords t)) (h1 : isLast (grid0.coords t)) (acc : Vec Ideal S1024x1024 .f32) :
    accC m c t h0 h1 acc = accumAt m c t acc := by
  unfold accC piecesC runC
  unfold runC.sl.H21_1 runC.sl.r_12 runC.sl.r_14 runC.sl.r_15 runC.sl.r_6 runC.sl.r_7 runC.sl.r_2 runC.sl.r_4
  refine (View.read_writes_full _ _ _ _ _).trans ?_
  simp only [View.readAt_full, View.readAt_eq_ld, Memref.IsWhole.read_unread]
  refine congrArg (fun z => k0_pay68 _ _ (k0_pay67 z)) ?_
  exact View.ld_unit_zero (funext fun a => by fin_cases a <;> rfl) _ _

set_option maxHeartbeats 4000000 in
/-- At the first point, where the memory is cleared first. -/
theorem accA_eq (c : Dev nD) (t : Fin cfg0.N) (h0 : isFirst (grid0.coords t)) (h1 : ¬isLast (grid0.coords t)) :
    accA m c t h0 h1 = accumAt m c t (k0_pay52 (F := Ideal)) := by
  unfold accA piecesA runA
  unfold runA.sl.H21_2 runA.sl.r_14 runA.sl.r_16 runA.sl.r_17 runA.sl.v106 runA.sl.H21_1 runA.sl.r_8 runA.sl.r_9 runA.sl.r_4 runA.sl.r_6
  refine (View.read_writes_full _ _ _ _ _).trans ?_
  simp only [View.readAt_full, View.readAt_eq_ld, Memref.IsWhole.read_unread]
  refine congrArg (fun z => k0_pay68 _ _ (k0_pay67 z)) ?_
  exact View.readCov_full _ _ _ _ _

/-! ## The blocks at a point -/

/-- Which block of its array each window holds at a grid point: the points walk the rows backwards. -/
theorem idx : ∀ t : Fin cfg0.N, win0_1.index t = ![0, 15 - t.val, 0] ∧ win0_2.index t = ![0, 15 - t.val, 0] ∧ win0_3.index t = ![15 - t.val, 0]
    ∧ win0_5.index t = ![15 - t.val, 0] ∧ win0_13.index t = ![0, 0, 0] ∧ win0_14.index t = ![0, 0] ∧ win0_15.index t = ![0, 0]
    ∧ win0_16.index t = ![0, 0] ∧ win0_17.index t = ![0, 0] :=
  (by decide +kernel : ∀ t : Fin grid0.N, _)

/-- A row of a point's tile, in the whole. -/
abbrev rowAt (t : Fin cfg0.N) (r : Fin 512) : Fin 8192 := ⟨(15 - t.val) * 512 + r, by omega⟩

/-- A row, as a matrix of one. -/
theorem row_at (x : FVec Ideal S512 .f32) (k : Fin 512) : shapeCast S1x512 x shapeCasts_S512_S1x512 (ix2 0 k) = x (ix1 k) := by
  pointwise
  try blk_ext

theorem act_at (c : Dev nD) (t : Fin cfg0.N) (r k : Fin 512) :
    iblk m c 1 t (ix3 3 r k) = act (m ((c.tc : Thread nD τ).loc main_arg0)) (ix2 (rowAt t r) k) := by
  refine Eq.trans ?_ (kept_act m c (rowAt t r) k)
  unfold iblk
  blk_ext [idx t]

theorem means_at (c : Dev nD) (t : Fin cfg0.N) (r k : Fin 512) (g : Fin 4) (d : Fin 128) (hk : (k : ℕ) = g * 128 + d) :
    iblk m c 2 t (ix3 3 r k) = means (m ((c.tc : Thread nD τ).loc main_arg0)) (ix3 (rowAt t r) g d) := by
  refine Eq.trans ?_ (kept_means m c (rowAt t r) g d k hk)
  unfold iblk
  blk_ext [idx t]

theorem h_at (c : Dev nD) (t : Fin cfg0.N) (r k : Fin 512) :
    iblk m c 3 t (ix2 r k) = m ((c.tc : Thread nD τ).loc main_arg1) (ix2 (rowAt t r) k) := by
  blk_point [iblk, V, idx t]

theorem cot_at (c : Dev nD) (t : Fin cfg0.N) (r : Fin 512) (b : Fin 1024) :
    iblk m c 5 t (ix2 r b) = m ((c.tc : Thread nD τ).loc main_arg15) (ix2 (rowAt t r) b) := by
  blk_point [iblk, V, idx t]

theorem weight_at (c : Dev nD) (t : Fin cfg0.N) (g : Fin 4) (e d : Fin 128) :
    iblk m c 13 t (ix3 g e d) = m ((c.tc : Thread nD τ).loc main_arg9) (ix3 g e d) := by
  blk_point [iblk, V, idx t]

set_option maxHeartbeats 4000000 in
theorem bias_row (c : Dev nD) (k : Fin 512) : V m c main_v206 (ix2 0 k) = m ((c.tc : Thread nD τ).loc main_arg10) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  exact row_at _ k

theorem bias_at (c : Dev nD) (t : Fin cfg0.N) (k : Fin 512) : iblk m c 14 t (ix2 0 k) = m ((c.tc : Thread nD τ).loc main_arg10) (ix1 k) := by
  refine Eq.trans ?_ (bias_row m c k)
  unfold iblk
  blk_ext [idx t]

set_option maxHeartbeats 4000000 in
theorem scale_row (c : Dev nD) (k : Fin 512) : V m c main_v207 (ix2 0 k) = m ((c.tc : Thread nD τ).loc main_arg11) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  exact row_at _ k

theorem scale_at (c : Dev nD) (t : Fin cfg0.N) (k : Fin 512) : iblk m c 15 t (ix2 0 k) = m ((c.tc : Thread nD τ).loc main_arg11) (ix1 k) := by
  refine Eq.trans ?_ (scale_row m c k)
  unfold iblk
  blk_ext [idx t]

set_option maxHeartbeats 4000000 in
theorem gain_row (c : Dev nD) (k : Fin 512) : V m c main_v208 (ix2 0 k) = m ((c.tc : Thread nD τ).loc main_arg12) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  exact row_at _ k

theorem gain_at (c : Dev nD) (t : Fin cfg0.N) (k : Fin 512) : iblk m c 16 t (ix2 0 k) = m ((c.tc : Thread nD τ).loc main_arg12) (ix1 k) := by
  refine Eq.trans ?_ (gain_row m c k)
  unfold iblk
  blk_ext [idx t]

set_option maxHeartbeats 4000000 in
theorem gain'_row (c : Dev nD) (k : Fin 512) : V m c main_v209 (ix2 0 k) = m ((c.tc : Thread nD τ).loc main_arg13) (ix1 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  exact row_at _ k

theorem gain'_at (c : Dev nD) (t : Fin cfg0.N) (k : Fin 512) : iblk m c 17 t (ix2 0 k) = m ((c.tc : Thread nD τ).loc main_arg13) (ix1 k) := by
  refine Eq.trans ?_ (gain'_row m c k)
  unfold iblk
  blk_ext [idx t]

end Cert.Mixer
-- ==== Proof.Mixer.Value.lean ====
/- What the mixer's backward call computes at a row of a point: the reference's row; what a point adds to the gradient of the
   output projection; and the sum over the points. -/
module

public import proofs.«01_k».proof.Proof.Mixer.Blocks
public import Idealize.ShloMosaic.Lib.Pipeline.ArrRel

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ)

/-- A row divided by its root mean square. -/
theorem norm_row (B : FVec Ideal S512x512 .f32) (X : FVec Ideal S8192x512 .f32) (x : Vec Ideal S1x512 .f32) (g : FVec Ideal S512 .f32)
    (r : Fin 512) (u : Fin 8192) (hB : ∀ k : Fin 512, B (ix2 r k) = X (ix2 u k)) (hg : ∀ k : Fin 512, x (ix2 0 k) = g (ix1 k)) (k : Fin 512) :
    k0_pay63 B (ix2 r k) * x (ix2 0 k) = Ref.normed X g (ix2 u k) := by
  pointwise [k0_pay63, k0_pay61, Ref.normed, Ref.over]
  simp only [hB, hg]
  try rfl

/-- The left half of a row. -/
theorem left_row (P : FVec Ideal S512x512 .f32) (h : Vec Ideal S512x512 .f32) (a : Vec Ideal S1x512x512 .f32) (x x' : Vec Ideal S1x512 .f32)
    (r k : Fin 512) : (k0_pay66 (F := Ideal) P h a x x' (ix2 r ⟨k, by omega⟩) : EReal) = k0_pay63 (F := Ideal) (k0_pay59 h a) (ix2 r k) * x (ix2 0 k) := by
  show _ = k0_pay62 (F := Ideal) h a (ix2 r k) * x (ix2 0 k)
  unfold k0_pay66
  generalize k0_pay62 (F := Ideal) h a = A
  generalize k0_pay63 (F := Ideal) P = A'
  pointwise
  try rfl

/-- The right half of a row. -/
theorem right_row (P : FVec Ideal S512x512 .f32) (h : Vec Ideal S512x512 .f32) (a : Vec Ideal S1x512x512 .f32) (x x' : Vec Ideal S1x512 .f32)
    (r k : Fin 512) : (k0_pay66 (F := Ideal) P h a x x' (ix2 r ⟨512 + k, by omega⟩) : EReal) = k0_pay63 (F := Ideal) P (ix2 r k) * x' (ix2 0 k) := by
  unfold k0_pay66
  generalize k0_pay62 (F := Ideal) h a = A
  generalize k0_pay63 (F := Ideal) P = A'
  pointwise
  try blk_ext

/-- The gated unit's row. -/
theorem gated_row (h : Vec Ideal S512x512 .f32) (a : Vec Ideal S1x512x512 .f32) (r k : Fin 512) :
    k0_pay59 (F := Ideal) h a (ix2 r k) = h (ix2 r k) * a (ix3 0 r k) := by
  pointwise [k0_pay59]
  try rfl

/-- The group a column lies in. -/
theorem col_split (k : Fin 512) : (∃ d : Fin 128, k = ⟨0 + d, by omega⟩) ∨ (∃ d : Fin 128, k = ⟨128 + d, by omega⟩)
    ∨ (∃ d : Fin 128, k = ⟨256 + d, by omega⟩) ∨ (∃ d : Fin 128, k = ⟨384 + d, by omega⟩) := by
  by_cases h1 : (k : ℕ) < 128
  · exact .inl ⟨⟨k, h1⟩, Fin.ext (by dsimp only; omega)⟩
  by_cases h2 : (k : ℕ) < 256
  · exact .inr (.inl ⟨⟨k - 128, by omega⟩, Fin.ext (by dsimp only; omega)⟩)
  by_cases h3 : (k : ℕ) < 384
  · exact .inr (.inr (.inl ⟨⟨k - 256, by omega⟩, Fin.ext (by dsimp only; omega)⟩))
  · exact .inr (.inr (.inr ⟨⟨k - 384, by omega⟩, Fin.ext (by dsimp only; omega)⟩))

/-- The pooled row at a column of group 0. -/
theorem pool_row0 (s : FVec Ideal S1x512 .f32) (b : Vec Ideal S1x512 .f32) (v0 v1 v2 v3 : Vec Ideal S1x512x128 .bf16)
    (w0 w1 w2 w3 : Vec Ideal S1x128x128 .f32) (r : Fin 512) (d : Fin 128) :
    k0_pay58 (F := Ideal) s v0 w0 v1 w1 v2 w2 v3 w3 b (ix2 r ⟨0 + d, by omega⟩)
      = (∑ e : Fin 128, v0 (ix3 0 r e) * w0 (ix3 0 e d) + b (ix2 0 ⟨0 + d, by omega⟩)) * s (ix2 0 ⟨0 + d, by omega⟩) := by
  pointwise [k0_pay58, k0_pay57]
  try blk_ext

/-- The pooled row at a column of group 1. -/
theorem pool_row1 (s : FVec Ideal S1x512 .f32) (b : Vec Ideal S1x512 .f32) (v0 v1 v2 v3 : Vec Ideal S1x512x128 .bf16)
    (w0 w1 w2 w3 : Vec Ideal S1x128x128 .f32) (r : Fin 512) (d : Fin 128) :
    k0_pay58 (F := Ideal) s v0 w0 v1 w1 v2 w2 v3 w3 b (ix2 r ⟨128 + d, by omega⟩)
      = (∑ e : Fin 128, v1 (ix3 0 r e) * w1 (ix3 0 e d) + b (ix2 0 ⟨128 + d, by omega⟩)) * s (ix2 0 ⟨128 + d, by omega⟩) := by
  pointwise [k0_pay58, k0_pay57]
  try blk_ext

/-- The pooled row at a column of group 2. -/
theorem pool_row2 (s : FVec Ideal S1x512 .f32) (b : Vec Ideal S1x512 .f32) (v0 v1 v2 v3 : Vec Ideal S1x512x128 .bf16)
    (w0 w1 w2 w3 : Vec Ideal S1x128x128 .f32) (r : Fin 512) (d : Fin 128) :
    k0_pay58 (F := Ideal) s v0 w0 v1 w1 v2 w2 v3 w3 b (ix2 r ⟨256 + d, by omega⟩)
      = (∑ e : Fin 128, v2 (ix3 0 r e) * w2 (ix3 0 e d) + b (ix2 0 ⟨256 + d, by omega⟩)) * s (ix2 0 ⟨256 + d, by omega⟩) := by
  pointwise [k0_pay58, k0_pay57]
  refine congrArg₂ (· * ·) (congrArg₂ (· + ·) ?_ rfl) rfl
  rw [dif_neg (by omega), dif_neg (by omega), dif_pos (by omega)]
  exact Finset.sum_congr rfl fun x _ => congrArg (fun z => v2 (ix3 0 r x) * w2 (ix3 0 x z)) (Fin.ext (by dsimp only; omega))

/-- The pooled row at a column of group 3. -/
theorem pool_row3 (s : FVec Ideal S1x512 .f32) (b : Vec Ideal S1x512 .f32) (v0 v1 v2 v3 : Vec Ideal S1x512x128 .bf16)
    (w0 w1 w2 w3 : Vec Ideal S1x128x128 .f32) (r : Fin 512) (d : Fin 128) :
    k0_pay58 (F := Ideal) s v0 w0 v1 w1 v2 w2 v3 w3 b (ix2 r ⟨384 + d, by omega⟩)
      = (∑ e : Fin 128, v3 (ix3 0 r e) * w3 (ix3 0 e d) + b (ix2 0 ⟨384 + d, by omega⟩)) * s (ix2 0 ⟨384 + d, by omega⟩) := by
  pointwise [k0_pay58, k0_pay57]
  refine congrArg₂ (· * ·) (congrArg₂ (· + ·) ?_ rfl) rfl
  rw [dif_neg (by omega), dif_neg (by omega), dif_neg (by omega)]
  exact Finset.sum_congr rfl fun x _ => congrArg (fun z => v3 (ix3 0 r x) * w3 (ix3 0 x z)) (Fin.ext (by dsimp only; omega))

/-- A row of constants at an index. -/
theorem over_at (g : FVec Ideal S512 .f32) (u : Fin 8192) (k : Fin 512) : Ref.over g (ix2 u k) = g (ix1 k) := by
  pointwise
  try rfl

/-- The scale's row as the body keeps it. -/
theorem scale_row_at (s : Vec Ideal S1x512 .f32) (k : Fin 512) : k0_pay54 (F := Ideal) s (ix2 0 k) = s (ix2 0 k) := by
  pointwise [k0_pay54]
  try rfl

/-- A load of a whole row. -/
theorem ld_row (s : Vec Ideal S1x512 .f32) : View.ld s (Rect.unit ![0, 0] ![1, 512] inb_S1x512_S1x512_0_0) = s :=
  View.ld_unit_zero (funext fun a => by fin_cases a <;> rfl) _ _

/-- A load of the columns of group 0. -/
theorem ld_means0 (c : Dev nD) (t : Fin cfg0.N) (r : Fin 512) (e : Fin 128) :
    View.ld (iblk m c 2 t) (Rect.unit ![3, 0, 0] ![1, 512, 128] inb_S4x512x512_S1x512x128_3_0_0) (ix3 0 r e)
      = means (m ((c.tc : Thread nD τ).loc main_arg0)) (ix3 (rowAt t r) 0 e) := by
  refine Eq.trans ?_ (means_at m c t r ⟨0 + e, by omega⟩ 0 e (by simp))
  rw [View.ld_apply]
  blk_ext
  · exact (rfl : 3 + 1 * 0 = 3)
  · exact (show 0 + 1 * (r : ℕ) = r by omega)
  · exact (show 0 + 1 * (e : ℕ) = e by omega)

/-- A load of the weight of group 0. -/
theorem ld_weight0 (c : Dev nD) (t : Fin cfg0.N) (e d : Fin 128) :
    View.ld (iblk m c 13 t) (Rect.unit ![0, 0, 0] ![1, 128, 128] inb_S4x128x128_S1x128x128_0_0_0) (ix3 0 e d)
      = (m ((c.tc : Thread nD τ).loc main_arg9)) (ix3 0 e d) := by
  refine Eq.trans ?_ (weight_at m c t 0 e d)
  rw [View.ld_apply]
  blk_ext
  · exact (rfl : 0 + 1 * 0 = 0)
  · exact (show 0 + 1 * (e : ℕ) = e by omega)
  · exact (show 0 + 1 * (d : ℕ) = d by omega)

/-- A load of the columns of group 1. -/
theorem ld_means1 (c : Dev nD) (t : Fin cfg0.N) (r : Fin 512) (e : Fin 128) :
    View.ld (iblk m c 2 t) (Rect.unit ![3, 0, 128] ![1, 512, 128] inb_S4x512x512_S1x512x128_3_0_128) (ix3 0 r e)
      = means (m ((c.tc : Thread nD τ).loc main_arg0)) (ix3 (rowAt t r) 1 e) := by
  refine Eq.trans ?_ (means_at m c t r ⟨128 + e, by omega⟩ 1 e (by simp))
  rw [View.ld_apply]
  blk_ext
  · exact (rfl : 3 + 1 * 0 = 3)
  · exact (show 0 + 1 * (r : ℕ) = r by omega)
  · exact (show 128 + 1 * (e : ℕ) = 128 + e by omega)

/-- A load of the weight of group 1. -/
theorem ld_weight1 (c : Dev nD) (t : Fin cfg0.N) (e d : Fin 128) :
    View.ld (iblk m c 13 t) (Rect.unit ![1, 0, 0] ![1, 128, 128] inb_S4x128x128_S1x128x128_1_0_0) (ix3 0 e d)
      = (m ((c.tc : Thread nD τ).loc main_arg9)) (ix3 1 e d) := by
  refine Eq.trans ?_ (weight_at m c t 1 e d)
  rw [View.ld_apply]
  blk_ext
  · exact (rfl : 1 + 1 * 0 = 1)
  · exact (show 0 + 1 * (e : ℕ) = e by omega)
  · exact (show 0 + 1 * (d : ℕ) = d by omega)

/-- A load of the columns of group 2. -/
theorem ld_means2 (c : Dev nD) (t : Fin cfg0.N) (r : Fin 512) (e : Fin 128) :
    View.ld (iblk m c 2 t) (Rect.unit ![3, 0, 256] ![1, 512, 128] inb_S4x512x512_S1x512x128_3_0_256) (ix3 0 r e)
      = means (m ((c.tc : Thread nD τ).loc main_arg0)) (ix3 (rowAt t r) 2 e) := by
  refine Eq.trans ?_ (means_at m c t r ⟨256 + e, by omega⟩ 2 e (by simp))
  rw [View.ld_apply]
  blk_ext
  · exact (rfl : 3 + 1 * 0 = 3)
  · exact (show 0 + 1 * (r : ℕ) = r by omega)
  · exact (show 256 + 1 * (e : ℕ) = 256 + e by omega)

/-- A load of the weight of group 2. -/
theorem ld_weight2 (c : Dev nD) (t : Fin cfg0.N) (e d : Fin 128) :
    View.ld (iblk m c 13 t) (Rect.unit ![2, 0, 0] ![1, 128, 128] inb_S4x128x128_S1x128x128_2_0_0) (ix3 0 e d)
      = (m ((c.tc : Thread nD τ).loc main_arg9)) (ix3 2 e d) := by
  refine Eq.trans ?_ (weight_at m c t 2 e d)
  rw [View.ld_apply]
  blk_ext
  · exact (rfl : 2 + 1 * 0 = 2)
  · exact (show 0 + 1 * (e : ℕ) = e by omega)
  · exact (show 0 + 1 * (d : ℕ) = d by omega)

/-- A load of the columns of group 3. -/
theorem ld_means3 (c : Dev nD) (t : Fin cfg0.N) (r : Fin 512) (e : Fin 128) :
    View.ld (iblk m c 2 t) (Rect.unit ![3, 0, 384] ![1, 512, 128] inb_S4x512x512_S1x512x128_3_0_384) (ix3 0 r e)
      = means (m ((c.tc : Thread nD τ).loc main_arg0)) (ix3 (rowAt t r) 3 e) := by
  refine Eq.trans ?_ (means_at m c t r ⟨384 + e, by omega⟩ 3 e (by simp))
  rw [View.ld_apply]
  blk_ext
  · exact (rfl : 3 + 1 * 0 = 3)
  · exact (show 0 + 1 * (r : ℕ) = r by omega)
  · exact (show 384 + 1 * (e : ℕ) = 384 + e by omega)

/-- A load of the weight of group 3. -/
theorem ld_weight3 (c : Dev nD) (t : Fin cfg0.N) (e d : Fin 128) :
    View.ld (iblk m c 13 t) (Rect.unit ![3, 0, 0] ![1, 128, 128] inb_S4x128x128_S1x128x128_3_0_0) (ix3 0 e d)
      = (m ((c.tc : Thread nD τ).loc main_arg9)) (ix3 3 e d) := by
  refine Eq.trans ?_ (weight_at m c t 3 e d)
  rw [View.ld_apply]
  blk_ext
  · exact (rfl : 3 + 1 * 0 = 3)
  · exact (show 0 + 1 * (e : ℕ) = e by omega)
  · exact (show 0 + 1 * (d : ℕ) = d by omega)

/-- The pooled half of a row. -/
theorem pool_at (c : Dev nD) (t : Fin cfg0.N) (r k : Fin 512) :
    k0_pay58 (F := Ideal) (k0_pay54 (View.ld (iblk m c 15 t) (Rect.unit ![0, 0] ![1, 512] inb_S1x512_S1x512_0_0)))
          (View.ld (iblk m c 2 t) (Rect.unit ![3, 0, 0] ![1, 512, 128] inb_S4x512x512_S1x512x128_3_0_0))
          (View.ld (iblk m c 13 t) (Rect.unit ![0, 0, 0] ![1, 128, 128] inb_S4x128x128_S1x128x128_0_0_0))
          (View.ld (iblk m c 2 t) (Rect.unit ![3, 0, 128] ![1, 512, 128] inb_S4x512x512_S1x512x128_3_0_128))
          (View.ld (iblk m c 13 t) (Rect.unit ![1, 0, 0] ![1, 128, 128] inb_S4x128x128_S1x128x128_1_0_0))
          (View.ld (iblk m c 2 t) (Rect.unit ![3, 0, 256] ![1, 512, 128] inb_S4x512x512_S1x512x128_3_0_256))
          (View.ld (iblk m c 13 t) (Rect.unit ![2, 0, 0] ![1, 128, 128] inb_S4x128x128_S1x128x128_2_0_0))
          (View.ld (iblk m c 2 t) (Rect.unit ![3, 0, 384] ![1, 512, 128] inb_S4x512x512_S1x512x128_3_0_384))
          (View.ld (iblk m c 13 t) (Rect.unit ![3, 0, 0] ![1, 128, 128] inb_S4x128x128_S1x128x128_3_0_0))
          (View.ld (iblk m c 14 t) (Rect.unit ![0, 0] ![1, 512] inb_S1x512_S1x512_0_0)) (ix2 r k)
      = (Ref.pool (m ((c.tc : Thread nD τ).loc main_arg9)) (means (m ((c.tc : Thread nD τ).loc main_arg0))) (m ((c.tc : Thread nD τ).loc main_arg10)) (m ((c.tc : Thread nD τ).loc main_arg11))) (ix2 (rowAt t r) k) := by
  rw [ld_row, ld_row]
  rcases col_split k with ⟨d, rfl⟩ | ⟨d, rfl⟩ | ⟨d, rfl⟩ | ⟨d, rfl⟩
  · refine (pool_row0 _ _ _ _ _ _ _ _ _ _ r d).trans ?_
    show _ = (Ref.groups _ _ _ + Ref.over _ _) * Ref.over _ _
    rw [Ref.groups_at _ _ _ 0 d _ (by simp), over_at, over_at, scale_row_at, bias_at, scale_at]
    refine congrArg₂ (· * ·) (congrArg₂ (· + ·) (Finset.sum_congr rfl fun e _ => ?_) rfl) rfl
    rw [ld_means0, ld_weight0]
    exact mul_comm _ _
  · refine (pool_row1 _ _ _ _ _ _ _ _ _ _ r d).trans ?_
    show _ = (Ref.groups _ _ _ + Ref.over _ _) * Ref.over _ _
    rw [Ref.groups_at _ _ _ 1 d _ (by simp), over_at, over_at, scale_row_at, bias_at, scale_at]
    refine congrArg₂ (· * ·) (congrArg₂ (· + ·) (Finset.sum_congr rfl fun e _ => ?_) rfl) rfl
    rw [ld_means1, ld_weight1]
    exact mul_comm _ _
  · refine (pool_row2 _ _ _ _ _ _ _ _ _ _ r d).trans ?_
    show _ = (Ref.groups _ _ _ + Ref.over _ _) * Ref.over _ _
    rw [Ref.groups_at _ _ _ 2 d _ (by simp), over_at, over_at, scale_row_at, bias_at, scale_at]
    refine congrArg₂ (· * ·) (congrArg₂ (· + ·) (Finset.sum_congr rfl fun e _ => ?_) rfl) rfl
    rw [ld_means2, ld_weight2]
    exact mul_comm _ _
  · refine (pool_row3 _ _ _ _ _ _ _ _ _ _ r d).trans ?_
    show _ = (Ref.groups _ _ _ + Ref.over _ _) * Ref.over _ _
    rw [Ref.groups_at _ _ _ 3 d _ (by simp), over_at, over_at, scale_row_at, bias_at, scale_at]
    refine congrArg₂ (· * ·) (congrArg₂ (· + ·) (Finset.sum_congr rfl fun e _ => ?_) rfl) rfl
    rw [ld_means3, ld_weight3]
    exact mul_comm _ _

/-- The gated half of a row. -/
theorem gated_at (c : Dev nD) (t : Fin cfg0.N) (r k : Fin 512) :
    k0_pay59 (F := Ideal) (View.ld (iblk m c 3 t) (Rect.unit ![0, 0] ![512, 512] inb_S512x512_S512x512_0_0))
        (View.ld (iblk m c 1 t) (Rect.unit ![3, 0, 0] ![1, 512, 512] inb_S4x512x512_S1x512x512_3_0_0)) (ix2 r k)
      = (Ref.gated (m ((c.tc : Thread nD τ).loc main_arg1)) (m ((c.tc : Thread nD τ).loc main_arg0))) (ix2 (rowAt t r) k) := by
  refine (gated_row _ _ r k).trans ?_
  refine congrArg₂ (· * ·) ((congrFun (View.ld_unit_zero (funext fun a => by fin_cases a <;> rfl) _ _) _).trans (h_at m c t r k)) ?_
  refine Eq.trans ?_ (act_at m c t r k)
  rw [View.ld_apply]
  blk_ext
  · exact (rfl : 3 + 1 * 0 = 3)
  · exact (show 0 + 1 * (r : ℕ) = r by omega)
  · exact (show 0 + 1 * (k : ℕ) = k by omega)

/-- The reference's rows. -/
abbrev theRows (c : Dev nD) : FVec Ideal S8192x1024 .f32 :=
  Ref.rows (Ref.gated (m ((c.tc : Thread nD τ).loc main_arg1)) (m ((c.tc : Thread nD τ).loc main_arg0))) (Ref.pool (m ((c.tc : Thread nD τ).loc main_arg9)) (means (m ((c.tc : Thread nD τ).loc main_arg0))) (m ((c.tc : Thread nD τ).loc main_arg10)) (m ((c.tc : Thread nD τ).loc main_arg11))) (m ((c.tc : Thread nD τ).loc main_arg12)) (m ((c.tc : Thread nD τ).loc main_arg13))

/-- A row of a point. -/
theorem rows_at (c : Dev nD) (t : Fin cfg0.N) (r : Fin 512) (a : Fin 1024) :
    (k0_pay66 (F := Ideal) (k0_pay58 (F := Ideal) (k0_pay54 (View.ld (iblk m c 15 t) (Rect.unit ![0, 0] ![1, 512] inb_S1x512_S1x512_0_0)))
          (View.ld (iblk m c 2 t) (Rect.unit ![3, 0, 0] ![1, 512, 128] inb_S4x512x512_S1x512x128_3_0_0))
          (View.ld (iblk m c 13 t) (Rect.unit ![0, 0, 0] ![1, 128, 128] inb_S4x128x128_S1x128x128_0_0_0))
          (View.ld (iblk m c 2 t) (Rect.unit ![3, 0, 128] ![1, 512, 128] inb_S4x512x512_S1x512x128_3_0_128))
          (View.ld (iblk m c 13 t) (Rect.unit ![1, 0, 0] ![1, 128, 128] inb_S4x128x128_S1x128x128_1_0_0))
          (View.ld (iblk m c 2 t) (Rect.unit ![3, 0, 256] ![1, 512, 128] inb_S4x512x512_S1x512x128_3_0_256))
          (View.ld (iblk m c 13 t) (Rect.unit ![2, 0, 0] ![1, 128, 128] inb_S4x128x128_S1x128x128_2_0_0))
          (View.ld (iblk m c 2 t) (Rect.unit ![3, 0, 384] ![1, 512, 128] inb_S4x512x512_S1x512x128_3_0_384))
          (View.ld (iblk m c 13 t) (Rect.unit ![3, 0, 0] ![1, 128, 128] inb_S4x128x128_S1x128x128_3_0_0))
          (View.ld (iblk m c 14 t) (Rect.unit ![0, 0] ![1, 512] inb_S1x512_S1x512_0_0)))
        (View.ld (iblk m c 3 t) (Rect.unit ![0, 0] ![512, 512] inb_S512x512_S512x512_0_0))
        (View.ld (iblk m c 1 t) (Rect.unit ![3, 0, 0] ![1, 512, 512] inb_S4x512x512_S1x512x512_3_0_0))
        (View.ld (iblk m c 16 t) (Rect.unit ![0, 0] ![1, 512] inb_S1x512_S1x512_0_0))
        (View.ld (iblk m c 17 t) (Rect.unit ![0, 0] ![1, 512] inb_S1x512_S1x512_0_0)) (ix2 r a) : EReal)
      = theRows m c (ix2 (rowAt t r) a) := by
  have hs : (∃ k : Fin 512, a = ⟨k, by omega⟩) ∨ (∃ k : Fin 512, a = ⟨512 + k, by omega⟩) := by
    by_cases h : (a : ℕ) < 512
    · exact .inl ⟨⟨a, h⟩, rfl⟩
    · exact .inr ⟨⟨a - 512, by omega⟩, Fin.ext (by dsimp only; omega)⟩
  rcases hs with ⟨k, rfl⟩ | ⟨k, rfl⟩
  · refine (left_row _ _ _ _ _ r k).trans ?_
    refine Eq.trans ?_ (Ref.rows_left _ _ _ _ (rowAt t r) k).symm
    refine norm_row _ _ _ _ r (rowAt t r) (fun k => gated_at m c t r k) (fun k => ?_) k
    rw [ld_row]
    exact gain_at m c t k
  · refine (right_row _ _ _ _ _ r k).trans ?_
    refine Eq.trans ?_ (Ref.rows_right _ _ _ _ (rowAt t r) k).symm
    refine norm_row _ _ _ _ r (rowAt t r) (fun k => pool_at m c t r k) (fun k => ?_) k
    rw [ld_row]
    exact gain'_at m c t k

/-- What a point adds. -/
theorem pay68_at (d : FVec Ideal S512x1024 .bf16) (y : FVec Ideal S512x1024 .bf16) (acc : FVec Ideal S1024x1024 .f32) (a b : Fin 1024) :
    k0_pay68 (F := Ideal) d y acc (ix2 a b) = acc (ix2 a b) + ∑ r : Fin 512, y (ix2 r a) * d (ix2 r b) := by
  pointwise [k0_pay68]
  try rfl

/-- The accumulated product after a point, from before it. -/
theorem accum_at (c : Dev nD) (t : Fin cfg0.N) (acc : Vec Ideal S1024x1024 .f32) (a b : Fin 1024) :
    accumAt m c t acc (ix2 a b) = acc (ix2 a b) + ∑ r : Fin 512, theRows m c (ix2 (rowAt t r) a) * (m ((c.tc : Thread nD τ).loc main_arg15)) (ix2 (rowAt t r) b) := by
  unfold accumAt accum
  refine (pay68_at _ _ _ a b).trans ?_
  refine congrArg₂ (· + ·) ?_ (Finset.sum_congr rfl fun r _ => congrArg₂ (· * ·) (rows_at m c t r a) ?_)
  · pointwise [k0_pay67]
    try rfl
  · refine Eq.trans ?_ (cot_at m c t r b)
    show View.ld (iblk m c 5 t) _ _ = _
    exact congrFun (View.ld_unit_zero (funext fun a => by fin_cases a <;> rfl) _ _) _

/-- A tile's part of the sum over the rows, the tiles counted from the last. -/
def part (c : Dev nD) (a b : Fin 1024) (s : ℕ) : EReal :=
  ∑ r : Fin 512, theRows m c (ix2 ⟨(15 - s) * 512 + r, by omega⟩ a) * (m ((c.tc : Thread nD τ).loc main_arg15)) (ix2 ⟨(15 - s) * 512 + r, by omega⟩ b)

/-- The accumulated product after a point: the parts so far. -/
theorem accAt_at (c : Dev nD) (a b : Fin 1024) : ∀ (n : ℕ) (h : n < cfg0.N), accAt m c n h (ix2 a b) = ∑ s ∈ Finset.range (n + 1), part m c a b s
  | 0, h => by
    refine (congrFun (accA_eq m c ⟨0, h⟩ (first_zero h).1 (first_zero h).2) (ix2 a b)).trans ?_
    refine (accum_at m c ⟨0, h⟩ _ a b).trans ?_
    rw [Finset.sum_range_one]
    refine Eq.trans (congrArg₂ (· + ·) ?_ rfl) (zero_add _)
    pointwise [k0_pay52]
  | n + 1, h => by
    have hn : accAt m c (n + 1) h = accumAt m c ⟨n + 1, h⟩ (accAt m c n (Nat.lt_of_succ_lt h)) := by
      by_cases hl : isLast (grid0.coords ⟨n + 1, h⟩)
      · exact (dif_pos hl).trans (accC_eq m c ⟨n + 1, h⟩ (not_first h) hl _)
      · exact (dif_neg hl).trans (accB_eq m c ⟨n + 1, h⟩ (not_first h) hl _)
    rw [hn, Finset.sum_range_succ, ← accAt_at c a b n (Nat.lt_of_succ_lt h)]
    exact accum_at m c ⟨n + 1, h⟩ _ a b

/-- The parts together are the sum over the rows. -/
theorem parts_sum (c : Dev nD) (a b : Fin 1024) :
    ∑ s ∈ Finset.range 16, part m c a b s = Ref.dw (theRows m c) (m ((c.tc : Thread nD τ).loc main_arg15)) (ix2 a b) := by
  rw [Ref.dw_at, Finset.sum_range]
  refine (Equiv.sum_comp Fin.revPerm (fun s : Fin 16 => part m c a b s)).symm.trans ?_
  refine Eq.trans ?_ (Fin.sum_univ_tiles 16 512 rfl (fun u : Fin 8192 => theRows m c (ix2 u a) * (m ((c.tc : Thread nD τ).loc main_arg15)) (ix2 u b))).symm
  refine Finset.sum_congr rfl fun s _ => ?_
  unfold part
  refine Finset.sum_congr rfl fun r _ => ?_
  have hi : ∀ h h', (⟨(15 - (Fin.revPerm s : Fin 16).val) * 512 + r.val, h⟩ : Fin 8192) = ⟨s.val * 512 + r.val, h'⟩ := fun h h' => Fin.ext (by
    have := s.isLt
    simp only [Fin.revPerm_apply, Fin.val_rev]
    omega)
  rw [hi _ (by omega)]

/-- The accumulated product after the last point is the reference's gradient. -/
theorem accAt_last_eq (c : Dev nD) (h : 15 < cfg0.N) : accAt m c 15 h = Ref.dw (theRows m c) (m ((c.tc : Thread nD τ).loc main_arg15)) := by
  funext y
  rw [eq_ix2 y]
  exact (accAt_at m c (y 0) (y 1) 15 h).trans (parts_sum m c (y 0) (y 1))

/-- The accumulated product's one write-back is of the whole array. -/
theorem whole21 : (cfg0.win 21).WholeAt ⟨15, by decide +kernel⟩ := by decide +kernel

/-- What the body leaves in the accumulated product's buffer at the last point. -/
theorem leaves_last (c : Dev nD) (X) (h : ((dats m 0 c).toRForget unnamed0).Leaves 21 ⟨15, by decide +kernel⟩ X) :
    X = accAt m c 15 (by decide +kernel) := by
  obtain ⟨Y, -, hL⟩ := h
  rw [Dat.toRForget_after_of_eq_false (dats m 0 c) (fgt := unnamed0) (w := 21) rfl] at hL
  have hL' := (Dat.Leaves.live_iff (dats m 0 c) (.inr whole21.1)).mp hL
  rw [hL', after21]

/-- The result after a run is the reference's gradient. -/
theorem final {r : PUnit × MemSt nD τ sig (Elt Ideal)} (h : Ends m r) (c : Dev nD) :
    r.2.mem ((c.tc : Thread nD τ).loc main_v211_2) = Ref.dw (theRows m c) (m ((c.tc : Thread nD τ).loc main_arg15)) := by
  obtain ⟨X, hX, hj⟩ := Pipeline.RDat.ArrAt.emb_eq_of_wholeAt ((h.1 c).1 21) whole21
  rw [← accAt_last_eq m c (by decide +kernel), ← leaves_last m c X hX]
  funext j
  exact hj j

end Cert.Mixer
-- ==== Proof.Mixer.Claim.lean ====
/- The claims about the gradient of the mixer's output projection. -/
module

public import proofs.«01_k».proof.Defs
public import proofs.«01_k».proof.Proof.Gen.Kernel
public import proofs.«01_k».proof.Proof.Mixer.Value
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

set_option maxHeartbeats 0 in
/-- The kernel as it is and its ideal program have the same table of bodies, read at bit patterns. -/
theorem bodies1 : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

set_option maxHeartbeats 0 in
/-- ... and so the same table of definitions. -/
theorem table1 : Cert.Kernel.defs (F := Bits) = Cert.KernelIdeal.defs (F := Bits) := by
  unfold Cert.Kernel.defs Cert.KernelIdeal.defs
  exact congrArg (Pipeline.defs Cert.KernelIdeal.pcfgs) bodies1

set_option maxHeartbeats 0 in
/-- The same of the part 0 of the lines. -/
theorem part0 : Cert.Kernel.main_part0 (F := Bits) = Cert.KernelIdeal.main_part0 (F := Bits) := by
  unfold Cert.Kernel.main_part0 Cert.KernelIdeal.main_part0
  rfl

set_option maxHeartbeats 0 in
/-- The same of the part 1 of the lines. -/
theorem part1 : Cert.Kernel.main_part1 (F := Bits) = Cert.KernelIdeal.main_part1 (F := Bits) := by
  unfold Cert.Kernel.main_part1 Cert.KernelIdeal.main_part1
  rfl

set_option maxHeartbeats 0 in
/-- The same of the part 2 of the lines. -/
theorem part2 : Cert.Kernel.main_part2 (F := Bits) = Cert.KernelIdeal.main_part2 (F := Bits) := by
  unfold Cert.Kernel.main_part2 Cert.KernelIdeal.main_part2
  rfl

set_option maxHeartbeats 0 in
/-- The same of the part 3 of the lines. -/
theorem part3 : Cert.Kernel.main_part3 (F := Bits) = Cert.KernelIdeal.main_part3 (F := Bits) := by
  unfold Cert.Kernel.main_part3 Cert.KernelIdeal.main_part3
  rfl

set_option maxHeartbeats 0 in
/-- The same of the part 4 of the lines. -/
theorem part4 : Cert.Kernel.main_part4 (F := Bits) = Cert.KernelIdeal.main_part4 (F := Bits) := by
  unfold Cert.Kernel.main_part4 Cert.KernelIdeal.main_part4
  rfl

set_option maxHeartbeats 0 in
/-- ... and the same lines. -/
theorem main1 : Cert.Kernel.main (F := Bits) = Cert.KernelIdeal.main (F := Bits) := by
  funext d
  unfold Cert.Kernel.main Cert.KernelIdeal.main
  rw [part0, part1, part2, part3, part4]
  rfl

/-- Every run of the kernel over the extended reals ends, without a fault, with the counters at zero and the arguments unchanged. -/
theorem quiescent1I : Cert.quiescent_KernelIdeal := fun m ρ _ => Cert.Mixer.frame m ρ

set_option maxHeartbeats 0 in
/-- The same of the kernel as it is. -/
theorem quiescent1 : Cert.quiescent_Kernel := fun m ρ _ => by
  rw [table1, main1]
  exact Cert.Mixer.frame (F := Bits) m ρ

/-- The same of the reference. -/
theorem quiescent1R : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- A run of the kernel's ideal program ends with the reference's gradient in the result and the arguments unchanged. -/
theorem run1 (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v211_2)
        = Cert.Mixer.Ref.dw (Cert.Mixer.theRows m c) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14) ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run _ _ _).mono (fun _ h c => ⟨Cert.Mixer.final m h c, Cert.Mixer.kept0 m h.1 c, Cert.Mixer.kept1 m h.1 c, Cert.Mixer.kept2 m h.1 c, Cert.Mixer.kept3 m h.1 c, Cert.Mixer.kept4 m h.1 c, Cert.Mixer.kept5 m h.1 c, Cert.Mixer.kept6 m h.1 c, Cert.Mixer.kept7 m h.1 c, Cert.Mixer.kept8 m h.1 c, Cert.Mixer.kept9 m h.1 c, Cert.Mixer.kept10 m h.1 c, Cert.Mixer.kept11 m h.1 c, Cert.Mixer.kept12 m h.1 c, Cert.Mixer.kept13 m h.1 c, Cert.Mixer.kept14 m h.1 c, Cert.Mixer.kept15 m h.1 c⟩) (Cert.Mixer.run_ends m ρ)

/-- The kernel and the reference compute the same gradient of the output projection. -/
theorem algebraic1 : Cert.algebraic_KernelIdeal_ReferenceIdeal := by
  pair_intro
  · run_from run1 m g
  · run_from Cert.ReferenceIdeal.Value.run m' g'
    refine (Cert.Mixer.Ref.result_eq m' c).trans ?_
    obtain ⟨h0, h1, -, -, -, -, -, -, -, h9, h10, h11, h12, h13, -, h15⟩ := hagree c
    rw [h0, h1, h9, h10, h11, h12, h13, h15]

end Cert.Proof

end
-- ==== Proof.Ffn.Wgrad.lean ====
/- The weight gradients of the feed-forward block: each block of a gradient is accumulated over the four row tiles of a
   chip's run of grid points, and equals the reference's contraction over all the rows. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Wgrad

open Cert.Kernel2Ideal Cert.Kernel2Ideal.Gen

variable (m : (ℓ : Loc nD τ sig) → Buf (Elt Ideal) ℓ)

/-- The reference's gradient of an up-projection weight: the transposed product of the cotangent and the rows, split by chip. -/
abbrev upGrad (X : FVec Ideal S8192x1024 .bf16) (D : FVec Ideal S8192x2816 .bf16) : FVec Ideal S4x704x1024 .f32 :=
  shapeCast Cert.Reference2Ideal.S4x704x1024 (transpose Cert.Reference2Ideal.S2816x1024 [1, 0] (transpose Cert.Reference2Ideal.S1024x2816 [1, 0]
    (Host.dotGeneral Cert.Reference2Ideal.dot_S8192x2816_S8192x1024_S2816x1024_0_0_1_1_n_n none
      (extf .f32 D Cert.Reference2Ideal.Gen.bitsLt_bf16_f32) (extf .f32 X Cert.Reference2Ideal.Gen.bitsLt_bf16_f32))
    Cert.Reference2Ideal.Gen.transposes_S2816x1024_S1024x2816_1_0) Cert.Reference2Ideal.Gen.transposes_S1024x2816_S2816x1024_1_0)
    Cert.Reference2Ideal.Gen.shapeCasts_S2816x1024_S4x704x1024

/-- The reference's gradient of the down-projection weight. -/
abbrev downGrad (D : FVec Ideal S8192x1024 .bf16) (X : FVec Ideal S8192x2816 .bf16) : FVec Ideal S4x704x1024 .f32 :=
  shapeCast Cert.Reference2Ideal.S4x704x1024 (transpose Cert.Reference2Ideal.S2816x1024 [1, 0]
    (Host.dotGeneral Cert.Reference2Ideal.dot_S8192x1024_S8192x2816_S1024x2816_0_0_1_1_n_n none
      (extf .f32 D Cert.Reference2Ideal.Gen.bitsLt_bf16_f32) (extf .f32 X Cert.Reference2Ideal.Gen.bitsLt_bf16_f32))
    Cert.Reference2Ideal.Gen.transposes_S1024x2816_S2816x1024_1_0)
    Cert.Reference2Ideal.Gen.shapeCasts_S2816x1024_S4x704x1024

/-- Which block of its array each window holds at a grid point. -/
theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, 0, 0] ∧ win0_6.index t = ![t.val / 4, 0, 0] ∧ win0_7.index t = ![t.val / 4, 0, 0] :=
  (by decide +kernel : ∀ t : Fin grid0.N, _)

theorem zero5 (j) : k0_pay2 (F := Ideal) j = 0 := by pointwise [k0_pay2]
theorem zero6 (j) : k0_pay3 (F := Ideal) j = 0 := by pointwise [k0_pay3]
theorem zero7 (j) : k0_pay4 (F := Ideal) j = 0 := by pointwise [k0_pay4]

/-- One point adds to a block of the first gradient the product of its row tile. -/
theorem step5 (x acc y j) : k0_pay5 (F := Ideal) x acc y j
    = acc j + ∑ k : Fin 2048, y (ix3 0 k (j 1)) * x (ix2 k (j 2)) := by
  idx_vars j
  obtain rfl := Subsingleton.elim j0 0
  pointwise [k0_pay5]
theorem step6 (x acc y j) : k0_pay6 (F := Ideal) x acc y j
    = acc j + ∑ k : Fin 2048, y (ix3 0 k (j 1)) * x (ix2 k (j 2)) := by
  idx_vars j
  obtain rfl := Subsingleton.elim j0 0
  pointwise [k0_pay6]
theorem step7 (x acc y j) : k0_pay1 (F := Ideal) (k0_pay7 acc) y x j
    = acc j + ∑ k : Fin 2048, y (ix3 0 k (j 1)) * x (ix2 k (j 2)) := by
  idx_vars j
  obtain rfl := Subsingleton.elim j0 0
  pointwise [k0_pay1, k0_pay7]

/-- The reference's gradients at an index. -/
theorem upGrad_apply (X D j) : upGrad X D j
    = ∑ k : Fin 8192, D (ix2 k ⟨(j 0).val * 704 + (j 1).val, by idx_bounds; omega⟩) * X (ix2 k (j 2)) := by
  idx_vars j
  pointwise [upGrad]
theorem downGrad_apply (D X j) : downGrad D X j
    = ∑ k : Fin 8192, X (ix2 k ⟨(j 0).val * 704 + (j 1).val, by idx_bounds; omega⟩) * D (ix2 k (j 2)) := by
  idx_vars j
  pointwise [downGrad]
  simp only [mul_comm]

/-- The array of the first gradient after the run. -/
theorem final5 (c : Dev nD) : (dats m 0 c).arrAt 5 (cfgs 0).N
    = upGrad (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).1) 4 (fun _ => 0) _
    (fun t h j => by rw [outsAt0_A m c t h]; frame_out; rw [step5, zero5])
    (fun t h j => by rw [outsAt0_B m c t h]; frame_out; rw [step5])
    t ((flush0_5 t).mp hf) _, zero_add, upGrad_apply]
  refine Fin.sum_mul_add_congr fun s k hl => ?_
  have hs := idx ⟨_, Pipeline.run_point_lt_of_flush t ((flush0_5 t).mp hf) s⟩
  blk_point [iblk, idx t, hs]

/-- The array of the second gradient after the run. -/
theorem final6 (c : Dev nD) : (dats m 0 c).arrAt 6 (cfgs 0).N
    = upGrad (m ((c : Thread nD τ).loc main_arg0)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => 0) _
    (fun t h j => by rw [outsAt0_A m c t h]; frame_out; rw [step6, zero6])
    (fun t h j => by rw [outsAt0_B m c t h]; frame_out; rw [step6])
    t ((flush0_6 t).mp hf) _, zero_add, upGrad_apply]
  refine Fin.sum_mul_add_congr fun s k hl => ?_
  have hs := idx ⟨_, Pipeline.run_point_lt_of_flush t ((flush0_6 t).mp hf) s⟩
  blk_point [iblk, idx t, hs]

/-- The array of the third gradient after the run. -/
theorem final7 (c : Dev nD) : (dats m 0 c).arrAt 7 (cfgs 0).N
    = downGrad (m ((c : Thread nD τ).loc main_arg4)) (m ((c : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).2.2) 4 (fun _ => 0) _
    (fun t h j => by rw [outsAt0_A m c t h]; frame_out; rw [step7, zero7])
    (fun t h j => by rw [outsAt0_B m c t h]; frame_out; rw [step7])
    t ((flush0_7 t).mp hf) _, zero_add, downGrad_apply]
  refine Fin.sum_mul_add_congr fun s k hl => ?_
  have hs := idx ⟨_, Pipeline.run_point_lt_of_flush t ((flush0_7 t).mp hf) s⟩
  blk_point [iblk, idx t, hs]

end Cert.Kernel2Ideal.Wgrad

end
-- ==== Proof.Ffn.WgradClaim.lean ====
/- The claims about the weight gradients of the feed-forward block. -/
module

public import proofs.«01_k».proof.Defs
public import proofs.«01_k».proof.Proof.Gen.Kernel2
public import proofs.«01_k».proof.Proof.Ffn.Wgrad
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

/-- ... and so the same table of definitions. -/
theorem table2 : Cert.Kernel2.defs (F := Bits) = Cert.Kernel2Ideal.defs (F := Bits) := by
  unfold Cert.Kernel2.defs Cert.Kernel2Ideal.defs
  exact congrArg (Pipeline.defs Cert.Kernel2Ideal.pcfgs) bodies2

/-- Every run of the kernel over the extended reals ends, without a fault, with the counters at zero and the arguments unchanged. -/
theorem quiescent2I : Cert.quiescent_Kernel2Ideal := fun m ρ _ => Cert.Kernel2Ideal.Gen.frame m ρ

/-- The same of the kernel as it is. -/
theorem quiescent2 : Cert.quiescent_Kernel2 := fun m ρ _ => by
  rw [table2]
  exact Cert.Kernel2Ideal.Gen.frame (F := Bits) m ρ

/-- The same of the reference. -/
theorem quiescent2R : Cert.quiescent_Reference2Ideal := fun m ρ _ =>
  (θ_run Cert.Reference2Ideal.defs _ _).mono (fun r h => ⟨fun c => ⟨(h c).2.2.2.1, (h c).2.2.2.2.1, (h c).2.2.2.2.2.1, (h c).2.2.2.2.2.2.1, (h c).2.2.2.2.2.2.2⟩,
    sem_eq_zero_of_no_sems (by decide) r.2⟩) (Cert.Reference2Ideal.Value.run m ρ)

/-- The kernel and the reference compute the same three weight gradients. -/
theorem algebraic2 : Cert.algebraic_Kernel2Ideal_Reference2Ideal := by
  pair_intro
  · run_from Cert.Kernel2Ideal.Gen.run_main m g
  · run_from Cert.Reference2Ideal.Value.run m' g'
    · exact (Cert.Kernel2Ideal.Wgrad.final5 m c).symm
    · exact (Cert.Kernel2Ideal.Wgrad.final6 m c).symm
    · exact (Cert.Kernel2Ideal.Wgrad.final7 m c).symm

end Cert.Proof

end
-- ==== Proof.Ffn.Real.lean ====
/- Extended reals that are real numbers: they are closed under the operations of the derivatives, so that an identity
   between real numbers may be used where the arguments are finite. -/
module

public import Idealize.ShloMosaic.Lib.Pipeline.ValueKit

@[expose] public section

noncomputable section

open Idealize.ShloMosaic

namespace Cert.Proof

/-- An extended real that is a real number. -/
def IsReal (x : EReal) : Prop := ∃ r : ℝ, x = r

namespace IsReal

variable {x y : EReal}

theorem coe (r : ℝ) : IsReal (r : EReal) := ⟨r, rfl⟩
theorem zero : IsReal 0 := ⟨0, rfl⟩
theorem one : IsReal 1 := ⟨1, rfl⟩
theorem neg (hx : IsReal x) : IsReal (-x) := by obtain ⟨r, rfl⟩ := hx; exact ⟨-r, by norm_cast⟩
theorem add (hx : IsReal x) (hy : IsReal y) : IsReal (x + y) := by
  obtain ⟨r, rfl⟩ := hx; obtain ⟨s, rfl⟩ := hy; exact ⟨r + s, by norm_cast⟩
theorem sub (hx : IsReal x) (hy : IsReal y) : IsReal (x - y) := by
  obtain ⟨r, rfl⟩ := hx; obtain ⟨s, rfl⟩ := hy; exact ⟨r - s, by norm_cast⟩
theorem mul (hx : IsReal x) (hy : IsReal y) : IsReal (x * y) := by
  obtain ⟨r, rfl⟩ := hx; obtain ⟨s, rfl⟩ := hy; exact ⟨r * s, by norm_cast⟩

theorem sum {ι : Type} (s : Finset ι) (f : ι → EReal) (h : ∀ i, IsReal (f i)) : IsReal (∑ i ∈ s, f i) := by
  classical
  induction s using Finset.induction_on with
  | empty => rw [Finset.sum_empty]; exact zero
  | insert a s ha ih => rw [Finset.sum_insert ha]; exact (h a).add ih

/-- The sum of real numbers is their real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function, by its defining quotient, is real at a real number. -/
theorem logistic (hx : IsReal x) : IsReal (Ideal.div 1 (1 + Ideal.exp (-x))) := by
  obtain ⟨r, rfl⟩ := hx
  have h : (1 : EReal) + Ideal.exp (-(r : EReal)) = ((1 + Real.exp (-r) : ℝ) : EReal) := by
    rw [← EReal.coe_neg]; rfl
  have hp : (0 : ℝ) < 1 + Real.exp (-r) := by positivity
  rw [h, Ideal.div, if_neg (by exact_mod_cast hp.ne'), ← EReal.coe_inv, one_mul]
  exact coe _

/-- The magnitude of a number is below infinity only if the number is real. -/
theorem of_abs (h : max x (-x) < ⊤) : IsReal x := by
  induction x with
  | bot => simp at h
  | top => simp at h
  | coe r => exact coe r

/-- The pattern of the infinity. -/
theorem inf : Ideal.ofBits .f32 0x7F800000#32 = ⊤ := by
  have h1 : ((0x7F800000#32 : BitVec 32).extractLsb' 23 8).toNat = 2 ^ 8 - 1 := by decide
  have h2 : ((0x7F800000#32 : BitVec 32).extractLsb' 0 23).toNat = 0 := by decide
  have h3 : ((0x7F800000#32 : BitVec 32).extractLsb' (8 + 23) 1 == 1#1) = false := by decide
  show Ideal.ieee 8 23 (0x7F800000#32) = ⊤
  simp only [Ideal.ieee]
  rw [if_pos h1, if_pos h2, h3]
  rfl

/-- The same, of the comparison's answer. -/
theorem of_cmp (h : BitVec.ofBool (decide (FloatOps.absf (F := Ideal) (φ := .f32) x < Ideal.ofBits .f32 0x7F800000#32)) = 1#1) : IsReal x :=
  of_abs (by
    rw [inf] at h
    by_contra hn
    have hn' : ¬ FloatOps.absf (F := Ideal) (φ := .f32) x < (⊤ : EReal) := hn
    simp [hn'] at h)

end IsReal

end Cert.Proof

end
-- ==== Proof.Ffn.Gate.lean ====
/- The gradients of the gated product of the feed-forward block: the two cotangents of a chip's grid point are the reference's,
   tile by tile, where the arguments are finite. -/
module

public import proofs.«01_k».proof.Defs
public import proofs.«01_k».proof.Proof.Gen.Pre_finite3
public import proofs.«01_k».proof.Proof.Gen.Kernel3Ideal.Value
public import proofs.«01_k».proof.Proof.Gen.Reference3Ideal.Run
public import proofs.«01_k».proof.Proof.Ffn.Real

@[expose] public section

set_option maxRecDepth 16384

noncomputable section

open Idealize.ShloMosaic Idealize.ShloMosaic.TcCoe Idealize.SL.Sem
open Idealize.ShloMosaic.Pipeline (Dat)
open Cert.Proof (IsReal)

namespace Cert.Kernel3Ideal.Gate

open Cert.Kernel3Ideal Cert.Kernel3Ideal.Gen

variable (m : (ℓ : Loc nD τ sig) → Buf (Elt Ideal) ℓ)

abbrev S8192x2816 : Shape := Cert.Reference3Ideal.S8192x2816

/-- The reference's cotangent of the gated product. -/
abbrev dff (DH : FVec Ideal Cert.Reference3Ideal.S8192x1024 .f32) (W : FVec Ideal Cert.Reference3Ideal.S2816x1024 .f32) :
    FVec Ideal S8192x2816 .f32 :=
  Host.dotGeneral Cert.Reference3Ideal.dot_S8192x1024_S2816x1024_S8192x2816_1_1_0_0_n_n none DH W

open Cert.Reference3Ideal.Gen in
/-- The constant one, at every entry. -/
abbrev ones : FVec Ideal S8192x2816 .f32 :=
  broadcastInDim S8192x2816 ![] bcast_S_S8192x2816 (constant Cert.Reference3Ideal.S_ .f32 0x3F800000#32)

/-- The reference's logistic function, by its defining quotient. -/
abbrev gate (A : FVec Ideal S8192x2816 .f32) : FVec Ideal S8192x2816 .f32 :=
  Host.divf ones (addf ones (Host.exp (Host.negf A)))

/-- The features of a full-width array, split by the chip that holds them. -/
abbrev byChip (A : FVec Ideal S8192x2816 .f32) : FVec Ideal S4x8192x704 .bf16 :=
  truncf .bf16 (transpose Cert.Reference3Ideal.S4x8192x704 [1, 0, 2] (shapeCast Cert.Reference3Ideal.S8192x4x704 A Cert.Reference3Ideal.Gen.shapeCasts_S8192x2816_S8192x4x704)
    Cert.Reference3Ideal.Gen.transposes_S8192x4x704_S4x8192x704_1_0_2) Cert.Reference3Ideal.Gen.bitsLt_bf16_f32

/-- The reference's cotangent of the first pre-activation, by the product rule. -/
abbrev dGate (A B : FVec Ideal S8192x2816 .bf16) (D : FVec Ideal S8192x2816 .f32) : FVec Ideal S8192x2816 .f32 :=
  addf (mulf (mulf D (extf .f32 B Cert.Reference3Ideal.Gen.bitsLt_bf16_f32)) (gate (extf .f32 A Cert.Reference3Ideal.Gen.bitsLt_bf16_f32)))
    (mulf (mulf (extf .f32 A Cert.Reference3Ideal.Gen.bitsLt_bf16_f32) (mulf D (extf .f32 B Cert.Reference3Ideal.Gen.bitsLt_bf16_f32)))
      (mulf (gate (extf .f32 A Cert.Reference3Ideal.Gen.bitsLt_bf16_f32))
        (subf ones (gate (extf .f32 A Cert.Reference3Ideal.Gen.bitsLt_bf16_f32)))))

/-- ... and of the second. -/
abbrev dUp (A : FVec Ideal S8192x2816 .bf16) (D : FVec Ideal S8192x2816 .f32) : FVec Ideal S8192x2816 .f32 :=
  mulf (mulf (extf .f32 A Cert.Reference3Ideal.Gen.bitsLt_bf16_f32) (gate (extf .f32 A Cert.Reference3Ideal.Gen.bitsLt_bf16_f32))) D

/-- Which block of its array each window holds at a grid point. -/
theorem idx : ∀ t : Fin cfg0.N, win0_0.index t = ![t.val, 0] ∧ win0_1.index t = ![0, t.val, 0]
    ∧ win0_2.index t = ![0, t.val, 0] ∧ win0_3.index t = ![0, 0, 0] ∧ win0_4.index t = ![0, t.val, 0] ∧ win0_5.index t = ![0, t.val, 0] :=
  (by decide +kernel : ∀ t : Fin grid0.N, _)

/-- The derivative of the gated unit, in the kernel's form and in the product rule's, at real arguments. -/
theorem derivative {d b a d' b' a' : EReal} (hd : d = d') (hb : b = b') (ha : a = a') (rd : IsReal d') (rb : IsReal b') (ra : IsReal a') :
    d * b * (Ideal.div 1 (1 + Ideal.exp (0 - a)) * (1 + (a - a * Ideal.div 1 (1 + Ideal.exp (0 - a)))))
      = d' * b' * Ideal.div 1 (1 + Ideal.exp (-a'))
        + a' * (d' * b') * (Ideal.div 1 (1 + Ideal.exp (-a')) * (1 - Ideal.div 1 (1 + Ideal.exp (-a')))) := by
  obtain ⟨s, hs⟩ := ra.logistic
  rw [hd, hb, ha, sub_eq_add_neg 0, zero_add, hs]
  obtain ⟨d, rfl⟩ := rd
  obtain ⟨b, rfl⟩ := rb
  obtain ⟨a, rfl⟩ := ra
  norm_cast
  ring

theorem product {d a d' a' : EReal} (hd : d = d') (ha : a = a') :
    d * (a * Ideal.div 1 (1 + Ideal.exp (0 - a))) = a' * Ideal.div 1 (1 + Ideal.exp (-a')) * d' := by
  rw [hd, ha, sub_eq_add_neg 0, zero_add, mul_comm]

/-- Splitting the rows of a matrix: a row of block `b` is row `704 b + r`. -/
theorem byRows (W : FVec Ideal S2816x1024 .f32) (j : S4x704x1024.Idx) (i : S2816x1024.Idx)
    (h0 : (i 0 : ℕ) = (j 0 : ℕ) * 704 + j 1) (h1 : (i 1 : ℕ) = j 2) :
    shapeCast S4x704x1024 W shapeCasts_S2816x1024_S4x704x1024 j = W i := by
  pointwise
  blk_ext

/-- The weight's window is the weight, its rows split by chip. -/
theorem weight_at (c : Dev nD) (t : Fin cfg0.N) (y : S4x704x1024.Idx) (i : S2816x1024.Idx)
    (h0 : (i 0 : ℕ) = (y 0 : ℕ) * 704 + y 1) (h1 : (i 1 : ℕ) = y 2) :
    iblk m c 3 t y = m ((c.tc : Thread nD τ).loc main_arg2) i := by
  unfold iblk
  blk_simp [idx t]
  entry_read
  refine byRows _ _ i ?_ ?_ <;> blk_simp [idx t] <;> omega

/-- Splitting the columns of a matrix and putting their blocks first: the entry at block `b`, row `r`, column `q` is the
    matrix's at row `r` and column `704 b + q`. -/
theorem byCols (A : FVec Ideal S8192x2816 .bf16) (j : S4x8192x704.Idx) (i : S8192x2816.Idx)
    (h0 : (i 0 : ℕ) = j 1) (h1 : (i 1 : ℕ) = (j 0 : ℕ) * 704 + j 2) :
    transpose S4x8192x704 [1, 0, 2] (shapeCast S8192x4x704 A shapeCasts_S8192x2816_S8192x4x704)
      transposes_S8192x4x704_S4x8192x704_1_0_2 j = A i := by
  pointwise
  blk_ext

/-- The first saved array's window is that array, its columns split by chip, at the rows of the point. -/
theorem first_at (c : Dev nD) (t : Fin cfg0.N) (y : S4x512x704.Idx) (i : S8192x2816.Idx)
    (h0 : (i 0 : ℕ) = t.val * 512 + y 1) (h1 : (i 1 : ℕ) = (y 0 : ℕ) * 704 + y 2) :
    iblk m c 1 t y = m ((c.tc : Thread nD τ).loc main_arg0) i := by
  unfold iblk
  blk_simp [idx t]
  entry_read
  refine byCols _ _ i ?_ ?_ <;> blk_simp [idx t] <;> omega

/-- ... and the second's. -/
theorem second_at (c : Dev nD) (t : Fin cfg0.N) (y : S4x512x704.Idx) (i : S8192x2816.Idx)
    (h0 : (i 0 : ℕ) = t.val * 512 + y 1) (h1 : (i 1 : ℕ) = (y 0 : ℕ) * 704 + y 2) :
    iblk m c 2 t y = m ((c.tc : Thread nD τ).loc main_arg1) i := by
  unfold iblk
  blk_simp [idx t]
  entry_read
  refine byCols _ _ i ?_ ?_ <;> blk_simp [idx t] <;> omega

set_option maxHeartbeats 1600000 in
theorem final4 (c : Dev nD)
    (rA : ∀ j, IsReal (m ((c.tc : Thread nD τ).loc main_arg0) j)) (rB : ∀ j, IsReal (m ((c.tc : Thread nD τ).loc main_arg1) j))
    (rW : ∀ j, IsReal (m ((c.tc : Thread nD τ).loc main_arg2) j)) (rD : ∀ j, IsReal (m ((c.tc : Thread nD τ).loc main_arg3) j)) :
    (dats m 0 c).arrAt 4 (cfgs 0).N
    = byChip (dGate (m ((c.tc : Thread nD τ).loc main_arg0)) (m ((c.tc : Thread nD τ).loc main_arg1))
        (dff (m ((c.tc : Thread nD τ).loc main_arg3)) (m ((c.tc : Thread nD τ).loc main_arg2)))) := by
  refine (dats m 0 c).arrAt_eq_of_covers 4 _ (by decide +kernel) fun t hf y => ?_
  blk_simp
  rw [after0_4]
  frame_out
  canon_tiles x h
  all_goals
    open_payloads
    pointwise [byChip, dGate, dff, gate, ones]
    refine derivative (Finset.sum_congr rfl fun k _ => congrArg₂ (· * ·) ?_ ?_) ?_ ?_
      (IsReal.sum _ _ fun k => (rD _).mul (rW _)) (rB _) (rA _)
    · blk_point [iblk, V, idx t]
    all_goals first
      | refine weight_at m c t _ _ ?_ ?_
      | refine second_at m c t _ _ ?_ ?_
      | refine first_at m c t _ _ ?_ ?_
    all_goals
      blk_simp [idx t]
      try omega
      try first
        | (change t.val * 512 + (y 1 : ℕ) = t.val * 512 + (256 + (x 1 : ℕ)); omega)
        | (change t.val * 512 + (y 1 : ℕ) = t.val * 512 + (x 1 : ℕ); omega)
        | (change (y 0 : ℕ) * 704 + (y 2 : ℕ) = 0 * 704 + (x 2 : ℕ); omega)
        | (change (y 0 : ℕ) * 704 + (y 2 : ℕ) = 1 * 704 + (x 2 : ℕ); omega)
        | (change (y 0 : ℕ) * 704 + (y 2 : ℕ) = 2 * 704 + (x 2 : ℕ); omega)
        | (change (y 0 : ℕ) * 704 + (y 2 : ℕ) = 3 * 704 + (x 2 : ℕ); omega)

set_option maxHeartbeats 1600000 in
theorem final5 (c : Dev nD) : (dats m 0 c).arrAt 5 (cfgs 0).N
    = byChip (dUp (m ((c.tc : Thread nD τ).loc main_arg0)) (dff (m ((c.tc : Thread nD τ).loc main_arg3)) (m ((c.tc : Thread nD τ).loc main_arg2)))) := by
  refine (dats m 0 c).arrAt_eq_of_covers 5 _ (by decide +kernel) fun t hf y => ?_
  blk_simp
  rw [after0_5]
  frame_out
  canon_tiles x h
  all_goals
    open_payloads
    pointwise [byChip, dUp, dff, gate, ones]
    refine product (Finset.sum_congr rfl fun k _ => congrArg₂ (· * ·) ?_ ?_) ?_
    · blk_point [iblk, V, idx t]
    all_goals first
      | refine weight_at m c t _ _ ?_ ?_
      | refine first_at m c t _ _ ?_ ?_
    all_goals
      blk_simp [idx t]
      try omega
      try first
        | (change t.val * 512 + (y 1 : ℕ) = t.val * 512 + (256 + (x 1 : ℕ)); omega)
        | (change t.val * 512 + (y 1 : ℕ) = t.val * 512 + (x 1 : ℕ); omega)
        | (change (y 0 : ℕ) * 704 + (y 2 : ℕ) = 0 * 704 + (x 2 : ℕ); omega)
        | (change (y 0 : ℕ) * 704 + (y 2 : ℕ) = 1 * 704 + (x 2 : ℕ); omega)
        | (change (y 0 : ℕ) * 704 + (y 2 : ℕ) = 2 * 704 + (x 2 : ℕ); omega)
        | (change (y 0 : ℕ) * 704 + (y 2 : ℕ) = 3 * 704 + (x 2 : ℕ); omega)

/-- Where the precondition holds, the arguments are real numbers. -/
theorem real_of_finite (hpre : Cert.Pre_Kernel3Ideal_finite3 m) (c : Dev nD) :
    (∀ j, IsReal (m ((c.tc : Thread nD τ).loc main_arg0) j)) ∧ (∀ j, IsReal (m ((c.tc : Thread nD τ).loc main_arg1) j))
    ∧ (∀ j, IsReal (m ((c.tc : Thread nD τ).loc main_arg2) j)) ∧ (∀ j, IsReal (m ((c.tc : Thread nD τ).loc main_arg3) j)) := by
  obtain ⟨h0, h1, h2, h3⟩ := hpre c
  refine ⟨fun j => ?_, fun j => ?_, fun j => ?_, fun j => ?_⟩
  · have h := congrFun h0 j
    pointwise [Cert.Pre_finite3.fn] at h
    exact IsReal.of_cmp h
  · have h := congrFun h1 j
    pointwise [Cert.Pre_finite3.fn] at h
    exact IsReal.of_cmp h
  · have h := congrFun h2 j
    pointwise [Cert.Pre_finite3.fn] at h
    exact IsReal.of_cmp h
  · have h := congrFun h3 j
    pointwise [Cert.Pre_finite3.fn] at h
    exact IsReal.of_cmp h

end Cert.Kernel3Ideal.Gate

end
-- ==== Proof.Ffn.GateClaim.lean ====
/- The claims about the gradients of the gated product. -/
module

public import proofs.«01_k».proof.Defs
public import proofs.«01_k».proof.Proof.Gen.Kernel3
public import proofs.«01_k».proof.Proof.Ffn.Gate
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies3 : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

/-- ... and so the same table of definitions. -/
theorem table3 : Cert.Kernel3.defs (F := Bits) = Cert.Kernel3Ideal.defs (F := Bits) := by
  unfold Cert.Kernel3.defs Cert.Kernel3Ideal.defs
  exact congrArg (Pipeline.defs Cert.Kernel3Ideal.pcfgs) bodies3

/-- Every run of the kernel over the extended reals ends, without a fault, with the counters at zero and the arguments unchanged. -/
theorem quiescent3I : Cert.quiescent_Kernel3Ideal := fun m ρ _ => Cert.Kernel3Ideal.Gen.frame m ρ

/-- The same of the kernel as it is. -/
theorem quiescent3 : Cert.quiescent_Kernel3 := fun m ρ _ => by
  rw [table3]
  exact Cert.Kernel3Ideal.Gen.frame (F := Bits) m ρ

/-- The same of the reference. -/
theorem quiescent3R : Cert.quiescent_Reference3Ideal := fun m ρ _ =>
  (θ_run Cert.Reference3Ideal.defs _ _).mono (fun r h => ⟨fun c => ⟨(h c).2.2.1, (h c).2.2.2.1, (h c).2.2.2.2.1, (h c).2.2.2.2.2⟩,
    sem_eq_zero_of_no_sems (by decide) r.2⟩) (Cert.Reference3Ideal.Value.run m ρ)

/-- The kernel's ideal program and the reference are harmless where the precondition holds, as everywhere. -/
theorem quiescent3IPre : Cert.quiescent_Kernel3Ideal_pre_finite3 := fun m ρ _ => Cert.Kernel3Ideal.Gen.frame m ρ

theorem quiescent3RPre : Cert.quiescent_Reference3Ideal_pre_finite3 := fun m ρ _ =>
  (θ_run Cert.Reference3Ideal.defs _ _).mono (fun r h => ⟨fun c => ⟨(h c).2.2.1, (h c).2.2.2.1, (h c).2.2.2.2.1, (h c).2.2.2.2.2⟩,
    sem_eq_zero_of_no_sems (by decide) r.2⟩) (Cert.Reference3Ideal.Value.run m ρ)

/-- Where the arguments are finite the kernel and the reference compute the same two cotangents. -/
theorem algebraic3 : Cert.algebraic_Kernel3Ideal_Reference3Ideal_pre_finite3 := by
  pair_intro
  · run_from Cert.Kernel3Ideal.Gen.run_main m g
  · run_from Cert.Reference3Ideal.Value.run m' g'
    · exact (Cert.Kernel3Ideal.Gate.final4 m c (Cert.Kernel3Ideal.Gate.real_of_finite m hpre c).1 (Cert.Kernel3Ideal.Gate.real_of_finite m hpre c).2.1 (Cert.Kernel3Ideal.Gate.real_of_finite m hpre c).2.2.1 (Cert.Kernel3Ideal.Gate.real_of_finite m hpre c).2.2.2).symm
    · exact (Cert.Kernel3Ideal.Gate.final5 m c).symm

end Cert.Proof

end
-- ==== Proof.Ffn.Rms.lean ====
/- The derivative of the root-mean-square norm, row by row: the kernel's closed form and the product rule's sum agree where
   the row and its cotangent are real numbers. -/
module

public import proofs.«01_k».proof.Proof.Ffn.Real

@[expose] public section

noncomputable section

open Idealize.ShloMosaic

namespace Cert.Proof

/-- The pattern of 1024. -/
theorem bits_1024 : Ideal.ofBits .f32 0x44800000#32 = ((1024 : ℝ) : EReal) := by
  have h1 : ((0x44800000#32 : BitVec 32).extractLsb' 23 8).toNat = 137 := by decide
  have h2 : ((0x44800000#32 : BitVec 32).extractLsb' 0 23).toNat = 0 := by decide
  have h3 : ((0x44800000#32 : BitVec 32).extractLsb' (8 + 23) 1 == 1#1) = false := by decide
  show Ideal.ieee 8 23 (0x44800000#32) = _
  simp only [Ideal.ieee]
  rw [h1, h2, h3, if_neg (by norm_num), if_neg (by norm_num)]
  norm_num

/-- The pattern of minus one half. -/
theorem bits_neg_half : Ideal.ofBits .f32 0xBF000000#32 = ((-1 / 2 : ℝ) : EReal) := by
  have h1 : ((0xBF000000#32 : BitVec 32).extractLsb' 23 8).toNat = 126 := by decide
  have h2 : ((0xBF000000#32 : BitVec 32).extractLsb' 0 23).toNat = 0 := by decide
  have h3 : ((0xBF000000#32 : BitVec 32).extractLsb' (8 + 23) 1 == 1#1) = true := by decide
  show Ideal.ieee 8 23 (0xBF000000#32) = _
  simp only [Ideal.ieee]
  rw [h1, h2, h3, if_neg (by norm_num), if_neg (by norm_num)]
  norm_num

/-- The pattern of the norm's small constant is of a positive number. -/
theorem bits_eps : ∃ e : ℝ, 0 < e ∧ Ideal.ofBits .f32 0x358637BD#32 = ((e : ℝ) : EReal) := by
  have h1 : ((0x358637BD#32 : BitVec 32).extractLsb' 23 8).toNat = 107 := by decide
  have h2 : ((0x358637BD#32 : BitVec 32).extractLsb' 0 23).toNat = 407485 := by decide
  have h3 : ((0x358637BD#32 : BitVec 32).extractLsb' (8 + 23) 1 == 1#1) = false := by decide
  refine ⟨(1 : ℝ) * (2 ^ 23 + 407485 : ℕ) * (2 : ℝ) ^ ((107 : Int) - (2 ^ (8 - 1) - 1) - 23), by positivity, ?_⟩
  show Ideal.ieee 8 23 (0x358637BD#32) = _
  simp only [Ideal.ieee]
  rw [h1, h2, h3, if_neg (by norm_num), if_neg (by norm_num)]
  norm_num

/-- A quotient of real numbers. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The inverse root of a positive number. -/
theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.le.not_gt, if_neg ha.ne']

/-- A row's mean square, with the constant that keeps it positive. -/
abbrev rowMeanSq {n : ℕ} (x : Fin n → EReal) : EReal :=
  Ideal.div (∑ k, x k * x k) (Ideal.ofBits .f32 0x44800000#32) + Ideal.ofBits .f32 0x358637BD#32

/-- At a real row the mean square is a positive number. -/
theorem rowMeanSq_real {n : ℕ} (x : Fin n → ℝ) : ∃ v : ℝ, 0 < v ∧ rowMeanSq (fun k => (x k : EReal)) = v := by
  obtain ⟨e, he, hb⟩ := bits_eps
  refine ⟨(∑ k, x k * x k) / 1024 + e, add_pos_of_nonneg_of_pos (div_nonneg (Finset.sum_nonneg fun k _ => mul_self_nonneg _) (by norm_num)) he, ?_⟩
  simp only [rowMeanSq, bits_1024, hb, ← EReal.coe_mul, IsReal.sum_coe, EReal.coe_add]
  rw [div_coe _ _ (by norm_num)]

/-- The inverse root mean square of a real row is real. -/
theorem rowScale_real {n : ℕ} (x : Fin n → EReal) (hx : ∀ k, IsReal (x k)) : IsReal (Ideal.rsqrt (rowMeanSq x)) := by
  choose x' hx' using hx
  obtain rfl : x = fun k => (x' k : EReal) := funext hx'
  obtain ⟨v, hv, hb⟩ := rowMeanSq_real x'
  rw [hb, rsqrt_coe v hv]
  exact IsReal.coe _

/-- The derivative of the norm at one entry of a row: the kernel's form is the product rule's. `d` is the cotangent of the
    normalised row, `D` what is added to the result. -/
theorem rms_bwd {n : ℕ} (x d : Fin n → EReal) (q : Fin n) (D : EReal) (hx : ∀ k, IsReal (x k)) (hd : ∀ k, IsReal (d k)) :
    D + Ideal.rsqrt (rowMeanSq x) * (d q - x q * Ideal.rsqrt (rowMeanSq x)
        * Ideal.div (∑ k, d k * (x k * Ideal.rsqrt (rowMeanSq x))) (Ideal.ofBits .f32 0x44800000#32))
      = D + d q * Ideal.rsqrt (rowMeanSq x)
        + x q * ∑ _x : Fin 1, Ideal.div ((∑ k, x k * d k) * (Ideal.ofBits .f32 0xBF000000#32
            * Ideal.div (Ideal.rsqrt (rowMeanSq x)) (rowMeanSq x))) (Ideal.ofBits .f32 0x44800000#32)
        + (∑ _x : Fin 1, Ideal.div ((∑ k, x k * d k) * (Ideal.ofBits .f32 0xBF000000#32
            * Ideal.div (Ideal.rsqrt (rowMeanSq x)) (rowMeanSq x))) (Ideal.ofBits .f32 0x44800000#32)) * x q := by
  choose x' hx' using hx
  choose d' hd' using hd
  obtain rfl : x = fun k => (x' k : EReal) := funext hx'
  obtain rfl : d = fun k => (d' k : EReal) := funext hd'
  obtain ⟨v, hv, hb⟩ := rowMeanSq_real x'
  have hs : Real.sqrt v ≠ 0 := (Real.sqrt_pos.mpr hv).ne'
  have hsv : Real.sqrt v * Real.sqrt v = v := Real.mul_self_sqrt hv.le
  rw [hb, rsqrt_coe v hv, bits_1024, bits_neg_half, div_coe _ _ hv.ne']
  simp only [← EReal.coe_mul, IsReal.sum_coe, Finset.univ_unique, Finset.sum_singleton]
  rw [div_coe _ _ (by norm_num), div_coe _ _ (by norm_num)]
  simp only [← EReal.coe_mul, ← EReal.coe_sub, add_assoc, ← EReal.coe_add]
  congr 2
  have h1 : ∑ k, d' k * (x' k * (Real.sqrt v)⁻¹) = (∑ k, x' k * d' k) * (Real.sqrt v)⁻¹ := by
    rw [Finset.sum_mul]
    exact Finset.sum_congr rfl fun k _ => by ring
  rw [h1]
  generalize ∑ k, x' k * d' k = S
  have h2 : (Real.sqrt v)⁻¹ / v = (Real.sqrt v)⁻¹ * ((Real.sqrt v)⁻¹ * (Real.sqrt v)⁻¹) := by
    rw [← mul_inv, hsv, div_eq_mul_inv]
  rw [h2]
  ring

end Cert.Proof

end
-- ==== Proof.Ffn.BwdDown.lean ====
/- The cotangent of the first residual: the rows of a point are the reference's, where the arguments are finite. -/
module

public import proofs.«01_k».proof.Defs
public import proofs.«01_k».proof.Proof.Gen.Pre_finite4
public import proofs.«01_k».proof.Proof.Gen.Kernel4Ideal.Value
public import proofs.«01_k».proof.Proof.Gen.Reference4Ideal.Run
public import proofs.«01_k».proof.Proof.Ffn.Rms

@[expose] public section

set_option maxRecDepth 16384

noncomputable section

open Idealize.ShloMosaic Idealize.ShloMosaic.TcCoe Idealize.SL.Sem
open Idealize.ShloMosaic.Pipeline (Dat)
open Cert.Proof (IsReal)

namespace Cert.Kernel4Ideal.BwdDown

open Cert.Kernel4Ideal Cert.Kernel4Ideal.Gen

variable (m : (ℓ : Loc nD τ sig) → Buf (Elt Ideal) ℓ)

open Cert.Reference4Ideal.Gen in
/-- A row's mean square, with the constant that keeps it from zero. -/
abbrev meanSq (X : FVec Ideal S8192x1024 .f32) : FVec Ideal Cert.Reference4Ideal.S8192x1 .f32 :=
  addf (Host.divf (broadcastInDim Cert.Reference4Ideal.S8192x1 ![0] bcast_S8192_S8192x1_0 (Host.reduceAdd (mulf X X)
      (constant Cert.Reference4Ideal.S_ .f32 0x00000000#32) reducesTo_S8192x1024_S8192_d1 h_S_))
    (broadcastInDim Cert.Reference4Ideal.S8192x1 ![] bcast_S_S8192x1 (constant Cert.Reference4Ideal.S_ .f32 0x44800000#32)))
    (broadcastInDim Cert.Reference4Ideal.S8192x1 ![] bcast_S_S8192x1 (constant Cert.Reference4Ideal.S_ .f32 0x358637BD#32))

open Cert.Reference4Ideal.Gen in
/-- The cotangent of the mean square's square, by the product rule: half of what a row's entries are multiplied with. -/
abbrev slope (X C : FVec Ideal S8192x1024 .f32) : FVec Ideal Cert.Reference4Ideal.S8192 .f32 :=
  Host.reduceAdd (Host.divf (mulf (shapeCast Cert.Reference4Ideal.S8192x1 (Host.reduceAdd (mulf X C)
      (constant Cert.Reference4Ideal.S_ .f32 0x00000000#32) reducesTo_S8192x1024_S8192_d1 h_S_) shapeCasts_S8192_S8192x1)
    (mulf (broadcastInDim Cert.Reference4Ideal.S8192x1 ![] bcast_S_S8192x1 (constant Cert.Reference4Ideal.S_ .f32 0xBF000000#32))
      (Host.divf (Host.rsqrt (meanSq X)) (meanSq X))))
    (broadcastInDim Cert.Reference4Ideal.S8192x1 ![] bcast_S_S8192x1 (constant Cert.Reference4Ideal.S_ .f32 0x44800000#32)))
    (constant Cert.Reference4Ideal.S_ .f32 0x00000000#32) reducesTo_S8192x1_S8192_d1 h_S_

open Cert.Reference4Ideal.Gen in
/-- The reference's cotangent of the first residual, from the gain-scaled cotangent of its normalised rows. -/
abbrev back (X C D : FVec Ideal S8192x1024 .f32) : FVec Ideal S8192x1024 .f32 :=
  addf (addf (addf D (mulf C (broadcastInDim S8192x1024 ![0, 1] bcast_S8192x1_S8192x1024_0_1 (Host.rsqrt (meanSq X)))))
    (mulf X (broadcastInDim S8192x1024 ![0] bcast_S8192_S8192x1024_0 (slope X C))))
    (mulf (broadcastInDim S8192x1024 ![0] bcast_S8192_S8192x1024_0 (slope X C)) X)

open Cert.Reference4Ideal.Gen in
/-- The cotangent of the normalised rows, through both products. -/
abbrev dnorm (W1 W3 : FVec Ideal Cert.Reference4Ideal.S1024x2816 .f32) (A1 A3 : FVec Ideal Cert.Reference4Ideal.S8192x2816 .bf16) : FVec Ideal S8192x1024 .f32 :=
  addf (Host.dotGeneral Cert.Reference4Ideal.dot_S8192x2816_S1024x2816_S8192x1024_1_1_0_0_n_n none (extf .f32 A3 Cert.Reference4Ideal.Gen.bitsLt_bf16_f32) W3)
    (Host.dotGeneral Cert.Reference4Ideal.dot_S8192x2816_S1024x2816_S8192x1024_1_1_0_0_n_n none (extf .f32 A1 Cert.Reference4Ideal.Gen.bitsLt_bf16_f32) W1)

open Cert.Reference4Ideal.Gen in
/-- ... times the gain. -/
abbrev scaled (P : FVec Ideal S8192x1024 .f32) (G : FVec Ideal Cert.Reference4Ideal.S1024 .f32) : FVec Ideal S8192x1024 .f32 :=
  mulf P (broadcastInDim S8192x1024 ![0, 1] bcast_S1x1024_S8192x1024_0_1 (broadcastInDim Cert.Reference4Ideal.S1x1024 ![1] bcast_S1024_S1x1024_1 G))

/-- Which block of its array each window holds at a grid point. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![t.val, 0] :=
  (by decide +kernel : ∀ t : Fin grid0.N, _)

/-- Splitting the columns of a matrix and putting their blocks first. -/
theorem byCols (A : FVec Ideal Cert.Reference4Ideal.S8192x2816 .bf16) (j : S4x8192x704.Idx) (i : Cert.Reference4Ideal.S8192x2816.Idx)
    (h0 : (i 0 : ℕ) = j 1) (h1 : (i 1 : ℕ) = (j 0 : ℕ) * 704 + j 2) :
    transpose S4x8192x704 [1, 0, 2] (shapeCast S8192x4x704 A shapeCasts_S8192x2816_S8192x4x704)
      transposes_S8192x4x704_S4x8192x704_1_0_2 j = A i := by
  pointwise
  blk_ext

/-- Splitting the rows of a transposed matrix. -/
theorem byRows (W : FVec Ideal Cert.Reference4Ideal.S1024x2816 .f32) (j : S4x704x1024.Idx) (i : Cert.Reference4Ideal.S1024x2816.Idx)
    (h0 : (i 0 : ℕ) = j 2) (h1 : (i 1 : ℕ) = (j 0 : ℕ) * 704 + j 1) :
    shapeCast S4x704x1024 (transpose S2816x1024 [1, 0] W transposes_S1024x2816_S2816x1024_1_0) shapeCasts_S2816x1024_S4x704x1024 j = W i := by
  pointwise
  blk_ext

/-- A cotangent's window at a point: its columns split by chip, at the rows of the point. -/
theorem da1_at (c : Dev nD) (t : Fin cfg0.N) (g : Fin 4) (r : Fin 512) (k : Fin 704) (u : Fin 8192) (v : Fin 2816)
    (hu : (u : ℕ) = t.val * 512 + r) (hv : (v : ℕ) = g * 704 + k) :
    iblk m c 0 t (ix3 g r k) = m ((c.tc : Thread nD τ).loc main_arg4) (ix2 u v) := by
  unfold iblk
  blk_simp [idx t]
  entry_read
  refine byCols _ _ (ix2 u v) ?_ ?_ <;> blk_simp [idx t] <;> (try dsimp only) <;> omega

/-- A cotangent's window at a point: its columns split by chip, at the rows of the point. -/
theorem da3_at (c : Dev nD) (t : Fin cfg0.N) (g : Fin 4) (r : Fin 512) (k : Fin 704) (u : Fin 8192) (v : Fin 2816)
    (hu : (u : ℕ) = t.val * 512 + r) (hv : (v : ℕ) = g * 704 + k) :
    iblk m c 1 t (ix3 g r k) = m ((c.tc : Thread nD τ).loc main_arg5) (ix2 u v) := by
  unfold iblk
  blk_simp [idx t]
  entry_read
  refine byCols _ _ (ix2 u v) ?_ ?_ <;> blk_simp [idx t] <;> (try dsimp only) <;> omega

/-- A weight's window: the weight, its columns split by chip and transposed. -/
theorem w1_at (c : Dev nD) (t : Fin cfg0.N) (g : Fin 4) (k : Fin 704) (b : Fin 1024) (v : Fin 2816) (hv : (v : ℕ) = g * 704 + k) :
    iblk m c 5 t (ix3 g k b) = m ((c.tc : Thread nD τ).loc main_arg2) (ix2 b v) := by
  unfold iblk
  blk_simp [idx t]
  entry_read
  refine byRows _ _ (ix2 b v) ?_ ?_ <;> blk_simp [idx t] <;> (try dsimp only) <;> omega

/-- A weight's window: the weight, its columns split by chip and transposed. -/
theorem w3_at (c : Dev nD) (t : Fin cfg0.N) (g : Fin 4) (k : Fin 704) (b : Fin 1024) (v : Fin 2816) (hv : (v : ℕ) = g * 704 + k) :
    iblk m c 6 t (ix3 g k b) = m ((c.tc : Thread nD τ).loc main_arg3) (ix2 b v) := by
  unfold iblk
  blk_simp [idx t]
  entry_read
  refine byRows _ _ (ix2 b v) ?_ ?_ <;> blk_simp [idx t] <;> (try dsimp only) <;> omega

/-- A sum over the features, chip by chip. -/
theorem sum_chips (f : Fin 2816 → EReal) : ∑ x, f x
    = ((∑ k : Fin 704, f ⟨0 * 704 + k, by omega⟩ + ∑ k : Fin 704, f ⟨1 * 704 + k, by omega⟩) + ∑ k : Fin 704, f ⟨2 * 704 + k, by omega⟩)
      + ∑ k : Fin 704, f ⟨3 * 704 + k, by omega⟩ := by
  rw [Fin.sum_univ_add (a := 2112) (b := 704) f, Fin.sum_univ_add (a := 1408) (b := 704), Fin.sum_univ_add (a := 704) (b := 704)]
  refine congrArg₂ (· + ·) (congrArg₂ (· + ·) (congrArg₂ (· + ·) ?_ ?_) ?_) ?_ <;> refine Finset.sum_congr rfl fun k _ => congrArg f (Fin.ext ?_)
    <;> simp <;> omega

/-- The kernel adds the products chip by chip, the reference weight by weight. -/
theorem by_weight {p0 q0 p1 q1 p2 q2 p3 q3 p0' q0' p1' q1' p2' q2' p3' q3' : EReal} (h0 : p0 = p0') (k0 : q0 = q0') (h1 : p1 = p1')
    (k1 : q1 = q1') (h2 : p2 = p2') (k2 : q2 = q2') (h3 : p3 = p3') (k3 : q3 = q3') :
    p0 + q0 + (p1 + q1) + (p2 + q2) + (p3 + q3) = q0' + q1' + q2' + q3' + (p0' + p1' + p2' + p3') := by
  subst h0 k0 h1 k1 h2 k2 h3 k3
  abel

/-- The cotangent of the normalised rows, at rows 0 to 255 of a point. -/
theorem dnorm_0 (c : Dev nD) (t : Fin cfg0.N) (a : Fin 256) (b : Fin 1024) (u : Fin 8192) (hu : (u : ℕ) = t.val * 512 + a) :
    k0_pay7 (F := Ideal) (k0_pay4 (View.ld (iblk m c 0 t) (Rect.unit ![0, 0, 0] ![1, 256, 704] inb_S4x512x704_S1x256x704_0_0_0)) (View.ld (iblk m c 5 t) (Rect.unit ![0, 0, 0] ![1, 704, 1024] inb_S4x704x1024_S1x704x1024_0_0_0))
          (View.ld (iblk m c 1 t) (Rect.unit ![0, 0, 0] ![1, 256, 704] inb_S4x512x704_S1x256x704_0_0_0)) (View.ld (iblk m c 6 t) (Rect.unit ![0, 0, 0] ![1, 704, 1024] inb_S4x704x1024_S1x704x1024_0_0_0)))
        (k0_pay5 (View.ld (iblk m c 0 t) (Rect.unit ![1, 0, 0] ![1, 256, 704] inb_S4x512x704_S1x256x704_1_0_0)) (View.ld (iblk m c 5 t) (Rect.unit ![1, 0, 0] ![1, 704, 1024] inb_S4x704x1024_S1x704x1024_1_0_0)))
        (k0_pay6 (View.ld (iblk m c 1 t) (Rect.unit ![1, 0, 0] ![1, 256, 704] inb_S4x512x704_S1x256x704_1_0_0)) (View.ld (iblk m c 6 t) (Rect.unit ![1, 0, 0] ![1, 704, 1024] inb_S4x704x1024_S1x704x1024_1_0_0)))
        (View.ld (iblk m c 0 t) (Rect.unit ![2, 0, 0] ![1, 256, 704] inb_S4x512x704_S1x256x704_2_0_0)) (View.ld (iblk m c 5 t) (Rect.unit ![2, 0, 0] ![1, 704, 1024] inb_S4x704x1024_S1x704x1024_2_0_0))
          (View.ld (iblk m c 1 t) (Rect.unit ![2, 0, 0] ![1, 256, 704] inb_S4x512x704_S1x256x704_2_0_0)) (View.ld (iblk m c 6 t) (Rect.unit ![2, 0, 0] ![1, 704, 1024] inb_S4x704x1024_S1x704x1024_2_0_0))
        (View.ld (iblk m c 0 t) (Rect.unit ![3, 0, 0] ![1, 256, 704] inb_S4x512x704_S1x256x704_3_0_0)) (View.ld (iblk m c 5 t) (Rect.unit ![3, 0, 0] ![1, 704, 1024] inb_S4x704x1024_S1x704x1024_3_0_0))
          (View.ld (iblk m c 1 t) (Rect.unit ![3, 0, 0] ![1, 256, 704] inb_S4x512x704_S1x256x704_3_0_0)) (View.ld (iblk m c 6 t) (Rect.unit ![3, 0, 0] ![1, 704, 1024] inb_S4x704x1024_S1x704x1024_3_0_0)) (ix2 a b)
      = dnorm (m ((c.tc : Thread nD τ).loc main_arg2)) (m ((c.tc : Thread nD τ).loc main_arg3)) (m ((c.tc : Thread nD τ).loc main_arg4)) (m ((c.tc : Thread nD τ).loc main_arg5)) (ix2 u b) := by
  pointwise [k0_pay7, k0_pay4, k0_pay5, k0_pay6, dnorm]
  rw [sum_chips, sum_chips]
  refine by_weight ?_ ?_ ?_ ?_ ?_ ?_ ?_ ?_ <;> refine Finset.sum_congr rfl fun k _ => congrArg₂ (· * ·) ?_ ?_
  · exact da1_at m c t 0 ⟨a, by omega⟩ k u _ hu rfl
  · exact w1_at m c t 0 k b _ rfl
  · exact da3_at m c t 0 ⟨a, by omega⟩ k u _ hu rfl
  · exact w3_at m c t 0 k b _ rfl
  · exact da1_at m c t 1 ⟨a, by omega⟩ k u _ hu rfl
  · exact w1_at m c t 1 k b _ rfl
  · exact da3_at m c t 1 ⟨a, by omega⟩ k u _ hu rfl
  · exact w3_at m c t 1 k b _ rfl
  · exact da1_at m c t 2 ⟨a, by omega⟩ k u _ hu rfl
  · exact w1_at m c t 2 k b _ rfl
  · exact da3_at m c t 2 ⟨a, by omega⟩ k u _ hu rfl
  · exact w3_at m c t 2 k b _ rfl
  · exact da1_at m c t 3 ⟨a, by omega⟩ k u _ hu rfl
  · exact w1_at m c t 3 k b _ rfl
  · exact da3_at m c t 3 ⟨a, by omega⟩ k u _ hu rfl
  · exact w3_at m c t 3 k b _ rfl

/-- The cotangent of the normalised rows, at rows 256 to 511 of a point. -/
theorem dnorm_256 (c : Dev nD) (t : Fin cfg0.N) (a : Fin 256) (b : Fin 1024) (u : Fin 8192) (hu : (u : ℕ) = t.val * 512 + (256 + a)) :
    k0_pay17 (F := Ideal) (k0_pay14 (k0_pay13 (View.ld (iblk m c 0 t) (Rect.unit ![0, 256, 0] ![1, 256, 704] inb_S4x512x704_S1x256x704_0_256_0)) (View.ld (iblk m c 5 t) (Rect.unit ![0, 0, 0] ![1, 704, 1024] inb_S4x704x1024_S1x704x1024_0_0_0)))
          (View.ld (iblk m c 1 t) (Rect.unit ![0, 256, 0] ![1, 256, 704] inb_S4x512x704_S1x256x704_0_256_0)) (View.ld (iblk m c 6 t) (Rect.unit ![0, 0, 0] ![1, 704, 1024] inb_S4x704x1024_S1x704x1024_0_0_0))
          (View.ld (iblk m c 0 t) (Rect.unit ![1, 256, 0] ![1, 256, 704] inb_S4x512x704_S1x256x704_1_256_0)) (View.ld (iblk m c 5 t) (Rect.unit ![1, 0, 0] ![1, 704, 1024] inb_S4x704x1024_S1x704x1024_1_0_0))
          (View.ld (iblk m c 1 t) (Rect.unit ![1, 256, 0] ![1, 256, 704] inb_S4x512x704_S1x256x704_1_256_0)) (View.ld (iblk m c 6 t) (Rect.unit ![1, 0, 0] ![1, 704, 1024] inb_S4x704x1024_S1x704x1024_1_0_0)))
        (k0_pay15 (View.ld (iblk m c 0 t) (Rect.unit ![2, 256, 0] ![1, 256, 704] inb_S4x512x704_S1x256x704_2_256_0)) (View.ld (iblk m c 5 t) (Rect.unit ![2, 0, 0] ![1, 704, 1024] inb_S4x704x1024_S1x704x1024_2_0_0)))
        (k0_pay16 (View.ld (iblk m c 1 t) (Rect.unit ![2, 256, 0] ![1, 256, 704] inb_S4x512x704_S1x256x704_2_256_0)) (View.ld (iblk m c 6 t) (Rect.unit ![2, 0, 0] ![1, 704, 1024] inb_S4x704x1024_S1x704x1024_2_0_0)))
        (View.ld (iblk m c 0 t) (Rect.unit ![3, 256, 0] ![1, 256, 704] inb_S4x512x704_S1x256x704_3_256_0)) (View.ld (iblk m c 5 t) (Rect.unit ![3, 0, 0] ![1, 704, 1024] inb_S4x704x1024_S1x704x1024_3_0_0))
          (View.ld (iblk m c 1 t) (Rect.unit ![3, 256, 0] ![1, 256, 704] inb_S4x512x704_S1x256x704_3_256_0)) (View.ld (iblk m c 6 t) (Rect.unit ![3, 0, 0] ![1, 704, 1024] inb_S4x704x1024_S1x704x1024_3_0_0)) (ix2 a b)
      = dnorm (m ((c.tc : Thread nD τ).loc main_arg2)) (m ((c.tc : Thread nD τ).loc main_arg3)) (m ((c.tc : Thread nD τ).loc main_arg4)) (m ((c.tc : Thread nD τ).loc main_arg5)) (ix2 u b) := by
  pointwise [k0_pay17, k0_pay14, k0_pay13, k0_pay15, k0_pay16, dnorm]
  rw [sum_chips, sum_chips]
  refine by_weight ?_ ?_ ?_ ?_ ?_ ?_ ?_ ?_ <;> refine Finset.sum_congr rfl fun k _ => congrArg₂ (· * ·) ?_ ?_
  · exact da1_at m c t 0 ⟨256 + a, by omega⟩ k u _ hu rfl
  · exact w1_at m c t 0 k b _ rfl
  · exact da3_at m c t 0 ⟨256 + a, by omega⟩ k u _ hu rfl
  · exact w3_at m c t 0 k b _ rfl
  · exact da1_at m c t 1 ⟨256 + a, by omega⟩ k u _ hu rfl
  · exact w1_at m c t 1 k b _ rfl
  · exact da3_at m c t 1 ⟨256 + a, by omega⟩ k u _ hu rfl
  · exact w3_at m c t 1 k b _ rfl
  · exact da1_at m c t 2 ⟨256 + a, by omega⟩ k u _ hu rfl
  · exact w1_at m c t 2 k b _ rfl
  · exact da3_at m c t 2 ⟨256 + a, by omega⟩ k u _ hu rfl
  · exact w3_at m c t 2 k b _ rfl
  · exact da1_at m c t 3 ⟨256 + a, by omega⟩ k u _ hu rfl
  · exact w1_at m c t 3 k b _ rfl
  · exact da3_at m c t 3 ⟨256 + a, by omega⟩ k u _ hu rfl
  · exact w3_at m c t 3 k b _ rfl

/-- One entry of a tile: the kernel's derivative of the norm is the reference's. -/
theorem core (P H : FVec Ideal S256x1024 .f32) (G : FVec Ideal S1x1024 .f32) (E : Vec Ideal S256x1024 .f32) (X C D : FVec Ideal S8192x1024 .f32)
    (a : Fin 256) (b : Fin 1024) (u : Fin 8192) (hx : ∀ k : Fin 1024, H (ix2 a k) = X (ix2 u k))
    (hc : ∀ k : Fin 1024, P (ix2 a k) * G (ix2 0 k) = C (ix2 u k)) (hd : E (ix2 a b) = D (ix2 u b))
    (rX : ∀ k : Fin 1024, IsReal (X (ix2 u k))) (rC : ∀ k : Fin 1024, IsReal (C (ix2 u k))) :
    k0_pay12 (F := Ideal) G P H (k0_pay8 H) E (ix2 a b) = back X C D (ix2 u b) := by
  pointwise [k0_pay12, k0_pay8, k0_pay9, k0_pay10, back, slope, meanSq]
  simp only [hx, hc, hd]
  exact Cert.Proof.rms_bwd (fun k : Fin 1024 => X (ix2 u k)) (fun k : Fin 1024 => C (ix2 u k)) b _ rX rC

/-- The same, at any index of the tile and of the array. -/
theorem core_0 (P H : FVec Ideal S256x1024 .f32) (G : FVec Ideal S1x1024 .f32) (E : Vec Ideal S256x1024 .f32) (X C D : FVec Ideal S8192x1024 .f32)
    (y : S256x1024.Idx) (j : S8192x1024.Idx) (hx : ∀ k : Fin 1024, H (ix2 (y 0) k) = X (ix2 (j 0) k))
    (hc : ∀ k : Fin 1024, P (ix2 (y 0) k) * G (ix2 0 k) = C (ix2 (j 0) k)) (hd : E y = D j) (hj : (j 1 : ℕ) = y 1)
    (rX : ∀ k : Fin 1024, IsReal (X (ix2 (j 0) k))) (rC : ∀ k : Fin 1024, IsReal (C (ix2 (j 0) k))) :
    k0_pay12 (F := Ideal) G P H (k0_pay8 H) E y = back X C D j := by
  obtain ⟨a, b, rfl⟩ : ∃ (a : Fin 256) (b : Fin 1024), y = ix2 a b := ⟨_, _, eq_ix2 y⟩
  obtain ⟨u, v, rfl⟩ : ∃ (u : Fin 8192) (v : Fin 1024), j = ix2 u v := ⟨_, _, eq_ix2 j⟩
  obtain rfl : v = b := Fin.ext hj
  exact core P H G E X C D a v u hx hc hd rX rC

/-- ... and of the second half of the rows. -/
theorem core_256 (P H : FVec Ideal S256x1024 .f32) (G : FVec Ideal S1x1024 .f32) (E : Vec Ideal S256x1024 .f32) (X C D : FVec Ideal S8192x1024 .f32)
    (y : S256x1024.Idx) (j : S8192x1024.Idx) (hx : ∀ k : Fin 1024, H (ix2 (y 0) k) = X (ix2 (j 0) k))
    (hc : ∀ k : Fin 1024, P (ix2 (y 0) k) * G (ix2 0 k) = C (ix2 (j 0) k)) (hd : E y = D j) (hj : (j 1 : ℕ) = y 1)
    (rX : ∀ k : Fin 1024, IsReal (X (ix2 (j 0) k))) (rC : ∀ k : Fin 1024, IsReal (C (ix2 (j 0) k))) :
    k0_pay1 (F := Ideal) G P (k0_pay18 H) (k0_pay19 H) E y = back X C D j :=
  (rfl : k0_pay1 (F := Ideal) G P (k0_pay18 H) (k0_pay19 H) E y = k0_pay12 (F := Ideal) G P H (k0_pay8 H) E y).trans
    (core_0 P H G E X C D y j hx hc hd hj rX rC)

/-- The gain's window is the gain, as a row. -/
theorem gain_at (c : Dev nD) (t : Fin cfg0.N) (k : Fin 1024) :
    k0_pay3 (F := Ideal) (iblk m c 4 t) (ix2 0 k) = m ((c.tc : Thread nD τ).loc main_arg1) (ix1 k) := by
  pointwise [k0_pay3]
  blk_point [iblk, V, idx t]

/-- ... times the gain. -/
theorem scaled_0 (c : Dev nD) (t : Fin cfg0.N) (a : Fin 256) (k : Fin 1024) (u : Fin 8192) (hu : (u : ℕ) = t.val * 512 + a) :
    k0_pay7 (F := Ideal) (k0_pay4 (View.ld (iblk m c 0 t) (Rect.unit ![0, 0, 0] ![1, 256, 704] inb_S4x512x704_S1x256x704_0_0_0)) (View.ld (iblk m c 5 t) (Rect.unit ![0, 0, 0] ![1, 704, 1024] inb_S4x704x1024_S1x704x1024_0_0_0))
          (View.ld (iblk m c 1 t) (Rect.unit ![0, 0, 0] ![1, 256, 704] inb_S4x512x704_S1x256x704_0_0_0)) (View.ld (iblk m c 6 t) (Rect.unit ![0, 0, 0] ![1, 704, 1024] inb_S4x704x1024_S1x704x1024_0_0_0)))
        (k0_pay5 (View.ld (iblk m c 0 t) (Rect.unit ![1, 0, 0] ![1, 256, 704] inb_S4x512x704_S1x256x704_1_0_0)) (View.ld (iblk m c 5 t) (Rect.unit ![1, 0, 0] ![1, 704, 1024] inb_S4x704x1024_S1x704x1024_1_0_0)))
        (k0_pay6 (View.ld (iblk m c 1 t) (Rect.unit ![1, 0, 0] ![1, 256, 704] inb_S4x512x704_S1x256x704_1_0_0)) (View.ld (iblk m c 6 t) (Rect.unit ![1, 0, 0] ![1, 704, 1024] inb_S4x704x1024_S1x704x1024_1_0_0)))
        (View.ld (iblk m c 0 t) (Rect.unit ![2, 0, 0] ![1, 256, 704] inb_S4x512x704_S1x256x704_2_0_0)) (View.ld (iblk m c 5 t) (Rect.unit ![2, 0, 0] ![1, 704, 1024] inb_S4x704x1024_S1x704x1024_2_0_0))
          (View.ld (iblk m c 1 t) (Rect.unit ![2, 0, 0] ![1, 256, 704] inb_S4x512x704_S1x256x704_2_0_0)) (View.ld (iblk m c 6 t) (Rect.unit ![2, 0, 0] ![1, 704, 1024] inb_S4x704x1024_S1x704x1024_2_0_0))
        (View.ld (iblk m c 0 t) (Rect.unit ![3, 0, 0] ![1, 256, 704] inb_S4x512x704_S1x256x704_3_0_0)) (View.ld (iblk m c 5 t) (Rect.unit ![3, 0, 0] ![1, 704, 1024] inb_S4x704x1024_S1x704x1024_3_0_0))
          (View.ld (iblk m c 1 t) (Rect.unit ![3, 0, 0] ![1, 256, 704] inb_S4x512x704_S1x256x704_3_0_0)) (View.ld (iblk m c 6 t) (Rect.unit ![3, 0, 0] ![1, 704, 1024] inb_S4x704x1024_S1x704x1024_3_0_0)) (ix2 a k)
      * k0_pay3 (F := Ideal) (iblk m c 4 t) (ix2 0 k)
      = scaled (dnorm (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (ix2 u k) := by
  rw [dnorm_0 m c t a k u hu, gain_at m c t k]
  pointwise [scaled]

/-- ... times the gain. -/
theorem scaled_256 (c : Dev nD) (t : Fin cfg0.N) (a : Fin 256) (k : Fin 1024) (u : Fin 8192) (hu : (u : ℕ) = t.val * 512 + (256 + a)) :
    k0_pay17 (F := Ideal) (k0_pay14 (k0_pay13 (View.ld (iblk m c 0 t) (Rect.unit ![0, 256, 0] ![1, 256, 704] inb_S4x512x704_S1x256x704_0_256_0)) (View.ld (iblk m c 5 t) (Rect.unit ![0, 0, 0] ![1, 704, 1024] inb_S4x704x1024_S1x704x1024_0_0_0)))
          (View.ld (iblk m c 1 t) (Rect.unit ![0, 256, 0] ![1, 256, 704] inb_S4x512x704_S1x256x704_0_256_0)) (View.ld (iblk m c 6 t) (Rect.unit ![0, 0, 0] ![1, 704, 1024] inb_S4x704x1024_S1x704x1024_0_0_0))
          (View.ld (iblk m c 0 t) (Rect.unit ![1, 256, 0] ![1, 256, 704] inb_S4x512x704_S1x256x704_1_256_0)) (View.ld (iblk m c 5 t) (Rect.unit ![1, 0, 0] ![1, 704, 1024] inb_S4x704x1024_S1x704x1024_1_0_0))
          (View.ld (iblk m c 1 t) (Rect.unit ![1, 256, 0] ![1, 256, 704] inb_S4x512x704_S1x256x704_1_256_0)) (View.ld (iblk m c 6 t) (Rect.unit ![1, 0, 0] ![1, 704, 1024] inb_S4x704x1024_S1x704x1024_1_0_0)))
        (k0_pay15 (View.ld (iblk m c 0 t) (Rect.unit ![2, 256, 0] ![1, 256, 704] inb_S4x512x704_S1x256x704_2_256_0)) (View.ld (iblk m c 5 t) (Rect.unit ![2, 0, 0] ![1, 704, 1024] inb_S4x704x1024_S1x704x1024_2_0_0)))
        (k0_pay16 (View.ld (iblk m c 1 t) (Rect.unit ![2, 256, 0] ![1, 256, 704] inb_S4x512x704_S1x256x704_2_256_0)) (View.ld (iblk m c 6 t) (Rect.unit ![2, 0, 0] ![1, 704, 1024] inb_S4x704x1024_S1x704x1024_2_0_0)))
        (View.ld (iblk m c 0 t) (Rect.unit ![3, 256, 0] ![1, 256, 704] inb_S4x512x704_S1x256x704_3_256_0)) (View.ld (iblk m c 5 t) (Rect.unit ![3, 0, 0] ![1, 704, 1024] inb_S4x704x1024_S1x704x1024_3_0_0))
          (View.ld (iblk m c 1 t) (Rect.unit ![3, 256, 0] ![1, 256, 704] inb_S4x512x704_S1x256x704_3_256_0)) (View.ld (iblk m c 6 t) (Rect.unit ![3, 0, 0] ![1, 704, 1024] inb_S4x704x1024_S1x704x1024_3_0_0)) (ix2 a k)
      * k0_pay3 (F := Ideal) (iblk m c 4 t) (ix2 0 k)
      = scaled (dnorm (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (ix2 u k) := by
  rw [dnorm_256 m c t a k u hu, gain_at m c t k]
  pointwise [scaled]

theorem final7 (c : Dev nD)
    (rX : ∀ j, IsReal (m ((c.tc : Thread nD τ).loc main_arg0) j)) (rG : ∀ j, IsReal (m ((c.tc : Thread nD τ).loc main_arg1) j))
    (rW1 : ∀ j, IsReal (m ((c.tc : Thread nD τ).loc main_arg2) j)) (rW3 : ∀ j, IsReal (m ((c.tc : Thread nD τ).loc main_arg3) j))
    (rA1 : ∀ j, IsReal (m ((c.tc : Thread nD τ).loc main_arg4) j)) (rA3 : ∀ j, IsReal (m ((c.tc : Thread nD τ).loc main_arg5) j)) :
    (dats m 0 c).arrAt 7 (cfgs 0).N = back (m ((c.tc : Thread nD τ).loc main_arg0)) (scaled (dnorm (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1))) (m ((c.tc : Thread nD τ).loc main_arg6)) := by
  refine (dats m 0 c).arrAt_eq_of_covers 7 _ (by decide +kernel) fun t hf y => ?_
  blk_simp
  rw [after0_7]
  have rC : ∀ (u : Fin 8192) (k : Fin 1024), IsReal (scaled (dnorm (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (ix2 u k)) := fun u k => by
    pointwise [scaled, dnorm]
    exact ((IsReal.sum _ _ fun k => (rA3 _).mul (rW3 _)).add (IsReal.sum _ _ fun k => (rA1 _).mul (rW1 _))).mul (rG _)
  by_cases h0 : t.val % 16 = 0
  · rw [outsAt0_A m c t h0]
    dsimp only
    frame_out
    canon_tiles x h
    · refine core_256 _ _ _ _ _ _ _ x _ (fun k => ?_) (fun k => ?_) ?_ ?_ (fun k => rX _) (fun k => rC _ k)
      · blk_simp [idx t]
        blk_point [iblk, V, idx t]
      · refine scaled_256 m c t (x 0) k _ ?_
        blk_simp [idx t]; omega
      · blk_point [iblk, V, idx t]
      · blk_simp [idx t]; omega
    · refine core_0 _ _ _ _ _ _ _ x _ (fun k => ?_) (fun k => ?_) ?_ ?_ (fun k => rX _) (fun k => rC _ k)
      · blk_simp [idx t]
        blk_point [iblk, V, idx t]
      · refine scaled_0 m c t (x 0) k _ ?_
        blk_simp [idx t]; omega
      · blk_point [iblk, V, idx t]
      · blk_simp [idx t]; omega
  · rw [outsAt0_B m c t h0]
    dsimp only
    frame_out
    canon_tiles x h
    · refine core_256 _ _ _ _ _ _ _ x _ (fun k => ?_) (fun k => ?_) ?_ ?_ (fun k => rX _) (fun k => rC _ k)
      · blk_simp [idx t]
        blk_point [iblk, V, idx t]
      · refine scaled_256 m c t (x 0) k _ ?_
        blk_simp [idx t]; omega
      · blk_point [iblk, V, idx t]
      · blk_simp [idx t]; omega
    · refine core_0 _ _ _ _ _ _ _ x _ (fun k => ?_) (fun k => ?_) ?_ ?_ (fun k => rX _) (fun k => rC _ k)
      · blk_simp [idx t]
        blk_point [iblk, V, idx t]
      · refine scaled_0 m c t (x 0) k _ ?_
        blk_simp [idx t]; omega
      · blk_point [iblk, V, idx t]
      · blk_simp [idx t]; omega

/-- Where the precondition holds, the arguments are real numbers. -/
theorem real_of_finite (hpre : Cert.Pre_Kernel4Ideal_finite4 m) (c : Dev nD) :
    (∀ j, IsReal ((m ((c.tc : Thread nD τ).loc main_arg0)) j)) ∧ (∀ j, IsReal ((m ((c.tc : Thread nD τ).loc main_arg1)) j)) ∧ (∀ j, IsReal ((m ((c.tc : Thread nD τ).loc main_arg2)) j)) ∧ (∀ j, IsReal ((m ((c.tc : Thread nD τ).loc main_arg3)) j)) ∧ (∀ j, IsReal ((m ((c.tc : Thread nD τ).loc main_arg4)) j))
    ∧ (∀ j, IsReal ((m ((c.tc : Thread nD τ).loc main_arg5)) j)) ∧ (∀ j, IsReal ((m ((c.tc : Thread nD τ).loc main_arg6)) j)) := by
  obtain ⟨h0, h1, h2, h3, h4, h5, h6⟩ := hpre c
  refine ⟨fun j => ?_, fun j => ?_, fun j => ?_, fun j => ?_, fun j => ?_, fun j => ?_, fun j => ?_⟩
  · have h := congrFun h0 j
    pointwise [Cert.Pre_finite4.fn] at h
    exact IsReal.of_cmp h
  · have h := congrFun h1 j
    pointwise [Cert.Pre_finite4.fn] at h
    exact IsReal.of_cmp h
  · have h := congrFun h2 j
    pointwise [Cert.Pre_finite4.fn] at h
    exact IsReal.of_cmp h
  · have h := congrFun h3 j
    pointwise [Cert.Pre_finite4.fn] at h
    exact IsReal.of_cmp h
  · have h := congrFun h4 j
    pointwise [Cert.Pre_finite4.fn] at h
    exact IsReal.of_cmp h
  · have h := congrFun h5 j
    pointwise [Cert.Pre_finite4.fn] at h
    exact IsReal.of_cmp h
  · have h := congrFun h6 j
    pointwise [Cert.Pre_finite4.fn] at h
    exact IsReal.of_cmp h

end Cert.Kernel4Ideal.BwdDown

end
-- ==== Proof.Ffn.BwdDownGain.lean ====
/- The gradient of the feed-forward norm's gain: its eight partial sums, over the rows 0, 8, …, over the rows 1, 9, … and so on, tile
   by tile and half by half in the kernel and at once in the reference. -/
module

public import proofs.«01_k».proof.Proof.Ffn.BwdDown

@[expose] public section

set_option maxRecDepth 16384

noncomputable section

open Idealize.ShloMosaic Idealize.ShloMosaic.TcCoe Idealize.SL.Sem
open Idealize.ShloMosaic.Pipeline (Dat)

namespace Cert.Kernel4Ideal.BwdDown

open Cert.Kernel4Ideal Cert.Kernel4Ideal.Gen

variable (m : (ℓ : Loc nD τ sig) → Buf (Elt Ideal) ℓ)

open Cert.Reference4Ideal.Gen in
/-- The rows over their root mean squares. -/
abbrev unitRows (X : FVec Ideal S8192x1024 .f32) : FVec Ideal S8192x1024 .f32 :=
  mulf X (broadcastInDim S8192x1024 ![0, 1] bcast_S8192x1_S8192x1024_0_1 (Host.rsqrt (meanSq X)))

open Cert.Reference4Ideal.Gen in
/-- The sums of the products of two arrays' entries, over the rows of each remainder by eight. -/
abbrev eighths (N C : FVec Ideal S8192x1024 .f32) : FVec Ideal S8x1024 .f32 :=
  Host.reduceAdd (shapeCast Cert.Reference4Ideal.S1x8x1024 (Host.reduceAdd (mulf
      (shapeCast Cert.Reference4Ideal.S1024x8x1024 (mulf N (broadcastInDim S8192x1024 ![] bcast_S_S8192x1024 (constant Cert.Reference4Ideal.S_ .f32 0x3F800000#32)))
        shapeCasts_S8192x1024_S1024x8x1024)
      (shapeCast Cert.Reference4Ideal.S1024x8x1024 C shapeCasts_S8192x1024_S1024x8x1024))
      (constant Cert.Reference4Ideal.S_ .f32 0x00000000#32) reducesTo_S1024x8x1024_S8x1024_d0 h_S_) shapeCasts_S8x1024_S1x8x1024)
    (constant Cert.Reference4Ideal.S_ .f32 0x00000000#32) reducesTo_S1x8x1024_S8x1024_d0 h_S_

/-- One product of the sums. -/
def prod (X C : FVec Ideal S8192x1024 .f32) (u : Fin 8192) (b : Fin 1024) : EReal := C (ix2 u b) * unitRows X (ix2 u b)

/-- The sums, entry by entry. -/
theorem eighths_at (X C : FVec Ideal S8192x1024 .f32) (j : S8x1024.Idx) :
    eighths (unitRows X) C j = ∑ k : Fin 1024, prod X C ⟨k.val * 8 + (j 0).val, by idx_bounds; omega⟩ (j 1) := by
  obtain ⟨s, b, rfl⟩ : ∃ (s : Fin 8) (b : Fin 1024), j = ix2 s b := ⟨_, _, eq_ix2 j⟩
  unfold prod
  generalize unitRows X = N
  pointwise [eighths]
  simp [mul_comm]

theorem zero8 (j) : k0_pay2 (F := Ideal) j = 0 := by pointwise [k0_pay2]

/-- The first half of a tile adds the sums of its rows, ... -/
theorem half_0 (P H : FVec Ideal S256x1024 .f32) (A : Vec Ideal S8x1024 .f32) (X C : FVec Ideal S8192x1024 .f32) (row : Fin 256 → Fin 8192)
    (hP : ∀ a b, P (ix2 a b) = C (ix2 (row a) b)) (hH : ∀ a b, H (ix2 a b) = X (ix2 (row a) b)) (j : S8x1024.Idx) :
    k0_pay11 (F := Ideal) P H (k0_pay8 H) A j = A j + ∑ k : Fin 32, prod X C (row ⟨k.val * 8 + (j 0).val, by idx_bounds; omega⟩) (j 1) := by
  obtain ⟨s, b, rfl⟩ : ∃ (s : Fin 8) (b : Fin 1024), j = ix2 s b := ⟨_, _, eq_ix2 j⟩
  pointwise [k0_pay11, k0_pay10, k0_pay9, k0_pay8, prod, unitRows, meanSq]
  simp only [hP, hH]

/-- ... and so does the second. -/
theorem half_256 (p q r : FVec Ideal S256x1024 .f32) (d : Vec Ideal S1x256x704 .bf16) (v : Vec Ideal S1x704x1024 .bf16) (e : Vec Ideal S1x256x704 .bf16)
    (w : Vec Ideal S1x704x1024 .bf16) (H : FVec Ideal S256x1024 .f32) (A : Vec Ideal S8x1024 .f32) (X C : FVec Ideal S8192x1024 .f32)
    (row : Fin 256 → Fin 8192)
    (hP : ∀ a b, k0_pay17 (F := Ideal) p q r d v e w (ix2 a b) = C (ix2 (row a) b)) (hH : ∀ a b, H (ix2 a b) = X (ix2 (row a) b)) (j : S8x1024.Idx) :
    k0_pay20 (F := Ideal) p q r d v e w H A j = A j + ∑ k : Fin 32, prod X C (row ⟨k.val * 8 + (j 0).val, by idx_bounds; omega⟩) (j 1) :=
  (rfl : k0_pay20 (F := Ideal) p q r d v e w H A j = k0_pay11 (F := Ideal) (k0_pay17 p q r d v e w) H (k0_pay8 H) A j).trans
    (half_0 _ H A X C row hP hH j)

/-- Both halves of a tile. -/
theorem both (X C : FVec Ideal S8192x1024 .f32) (n : ℕ) (hn : n < 16) (j : S8x1024.Idx) (x : EReal) :
    x + (∑ k : Fin 32, prod X C ⟨n * 512 + (k.val * 8 + (j 0).val), by idx_bounds; omega⟩ (j 1))
        + ∑ k : Fin 32, prod X C ⟨n * 512 + (256 + (k.val * 8 + (j 0).val)), by idx_bounds; omega⟩ (j 1)
      = x + ∑ k : Fin 64, prod X C ⟨(n * 64 + k.val) * 8 + (j 0).val, by idx_bounds; omega⟩ (j 1) := by
  rw [add_assoc]
  refine congrArg (x + ·) (Eq.symm ((Fin.sum_univ_add (a := 32) (b := 32)
    (fun k : Fin 64 => prod X C ⟨(n * 64 + k.val) * 8 + (j 0).val, by idx_bounds; omega⟩ (j 1))).trans (congrArg₂ (· + ·) ?_ ?_)))
  · refine Finset.sum_congr rfl fun k _ => congrArg (prod X C · (j 1)) (Fin.ext ?_)
    show (n * 64 + k.val) * 8 + (j 0).val = n * 512 + (k.val * 8 + (j 0).val)
    omega
  · refine Finset.sum_congr rfl fun k _ => congrArg (prod X C · (j 1)) (Fin.ext ?_)
    show (n * 64 + (32 + k.val)) * 8 + (j 0).val = n * 512 + (256 + (k.val * 8 + (j 0).val))
    omega

/-- The cotangent of the normalised rows, of the arguments. -/
abbrev cotan (c : Dev nD) : FVec Ideal S8192x1024 .f32 :=
  dnorm (m ((c.tc : Thread nD τ).loc main_arg2)) (m ((c.tc : Thread nD τ).loc main_arg3)) (m ((c.tc : Thread nD τ).loc main_arg4)) (m ((c.tc : Thread nD τ).loc main_arg5))

/-- What a point leaves of the gain's gradient: the first over zeros, ... -/
theorem first8 (c : Dev nD) (t : Fin cfg0.N) (ht : t.val < 16) (h : t.val % 16 = 0) (j : S8x1024.Idx) :
    (outsAt0 m c t.val t.isLt).2 j
      = 0 + ∑ k : Fin 64, prod (m ((c.tc : Thread nD τ).loc main_arg0)) (cotan m c) ⟨(t.val * 64 + k.val) * 8 + (j 0).val, by idx_bounds; omega⟩ (j 1) := by
  rw [outsAt0_A m c t h]
  dsimp only
  frame_out
  refine (half_256 _ _ _ _ _ _ _ _ _ (m ((c.tc : Thread nD τ).loc main_arg0)) (cotan m c) (fun a => ⟨t.val * 512 + (256 + a.val), by omega⟩)
    (fun a b => dnorm_256 m c t a b _ rfl) (fun a b => ?_) j).trans ?_
  · blk_point [iblk, V, idx t]
  refine (congrArg (· + _) ((half_0 _ _ _ (m ((c.tc : Thread nD τ).loc main_arg0)) (cotan m c) (fun a => ⟨t.val * 512 + a.val, by omega⟩)
    (fun a b => dnorm_0 m c t a b _ rfl) (fun a b => ?_) j).trans (congrArg (· + _) (zero8 j)))).trans (both _ _ _ ht j 0)
  blk_point [iblk, V, idx t]

/-- ... a later one over what the one before left. -/
theorem later8 (c : Dev nD) (t : Fin cfg0.N) (ht : t.val < 16) (h : ¬ t.val % 16 = 0) (j : S8x1024.Idx) :
    (outsAt0 m c t.val t.isLt).2 j = (outsAt0 m c (t.val - 1) (by omega)).2 j
      + ∑ k : Fin 64, prod (m ((c.tc : Thread nD τ).loc main_arg0)) (cotan m c) ⟨(t.val * 64 + k.val) * 8 + (j 0).val, by idx_bounds; omega⟩ (j 1) := by
  rw [outsAt0_B m c t h]
  dsimp only
  frame_out
  refine (half_256 _ _ _ _ _ _ _ _ _ (m ((c.tc : Thread nD τ).loc main_arg0)) (cotan m c) (fun a => ⟨t.val * 512 + (256 + a.val), by omega⟩)
    (fun a b => dnorm_256 m c t a b _ rfl) (fun a b => ?_) j).trans ?_
  · blk_point [iblk, V, idx t]
  refine (congrArg (· + _) (half_0 _ _ _ (m ((c.tc : Thread nD τ).loc main_arg0)) (cotan m c) (fun a => ⟨t.val * 512 + a.val, by omega⟩)
    (fun a b => dnorm_0 m c t a b _ rfl) (fun a b => ?_) j)).trans (both _ _ _ ht j _)
  blk_point [iblk, V, idx t]

/-- The gain's gradient is one block. -/
theorem idx8 : ∀ t : Fin cfg0.N, win0_8.index t = ![0, 0] := (by decide +kernel : ∀ t : Fin grid0.N, _)

/-- The same product, of the same row and column. -/
theorem prod_congr (X C : FVec Ideal S8192x1024 .f32) (u v : Fin 8192) (a b : Fin 1024) (h : (u : ℕ) = v) (hb : (a : ℕ) = b) :
    prod X C u a = prod X C v b := by
  obtain rfl := Fin.ext h
  obtain rfl := Fin.ext hb
  rfl

/-- The array of the gain's gradient after the run. -/
theorem final8 (c : Dev nD) : (dats m 0 c).arrAt 8 (cfgs 0).N = eighths (unitRows (m ((c.tc : Thread nD τ).loc main_arg0))) (cotan m c) := by
  refine (dats m 0 c).arrAt_eq_of_covers 8 _ (by decide +kernel) fun t hf y => ?_
  blk_simp
  rw [after0_8, Pipeline.eq_sum_fin_of_reset_step_apply_of_flush (fun n h => (outsAt0 m c n h).2) 16 (fun _ => 0)
    (fun t j => ∑ k : Fin 64, prod (m ((c.tc : Thread nD τ).loc main_arg0)) (cotan m c)
      ⟨(t.val * 64 + k.val) * 8 + (j 0).val, by idx_bounds; have : t.val < 16 := t.isLt; omega⟩ (j 1))
    (fun t h j => first8 m c t t.isLt h j) (fun t h j => later8 m c t t.isLt h j) t ((flush0_8 t).mp hf) _, zero_add]
  refine Eq.trans ?_ (eighths_at _ _ _).symm
  refine Fin.sum_mul_add_congr fun s k hl => ?_
  have h16 : t.val / 16 = 0 := by have : t.val < 16 := t.isLt; omega
  refine prod_congr _ _ _ _ _ _ ?_ ?_
  · change ((16 * (t.val / 16) + s.val) * 64 + k.val) * 8 + _ = (s.val * 64 + k.val) * 8 + _
    rw [h16]
    blk_simp [idx8 t]
    omega
  · blk_simp [idx8 t]

end Cert.Kernel4Ideal.BwdDown

end
-- ==== Proof.Ffn.BwdDownClaim.lean ====
/- The claims about the cotangent of the first residual. -/
module

public import proofs.«01_k».proof.Defs
public import proofs.«01_k».proof.Proof.Gen.Kernel4
public import proofs.«01_k».proof.Proof.Ffn.BwdDownGain
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies4 : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

/-- ... and so the same table of definitions. -/
theorem table4 : Cert.Kernel4.defs (F := Bits) = Cert.Kernel4Ideal.defs (F := Bits) := by
  unfold Cert.Kernel4.defs Cert.Kernel4Ideal.defs
  exact congrArg (Pipeline.defs Cert.Kernel4Ideal.pcfgs) bodies4

/-- Every run of the kernel over the extended reals ends, without a fault, with the counters at zero and the arguments unchanged. -/
theorem quiescent4I : Cert.quiescent_Kernel4Ideal := fun m ρ _ => Cert.Kernel4Ideal.Gen.frame m ρ

/-- The same of the kernel as it is. -/
theorem quiescent4 : Cert.quiescent_Kernel4 := fun m ρ _ => by
  rw [table4]
  exact Cert.Kernel4Ideal.Gen.frame (F := Bits) m ρ

/-- The same of the reference. -/
theorem quiescent4R : Cert.quiescent_Reference4Ideal := fun m ρ _ =>
  (θ_run Cert.Reference4Ideal.defs _ _).mono (fun r h => ⟨fun c => (h c).2.2,
    sem_eq_zero_of_no_sems (by decide) r.2⟩) (Cert.Reference4Ideal.Value.run m ρ)

/-- The kernel's ideal program and the reference are harmless where the precondition holds, as everywhere. -/
theorem quiescent4IPre : Cert.quiescent_Kernel4Ideal_pre_finite4 := fun m ρ _ => Cert.Kernel4Ideal.Gen.frame m ρ

theorem quiescent4RPre : Cert.quiescent_Reference4Ideal_pre_finite4 := fun m ρ _ =>
  (θ_run Cert.Reference4Ideal.defs _ _).mono (fun r h => ⟨fun c => (h c).2.2,
    sem_eq_zero_of_no_sems (by decide) r.2⟩) (Cert.Reference4Ideal.Value.run m ρ)

/-- The reference's result by its operations. -/
theorem result4_39 (m' : (ℓ : Loc Cert.Reference4Ideal.nD Cert.Reference4Ideal.τ Cert.Reference4Ideal.sig) → Buf (Elt Ideal) ℓ) (c : Dev Cert.Reference4Ideal.nD) :
    Cert.Reference4Ideal.Value.res_main_v39 m' c = Cert.Kernel4Ideal.BwdDown.back (m' ((c.tc : Thread Cert.Reference4Ideal.nD Cert.Reference4Ideal.τ).loc Cert.Reference4Ideal.main_arg0)) (Cert.Kernel4Ideal.BwdDown.scaled (Cert.Kernel4Ideal.BwdDown.dnorm (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5))) (m' ((c.tc : Thread Cert.Reference4Ideal.nD Cert.Reference4Ideal.τ).loc Cert.Reference4Ideal.main_arg1))) (m' ((c.tc : Thread Cert.Reference4Ideal.nD Cert.Reference4Ideal.τ).loc Cert.Reference4Ideal.main_arg6)) := rfl

/-- Where the arguments are finite the kernel and the reference compute the same cotangent, and the same gradient of the gain. -/
theorem algebraic4 : Cert.algebraic_Kernel4Ideal_Reference4Ideal_pre_finite4 := by
  pair_intro
  · run_from Cert.Kernel4Ideal.Value.run_blocks m g
  · run_from Cert.Reference4Ideal.Value.run m' g'
    · obtain ⟨h0, h1, h2, h3, h4, h5, h6⟩ := hagree c
      rw [result4_39, h0, h1, h2, h3, h4, h5, h6]
      exact (Cert.Kernel4Ideal.BwdDown.final7 m c (Cert.Kernel4Ideal.BwdDown.real_of_finite m hpre c).1 (Cert.Kernel4Ideal.BwdDown.real_of_finite m hpre c).2.1 (Cert.Kernel4Ideal.BwdDown.real_of_finite m hpre c).2.2.1 (Cert.Kernel4Ideal.BwdDown.real_of_finite m hpre c).2.2.2.1 (Cert.Kernel4Ideal.BwdDown.real_of_finite m hpre c).2.2.2.2.1 (Cert.Kernel4Ideal.BwdDown.real_of_finite m hpre c).2.2.2.2.2.1).symm
    · exact (Cert.Kernel4Ideal.BwdDown.final8 m c).symm

end Cert.Proof

end
-- ==== Proof.Ffn.Up.lean ====
/- The up-projections of the feed-forward block: the normalised rows, the two products and the gated product of a chip's
   grid point are the reference's, tile by tile. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Up

open Cert.Kernel5Ideal Cert.Kernel5Ideal.Gen

variable (m : (ℓ : Loc nD τ sig) → Buf (Elt Ideal) ℓ)

open Cert.Reference5Ideal.Gen in
/-- The reference's normalised rows, before their rounding. -/
def normed (X : FVec Ideal S8192x1024 .f32) (G : FVec Ideal Cert.Reference5Ideal.S1024 .f32) : FVec Ideal S8192x1024 .f32 :=
  mulf (mulf X (broadcastInDim S8192x1024 ![0, 1] bcast_S8192x1_S8192x1024_0_1 (Host.rsqrt (addf (Host.divf
    (broadcastInDim Cert.Reference5Ideal.S8192x1 ![0] bcast_S8192_S8192x1_0 (Host.reduceAdd (mulf X X)
      (constant Cert.Reference5Ideal.S_ .f32 0x00000000#32) reducesTo_S8192x1024_S8192_d1 h_S_))
    (broadcastInDim Cert.Reference5Ideal.S8192x1 ![] bcast_S_S8192x1 (constant Cert.Reference5Ideal.S_ .f32 0x44800000#32)))
    (broadcastInDim Cert.Reference5Ideal.S8192x1 ![] bcast_S_S8192x1 (constant Cert.Reference5Ideal.S_ .f32 0x358637BD#32))))))
    (broadcastInDim S8192x1024 ![0, 1] bcast_S1x1024_S8192x1024_0_1 (broadcastInDim Cert.Reference5Ideal.S1x1024 ![1] bcast_S1024_S1x1024_1 G))

/-- The reference's product of the normalised rows with a weight. -/
abbrev prod (X : FVec Ideal S8192x1024 .f32) (W : FVec Ideal Cert.Reference5Ideal.S1024x2816 .f32) :
    FVec Ideal Cert.Reference5Ideal.S8192x2816 .f32 :=
  Host.dotGeneral Cert.Reference5Ideal.dot_S8192x1024_S1024x2816_S8192x2816_1_0_0_1_n_n none X W

open Cert.Reference5Ideal.Gen in
/-- The reference's logistic function, by its defining quotient. -/
abbrev gate (A : FVec Ideal Cert.Reference5Ideal.S8192x2816 .f32) : FVec Ideal Cert.Reference5Ideal.S8192x2816 .f32 :=
  Host.divf (broadcastInDim Cert.Reference5Ideal.S8192x2816 ![] bcast_S_S8192x2816 (constant Cert.Reference5Ideal.S_ .f32 0x3F800000#32))
    (addf (broadcastInDim Cert.Reference5Ideal.S8192x2816 ![] bcast_S_S8192x2816 (constant Cert.Reference5Ideal.S_ .f32 0x3F800000#32))
      (Host.exp (Host.negf A)))

open Cert.Reference5Ideal.Gen in
/-- The features of a full-width array, split by the chip that holds them. -/
abbrev byChip (A : FVec Ideal Cert.Reference5Ideal.S8192x2816 .f32) : FVec Ideal S4x8192x704 .bf16 :=
  truncf .bf16 (transpose Cert.Reference5Ideal.S4x8192x704 [1, 0, 2] (shapeCast Cert.Reference5Ideal.S8192x4x704 A shapeCasts_S8192x2816_S8192x4x704)
    transposes_S8192x4x704_S4x8192x704_1_0_2) Cert.Reference5Ideal.Gen.bitsLt_bf16_f32

/-- Which block of its array each window holds at a grid point. -/
theorem idx : ∀ t : Fin cfg0.N, win0_0.index t = ![t.val, 0] ∧ win0_1.index t = ![0, 0]
    ∧ win0_2.index t = ![0, 0, 0] ∧ win0_3.index t = ![0, 0, 0] ∧ win0_4.index t = ![t.val, 0]
    ∧ win0_5.index t = ![0, t.val, 0] ∧ win0_6.index t = ![0, t.val, 0] ∧ win0_7.index t = ![0, t.val, 0] :=
  (by decide +kernel : ∀ t : Fin grid0.N, _)

/-- The gated product at equal arguments: zero less a number is its negation. -/
theorem gated_congr {a b a' b' : EReal} (ha : a = a') (hb : b = b') :
    a * Ideal.div 1 (1 + Ideal.exp (0 - a)) * b = a' * Ideal.div 1 (1 + Ideal.exp (-a')) * b' := by
  rw [ha, hb, sub_eq_add_neg, zero_add]

/-- The normalised rows of a point are the reference's at the rows the point holds. -/
theorem rows_at (c : Dev nD) (t : Fin cfg0.N) (y : S512x1024.Idx) (j : S8192x1024.Idx)
    (hj0 : (j 0 : ℕ) = t.val * 512 + y 0) (hj1 : (j 1 : ℕ) = y 1) :
    k0_pay7 (F := Ideal) (iblk m c 0 t) (iblk m c 1 t) y
      = normed (m ((c.tc : Thread nD τ).loc main_arg0)) (m ((c.tc : Thread nD τ).loc main_arg1)) j := by
  pointwise [k0_pay7, normed]
  blk_point [iblk, V, idx t]

theorem final4 (c : Dev nD) : (dats m 0 c).arrAt 4 (cfgs 0).N
    = truncf .bf16 (normed (m ((c.tc : Thread nD τ).loc main_arg0)) (m ((c.tc : Thread nD τ).loc main_arg1))) Cert.Reference5Ideal.Gen.bitsLt_bf16_f32 := by
  refine (dats m 0 c).arrAt_eq_of_covers 4 _ (by decide +kernel) fun t hf y => ?_
  blk_simp
  rw [after0_4]
  unfold outsAt0
  frame_out
  refine rows_at m c t y _ ?_ ?_ <;> blk_simp [idx t] <;> try omega

theorem final5 (c : Dev nD) : (dats m 0 c).arrAt 5 (cfgs 0).N
    = byChip (prod (normed (m ((c.tc : Thread nD τ).loc main_arg0)) (m ((c.tc : Thread nD τ).loc main_arg1))) (m ((c.tc : Thread nD τ).loc main_arg2))) := by
  refine (dats m 0 c).arrAt_eq_of_covers 5 _ (by decide +kernel) fun t hf y => ?_
  blk_simp
  rw [after0_5]
  unfold outsAt0
  frame_out
  have hr := rows_at m c t
  generalize k0_pay7 (F := Ideal) (iblk m c 0 t) (iblk m c 1 t) = H at hr ⊢
  generalize normed (m ((c.tc : Thread nD τ).loc main_arg0)) (m ((c.tc : Thread nD τ).loc main_arg1)) = X at hr ⊢
  canon_tiles x h
  all_goals
    pointwise [k0_pay2, k0_pay4, k0_pay8, k0_pay9, k0_pay11, k0_pay15, k0_pay17, k0_pay21, k0_pay23, byChip, prod]
    refine Finset.sum_congr rfl fun k _ => congrArg₂ (· * ·) ?_ ?_
    · refine hr _ _ ?_ ?_ <;> blk_simp [idx t] <;> try omega
    · blk_point [iblk, V, idx t]

theorem final6 (c : Dev nD) : (dats m 0 c).arrAt 6 (cfgs 0).N
    = byChip (prod (normed (m ((c.tc : Thread nD τ).loc main_arg0)) (m ((c.tc : Thread nD τ).loc main_arg1))) (m ((c.tc : Thread nD τ).loc main_arg3))) := by
  refine (dats m 0 c).arrAt_eq_of_covers 6 _ (by decide +kernel) fun t hf y => ?_
  blk_simp
  rw [after0_6]
  unfold outsAt0
  frame_out
  have hr := rows_at m c t
  generalize k0_pay7 (F := Ideal) (iblk m c 0 t) (iblk m c 1 t) = H at hr ⊢
  generalize normed (m ((c.tc : Thread nD τ).loc main_arg0)) (m ((c.tc : Thread nD τ).loc main_arg1)) = X at hr ⊢
  canon_tiles x h
  all_goals
    pointwise [k0_pay3, k0_pay5, k0_pay8, k0_pay10, k0_pay12, k0_pay13, k0_pay16, k0_pay18, k0_pay22, k0_pay24, byChip, prod]
    refine Finset.sum_congr rfl fun k _ => congrArg₂ (· * ·) ?_ ?_
    · refine hr _ _ ?_ ?_ <;> blk_simp [idx t] <;> try omega
    · blk_point [iblk, V, idx t]

theorem final7 (c : Dev nD) : (dats m 0 c).arrAt 7 (cfgs 0).N
    = byChip (mulf (mulf (prod (normed (m ((c.tc : Thread nD τ).loc main_arg0)) (m ((c.tc : Thread nD τ).loc main_arg1))) (m ((c.tc : Thread nD τ).loc main_arg2)))
        (gate (prod (normed (m ((c.tc : Thread nD τ).loc main_arg0)) (m ((c.tc : Thread nD τ).loc main_arg1))) (m ((c.tc : Thread nD τ).loc main_arg2)))))
        (prod (normed (m ((c.tc : Thread nD τ).loc main_arg0)) (m ((c.tc : Thread nD τ).loc main_arg1))) (m ((c.tc : Thread nD τ).loc main_arg3)))) := by
  refine (dats m 0 c).arrAt_eq_of_covers 7 _ (by decide +kernel) fun t hf y => ?_
  blk_simp
  rw [after0_7]
  unfold outsAt0
  frame_out
  have hr := rows_at m c t
  generalize k0_pay7 (F := Ideal) (iblk m c 0 t) (iblk m c 1 t) = H at hr ⊢
  generalize normed (m ((c.tc : Thread nD τ).loc main_arg0)) (m ((c.tc : Thread nD τ).loc main_arg1)) = X at hr ⊢
  canon_tiles x h
  all_goals
    pointwise [k0_pay1, k0_pay2, k0_pay3, k0_pay6, k0_pay8, k0_pay9, k0_pay10, k0_pay14, k0_pay15, k0_pay16, k0_pay19, k0_pay20, k0_pay21, k0_pay22, k0_pay25, byChip, prod, gate]
    refine gated_congr ?_ ?_ <;> refine Finset.sum_congr rfl fun k _ => congrArg₂ (· * ·) ?_ ?_
    · refine hr _ _ ?_ ?_ <;> blk_simp [idx t] <;> try omega
    · blk_point [iblk, V, idx t]
    · refine hr _ _ ?_ ?_ <;> blk_simp [idx t] <;> try omega
    · blk_point [iblk, V, idx t]

end Cert.Kernel5Ideal.Up

end
-- ==== Proof.Ffn.UpClaim.lean ====
/- The claims about the up-projections of the feed-forward block. -/
module

public import proofs.«01_k».proof.Defs
public import proofs.«01_k».proof.Proof.Gen.Kernel5
public import proofs.«01_k».proof.Proof.Ffn.Up
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies5 : Cert.Kernel5.defs₀ (F := Bits) = Cert.Kernel5Ideal.defs₀ (F := Bits) := by
  unfold Cert.Kernel5.defs₀ Cert.Kernel5Ideal.defs₀
  refine congrArg Defs.onTc ?_
  funext l x
  match l, x with
  | 0, (t, s) => rfl

/-- ... and so the same table of definitions. -/
theorem table5 : Cert.Kernel5.defs (F := Bits) = Cert.Kernel5Ideal.defs (F := Bits) := by
  unfold Cert.Kernel5.defs Cert.Kernel5Ideal.defs
  exact congrArg (Pipeline.defs Cert.Kernel5Ideal.pcfgs) bodies5

/-- Every run of the kernel over the extended reals ends, without a fault, with the counters at zero and the arguments unchanged. -/
theorem quiescent5I : Cert.quiescent_Kernel5Ideal := fun m ρ _ => Cert.Kernel5Ideal.Gen.frame m ρ

/-- The same of the kernel as it is. -/
theorem quiescent5 : Cert.quiescent_Kernel5 := fun m ρ _ => by
  rw [table5]
  exact Cert.Kernel5Ideal.Gen.frame (F := Bits) m ρ

/-- The same of the reference. -/
theorem quiescent5R : Cert.quiescent_Reference5Ideal := fun m ρ _ =>
  (θ_run Cert.Reference5Ideal.defs _ _).mono (fun r h => ⟨fun c => ⟨(h c).2.2.2.2.1, (h c).2.2.2.2.2.1, (h c).2.2.2.2.2.2.1, (h c).2.2.2.2.2.2.2⟩,
    sem_eq_zero_of_no_sems (by decide) r.2⟩) (Cert.Reference5Ideal.Value.run m ρ)

/-- The kernel and the reference compute the same normalised rows, pre-activations and gated products. -/
theorem algebraic5 : Cert.algebraic_Kernel5Ideal_Reference5Ideal := by
  pair_intro
  · run_from Cert.Kernel5Ideal.Gen.run_main m g
  · run_from Cert.Reference5Ideal.Value.run m' g'
    · exact (Cert.Kernel5Ideal.Up.final4 m c).symm
    · exact (Cert.Kernel5Ideal.Up.final5 m c).symm
    · exact (Cert.Kernel5Ideal.Up.final6 m c).symm
    · exact (Cert.Kernel5Ideal.Up.final7 m c).symm

end Cert.Proof

end
-- ==== Proof.Ffn.Down.lean ====
/- The cotangent of the second residual: the loss's derivative through the final norm, at the rows of a point, is the
   reference's, where the arguments are finite. -/
module

public import proofs.«01_k».proof.Defs
public import proofs.«01_k».proof.Proof.Gen.Pre_finite6
public import proofs.«01_k».proof.Proof.Gen.Kernel6Ideal.Value
public import proofs.«01_k».proof.Proof.Gen.Reference6Ideal.Run
public import proofs.«01_k».proof.Proof.Ffn.Rms

@[expose] public section

set_option maxRecDepth 16384

noncomputable section

open Idealize.ShloMosaic Idealize.ShloMosaic.TcCoe Idealize.SL.Sem
open Idealize.ShloMosaic.Pipeline (Dat)
open Cert.Proof (IsReal)

namespace Cert.Kernel6Ideal.Down

open Cert.Kernel6Ideal Cert.Kernel6Ideal.Gen

variable (m : (ℓ : Loc nD τ sig) → Buf (Elt Ideal) ℓ)

open Cert.Reference6Ideal.Gen in
/-- A row's mean square, with the constant that keeps it from zero. -/
abbrev meanSq (X : FVec Ideal S8192x1024 .f32) : FVec Ideal Cert.Reference6Ideal.S8192x1 .f32 :=
  addf (Host.divf (broadcastInDim Cert.Reference6Ideal.S8192x1 ![0] bcast_S8192_S8192x1_0 (Host.reduceAdd (mulf X X)
      (constant Cert.Reference6Ideal.S_ .f32 0x00000000#32) reducesTo_S8192x1024_S8192_d1 h_S_))
    (broadcastInDim Cert.Reference6Ideal.S8192x1 ![] bcast_S_S8192x1 (constant Cert.Reference6Ideal.S_ .f32 0x44800000#32)))
    (broadcastInDim Cert.Reference6Ideal.S8192x1 ![] bcast_S_S8192x1 (constant Cert.Reference6Ideal.S_ .f32 0x358637BD#32))

open Cert.Reference6Ideal.Gen in
/-- The cotangent of the mean square's square, by the product rule: half of what a row's entries are multiplied with. -/
abbrev slope (X C : FVec Ideal S8192x1024 .f32) : FVec Ideal Cert.Reference6Ideal.S8192 .f32 :=
  Host.reduceAdd (Host.divf (mulf (shapeCast Cert.Reference6Ideal.S8192x1 (Host.reduceAdd (mulf X C)
      (constant Cert.Reference6Ideal.S_ .f32 0x00000000#32) reducesTo_S8192x1024_S8192_d1 h_S_) shapeCasts_S8192_S8192x1)
    (mulf (broadcastInDim Cert.Reference6Ideal.S8192x1 ![] bcast_S_S8192x1 (constant Cert.Reference6Ideal.S_ .f32 0xBF000000#32))
      (Host.divf (Host.rsqrt (meanSq X)) (meanSq X))))
    (broadcastInDim Cert.Reference6Ideal.S8192x1 ![] bcast_S_S8192x1 (constant Cert.Reference6Ideal.S_ .f32 0x44800000#32)))
    (constant Cert.Reference6Ideal.S_ .f32 0x00000000#32) reducesTo_S8192x1_S8192_d1 h_S_

open Cert.Reference6Ideal.Gen in
/-- The reference's cotangent of the second residual, from the gain-scaled cotangent of its normalised rows. -/
abbrev back (X C : FVec Ideal S8192x1024 .f32) : FVec Ideal S8192x1024 .f32 :=
  addf (addf (mulf C (broadcastInDim S8192x1024 ![0, 1] bcast_S8192x1_S8192x1024_0_1 (Host.rsqrt (meanSq X))))
    (mulf X (broadcastInDim S8192x1024 ![0] bcast_S8192_S8192x1024_0 (slope X C))))
    (mulf (broadcastInDim S8192x1024 ![0] bcast_S8192_S8192x1024_0 (slope X C)) X)

open Cert.Reference6Ideal.Gen in
/-- The second residual. -/
abbrev resid (P : FVec Ideal Cert.Reference6Ideal.S8192x2816 .bf16) (H : FVec Ideal S8192x1024 .f32)
    (W : FVec Ideal Cert.Reference6Ideal.S2816x1024 .f32) : FVec Ideal S8192x1024 .f32 :=
  addf H (Host.dotGeneral Cert.Reference6Ideal.dot_S8192x2816_S2816x1024_S8192x1024_1_0_0_1_n_n none
    (extf .f32 P Cert.Reference6Ideal.Gen.bitsLt_bf16_f32) W)

open Cert.Reference6Ideal.Gen in
/-- The gain, over the rows. -/
abbrev gains (G : FVec Ideal Cert.Reference6Ideal.S1024 .f32) : FVec Ideal S8192x1024 .f32 :=
  broadcastInDim S8192x1024 ![0, 1] bcast_S1x1024_S8192x1024_0_1 (broadcastInDim Cert.Reference6Ideal.S1x1024 ![1] bcast_S1024_S1x1024_1 G)

open Cert.Reference6Ideal.Gen in
/-- The cotangent of the normalised rows: the loss's derivative, times the gain. -/
abbrev cot (X T : FVec Ideal S8192x1024 .f32) (G : FVec Ideal Cert.Reference6Ideal.S1024 .f32) : FVec Ideal S8192x1024 .f32 :=
  mulf (mulf (broadcastInDim S8192x1024 ![0] bcast_S8192_S8192x1024_0 (Host.divf
      (broadcastInDim Cert.Reference6Ideal.S8192 ![] bcast_S_S8192 (mulf (constant Cert.Reference6Ideal.S_ .f32 0x3F000000#32) (constant Cert.Reference6Ideal.S_ .f32 0x3F800000#32)))
      (broadcastInDim Cert.Reference6Ideal.S8192 ![] bcast_S_S8192 (constant Cert.Reference6Ideal.S_ .f32 0x44800000#32))))
    (mulf (broadcastInDim S8192x1024 ![] bcast_S_S8192x1024 (constant Cert.Reference6Ideal.S_ .f32 0x40000000#32))
      (subf (mulf (mulf X (broadcastInDim S8192x1024 ![0, 1] bcast_S8192x1_S8192x1024_0_1 (Host.rsqrt (meanSq X)))) (gains G)) T)))
    (gains G)

/-- Which block of its array each window holds at a grid point. -/
theorem idx : ∀ t : Fin cfg0.N, win0_0.index t = ![0, t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![t.val, 0] :=
  (by decide +kernel : ∀ t : Fin grid0.N, _)

/-- Splitting the columns of a matrix and putting their blocks first. -/
theorem byCols (A : FVec Ideal Cert.Reference6Ideal.S8192x2816 .bf16) (j : S4x8192x704.Idx) (i : Cert.Reference6Ideal.S8192x2816.Idx)
    (h0 : (i 0 : ℕ) = j 1) (h1 : (i 1 : ℕ) = (j 0 : ℕ) * 704 + j 2) :
    transpose S4x8192x704 [1, 0, 2] (shapeCast S8192x4x704 A shapeCasts_S8192x2816_S8192x4x704)
      transposes_S8192x4x704_S4x8192x704_1_0_2 j = A i := by
  pointwise
  blk_ext

/-- Splitting the rows of a matrix. -/
theorem byRows (W : FVec Ideal Cert.Reference6Ideal.S2816x1024 .f32) (j : S4x704x1024.Idx) (i : Cert.Reference6Ideal.S2816x1024.Idx)
    (h0 : (i 0 : ℕ) = (j 0 : ℕ) * 704 + j 1) (h1 : (i 1 : ℕ) = j 2) :
    shapeCast S4x704x1024 W shapeCasts_S2816x1024_S4x704x1024 j = W i := by
  pointwise
  blk_ext

/-- The product's window at a point: its columns split by chip, at the rows of the point. -/
theorem ff_at (c : Dev nD) (t : Fin cfg0.N) (g : Fin 4) (r : Fin 512) (k : Fin 704) (u : Fin 8192) (v : Fin 2816)
    (hu : (u : ℕ) = t.val * 512 + r) (hv : (v : ℕ) = g * 704 + k) :
    iblk m c 0 t (ix3 g r k) = m ((c.tc : Thread nD τ).loc main_arg0) (ix2 u v) := by
  unfold iblk
  blk_simp [idx t]
  entry_read
  refine byCols _ _ (ix2 u v) ?_ ?_ <;> blk_simp [idx t] <;> (try dsimp only) <;> omega

/-- The weight's window: the weight, its rows split by chip. -/
theorem w2_at (c : Dev nD) (t : Fin cfg0.N) (g : Fin 4) (k : Fin 704) (b : Fin 1024) (v : Fin 2816) (hv : (v : ℕ) = g * 704 + k) :
    iblk m c 4 t (ix3 g k b) = m ((c.tc : Thread nD τ).loc main_arg4) (ix2 v b) := by
  unfold iblk
  blk_simp [idx t]
  entry_read
  refine byRows _ _ (ix2 v b) ?_ ?_ <;> blk_simp [idx t] <;> (try dsimp only) <;> omega

/-- A sum over the features, chip by chip. -/
theorem sum_chips (f : Fin 2816 → EReal) : ∑ x, f x
    = ((∑ k : Fin 704, f ⟨0 * 704 + k, by omega⟩ + ∑ k : Fin 704, f ⟨1 * 704 + k, by omega⟩) + ∑ k : Fin 704, f ⟨2 * 704 + k, by omega⟩)
      + ∑ k : Fin 704, f ⟨3 * 704 + k, by omega⟩ := by
  rw [Fin.sum_univ_add (a := 2112) (b := 704) f, Fin.sum_univ_add (a := 1408) (b := 704), Fin.sum_univ_add (a := 704) (b := 704)]
  refine congrArg₂ (· + ·) (congrArg₂ (· + ·) (congrArg₂ (· + ·) ?_ ?_) ?_) ?_ <;> refine Finset.sum_congr rfl fun k _ => congrArg f (Fin.ext ?_)
    <;> simp <;> omega

/-- The second residual at rows 0 to 255 of a point. -/
theorem resid_0 (c : Dev nD) (t : Fin cfg0.N) (a : Fin 256) (b : Fin 1024) (u : Fin 8192) (hu : (u : ℕ) = t.val * 512 + a) :
    k0_pay11 (F := Ideal) (k0_pay8 (View.ld (iblk m c 0 t) (Rect.unit ![0, 0, 0] ![1, 256, 704] inb_S4x512x704_S1x256x704_0_0_0)) (View.ld (iblk m c 4 t) (Rect.unit ![0, 0, 0] ![1, 704, 1024] inb_S4x704x1024_S1x704x1024_0_0_0)) (View.ld (iblk m c 0 t) (Rect.unit ![1, 0, 0] ![1, 256, 704] inb_S4x512x704_S1x256x704_1_0_0)) (View.ld (iblk m c 4 t) (Rect.unit ![1, 0, 0] ![1, 704, 1024] inb_S4x704x1024_S1x704x1024_1_0_0)) (View.ld (iblk m c 0 t) (Rect.unit ![2, 0, 0] ![1, 256, 704] inb_S4x512x704_S1x256x704_2_0_0)) (View.ld (iblk m c 4 t) (Rect.unit ![2, 0, 0] ![1, 704, 1024] inb_S4x704x1024_S1x704x1024_2_0_0)))
        (k0_pay9 (View.ld (iblk m c 0 t) (Rect.unit ![3, 0, 0] ![1, 256, 704] inb_S4x512x704_S1x256x704_3_0_0))) (k0_pay10 (View.ld (iblk m c 4 t) (Rect.unit ![3, 0, 0] ![1, 704, 1024] inb_S4x704x1024_S1x704x1024_3_0_0))) (constant S256x1024 .f32 0x00000000#32) (View.ld (iblk m c 1 t) (Rect.unit ![0, 0] ![256, 1024] inb_S512x1024_S256x1024_0_0)) (ix2 a b)
      = resid (m ((c.tc : Thread nD τ).loc main_arg0)) (m ((c.tc : Thread nD τ).loc main_arg1)) (m ((c.tc : Thread nD τ).loc main_arg4)) (ix2 u b) := by
  have hr : iblk m c 1 t (ix2 ⟨a, by omega⟩ b) = (m ((c.tc : Thread nD τ).loc main_arg1)) (ix2 u b) := by
    blk_point [iblk, V, idx t]
  pointwise [k0_pay11, k0_pay8, k0_pay9, k0_pay10, resid]
  rw [sum_chips]
  refine congrArg₂ (· + ·) hr ?_
  refine congrArg₂ (· + ·) (congrArg₂ (· + ·) (congrArg₂ (· + ·) ?_ ?_) ?_) ?_ <;> refine Finset.sum_congr rfl fun k _ => congrArg₂ (· * ·) ?_ ?_
  · exact ff_at m c t 0 ⟨a, by omega⟩ k u _ hu rfl
  · exact w2_at m c t 0 k b _ rfl
  · exact ff_at m c t 1 ⟨a, by omega⟩ k u _ hu rfl
  · exact w2_at m c t 1 k b _ rfl
  · exact ff_at m c t 2 ⟨a, by omega⟩ k u _ hu rfl
  · exact w2_at m c t 2 k b _ rfl
  · exact ff_at m c t 3 ⟨a, by omega⟩ k u _ hu rfl
  · exact w2_at m c t 3 k b _ rfl

/-- The second residual at rows 256 to 511 of a point. -/
theorem resid_256 (c : Dev nD) (t : Fin cfg0.N) (a : Fin 256) (b : Fin 1024) (u : Fin 8192) (hu : (u : ℕ) = t.val * 512 + (256 + a)) :
    k0_pay23 (F := Ideal) (k0_pay20 (View.ld (iblk m c 0 t) (Rect.unit ![0, 256, 0] ![1, 256, 704] inb_S4x512x704_S1x256x704_0_256_0)) (View.ld (iblk m c 4 t) (Rect.unit ![0, 0, 0] ![1, 704, 1024] inb_S4x704x1024_S1x704x1024_0_0_0)) (View.ld (iblk m c 0 t) (Rect.unit ![1, 256, 0] ![1, 256, 704] inb_S4x512x704_S1x256x704_1_256_0)) (View.ld (iblk m c 4 t) (Rect.unit ![1, 0, 0] ![1, 704, 1024] inb_S4x704x1024_S1x704x1024_1_0_0)))
        (k0_pay21 (View.ld (iblk m c 0 t) (Rect.unit ![2, 256, 0] ![1, 256, 704] inb_S4x512x704_S1x256x704_2_256_0))) (k0_pay22 (View.ld (iblk m c 4 t) (Rect.unit ![2, 0, 0] ![1, 704, 1024] inb_S4x704x1024_S1x704x1024_2_0_0))) (constant S256x1024 .f32 0x00000000#32) (View.ld (iblk m c 0 t) (Rect.unit ![3, 256, 0] ![1, 256, 704] inb_S4x512x704_S1x256x704_3_256_0)) (View.ld (iblk m c 4 t) (Rect.unit ![3, 0, 0] ![1, 704, 1024] inb_S4x704x1024_S1x704x1024_3_0_0)) (View.ld (iblk m c 1 t) (Rect.unit ![256, 0] ![256, 1024] inb_S512x1024_S256x1024_256_0)) (ix2 a b)
      = resid (m ((c.tc : Thread nD τ).loc main_arg0)) (m ((c.tc : Thread nD τ).loc main_arg1)) (m ((c.tc : Thread nD τ).loc main_arg4)) (ix2 u b) := by
  have hr : iblk m c 1 t (ix2 ⟨256 + a, by omega⟩ b) = (m ((c.tc : Thread nD τ).loc main_arg1)) (ix2 u b) := by
    blk_point [iblk, V, idx t]
  pointwise [k0_pay23, k0_pay20, k0_pay21, k0_pay22, resid]
  rw [sum_chips]
  refine congrArg₂ (· + ·) hr ?_
  refine congrArg₂ (· + ·) (congrArg₂ (· + ·) (congrArg₂ (· + ·) ?_ ?_) ?_) ?_ <;> refine Finset.sum_congr rfl fun k _ => congrArg₂ (· * ·) ?_ ?_
  · exact ff_at m c t 0 ⟨256 + a, by omega⟩ k u _ hu rfl
  · exact w2_at m c t 0 k b _ rfl
  · exact ff_at m c t 1 ⟨256 + a, by omega⟩ k u _ hu rfl
  · exact w2_at m c t 1 k b _ rfl
  · exact ff_at m c t 2 ⟨256 + a, by omega⟩ k u _ hu rfl
  · exact w2_at m c t 2 k b _ rfl
  · exact ff_at m c t 3 ⟨256 + a, by omega⟩ k u _ hu rfl
  · exact w2_at m c t 3 k b _ rfl

/-- One over the width. -/
theorem bits_inv : Ideal.ofBits .f32 0x3A800000#32 = ((1 / 1024 : ℝ) : EReal) := by
  have h1 : ((0x3A800000#32 : BitVec 32).extractLsb' 23 8).toNat = 117 := by decide
  have h2 : ((0x3A800000#32 : BitVec 32).extractLsb' 0 23).toNat = 0 := by decide
  have h3 : ((0x3A800000#32 : BitVec 32).extractLsb' (8 + 23) 1 == 1#1) = false := by decide
  show Ideal.ieee 8 23 (0x3A800000#32) = _
  simp only [Ideal.ieee]
  rw [h1, h2, h3, if_neg (by norm_num), if_neg (by norm_num)]
  norm_num

/-- A half. -/
theorem bits_half : Ideal.ofBits .f32 0x3F000000#32 = ((1 / 2 : ℝ) : EReal) := by
  have h1 : ((0x3F000000#32 : BitVec 32).extractLsb' 23 8).toNat = 126 := by decide
  have h2 : ((0x3F000000#32 : BitVec 32).extractLsb' 0 23).toNat = 0 := by decide
  have h3 : ((0x3F000000#32 : BitVec 32).extractLsb' (8 + 23) 1 == 1#1) = false := by decide
  show Ideal.ieee 8 23 (0x3F000000#32) = _
  simp only [Ideal.ieee]
  rw [h1, h2, h3, if_neg (by norm_num), if_neg (by norm_num)]
  norm_num

/-- One. -/
theorem bits_one : Ideal.ofBits .f32 0x3F800000#32 = ((1 : ℝ) : EReal) := by
  have h1 : ((0x3F800000#32 : BitVec 32).extractLsb' 23 8).toNat = 127 := by decide
  have h2 : ((0x3F800000#32 : BitVec 32).extractLsb' 0 23).toNat = 0 := by decide
  have h3 : ((0x3F800000#32 : BitVec 32).extractLsb' (8 + 23) 1 == 1#1) = false := by decide
  show Ideal.ieee 8 23 (0x3F800000#32) = _
  simp only [Ideal.ieee]
  rw [h1, h2, h3, if_neg (by norm_num), if_neg (by norm_num)]
  norm_num

/-- Two. -/
theorem bits_two : Ideal.ofBits .f32 0x40000000#32 = ((2 : ℝ) : EReal) := by
  have h1 : ((0x40000000#32 : BitVec 32).extractLsb' 23 8).toNat = 128 := by decide
  have h2 : ((0x40000000#32 : BitVec 32).extractLsb' 0 23).toNat = 0 := by decide
  have h3 : ((0x40000000#32 : BitVec 32).extractLsb' (8 + 23) 1 == 1#1) = false := by decide
  show Ideal.ieee 8 23 (0x40000000#32) = _
  simp only [Ideal.ieee]
  rw [h1, h2, h3, if_neg (by norm_num), if_neg (by norm_num)]
  norm_num

/-- The loss's derivative: half of two differences over the width is the kernel's factor. -/
theorem factor (y : EReal) : y * Ideal.ofBits .f32 0x3A800000#32
    = Ideal.div (Ideal.ofBits .f32 0x3F000000#32 * Ideal.ofBits .f32 0x3F800000#32) (Ideal.ofBits .f32 0x44800000#32)
      * (Ideal.ofBits .f32 0x40000000#32 * y) := by
  rw [bits_inv, bits_half, bits_one, bits_two, Cert.Proof.bits_1024, ← EReal.coe_mul, Cert.Proof.div_coe _ _ (by norm_num), ← mul_assoc, ← EReal.coe_mul, mul_comm]
  norm_num

/-- The reference's cotangent of the normalised rows is the kernel's. -/
theorem cot_apply (X T : FVec Ideal S8192x1024 .f32) (G : FVec Ideal Cert.Reference6Ideal.S1024 .f32) (u : Fin 8192) (k : Fin 1024) :
    cot X T G (ix2 u k) = (X (ix2 u k) * Ideal.rsqrt (Cert.Proof.rowMeanSq fun k : Fin 1024 => X (ix2 u k)) * G (ix1 k) - T (ix2 u k))
      * Ideal.ofBits .f32 0x3A800000#32 * G (ix1 k) := by
  rw [factor]
  pointwise [cot, meanSq, gains]

/-- One entry of a tile of rows: the kernel's derivative of the norm is the reference's. -/
theorem core_0 (v21 : FVec Ideal S256x1024 .f32) (v23 : FVec Ideal S256x704 .bf16) (v25 : FVec Ideal S704x1024 .bf16) (cst : FVec Ideal S256x1024 .f32) (v28 : Vec Ideal S256x1024 .f32) (G : FVec Ideal S1x1024 .f32) (T : Vec Ideal S256x1024 .f32)
    (X Tm : FVec Ideal S8192x1024 .f32) (Gm : FVec Ideal Cert.Reference6Ideal.S1024 .f32) (a : Fin 256) (b : Fin 1024) (u : Fin 8192)
    (hx : ∀ k : Fin 1024, k0_pay11 v21 v23 v25 cst v28 (ix2 a k) = X (ix2 u k)) (hg : ∀ k : Fin 1024, G (ix2 0 k) = Gm (ix1 k))
    (ht : ∀ k : Fin 1024, T (ix2 a k) = Tm (ix2 u k))
    (rX : ∀ k : Fin 1024, IsReal (X (ix2 u k))) (rC : ∀ k : Fin 1024, IsReal (cot X Tm Gm (ix2 u k))) :
    k0_pay18 (F := Ideal) G (k0_pay12 v21 v23 v25 cst v28) (k0_pay13 v21 v23 v25 cst v28) (k0_pay16 G v21 v23 v25 cst v28 T) (ix2 a b) = back X (cot X Tm Gm) (ix2 u b) := by
  have hC := fun k => cot_apply X Tm Gm u k
  generalize cot X Tm Gm = C at hC rC ⊢
  simp only [k0_pay12, k0_pay13, k0_pay14, k0_pay16, k0_pay18, k0_pay15, k0_pay17]
  generalize k0_pay11 (F := Ideal) v21 v23 v25 cst v28 = H at hx ⊢
  pointwise [back, slope, meanSq]
  simp only [hx, hg, ht]
  simp only [← hC]
  simpa only [zero_add] using Cert.Proof.rms_bwd (fun k : Fin 1024 => X (ix2 u k)) (fun k : Fin 1024 => C (ix2 u k)) b 0 rX rC

/-- The same, at any index of the tile and of the array. -/
theorem tile_0 (v21 : FVec Ideal S256x1024 .f32) (v23 : FVec Ideal S256x704 .bf16) (v25 : FVec Ideal S704x1024 .bf16) (cst : FVec Ideal S256x1024 .f32) (v28 : Vec Ideal S256x1024 .f32) (G : FVec Ideal S1x1024 .f32) (T : Vec Ideal S256x1024 .f32)
    (X Tm : FVec Ideal S8192x1024 .f32) (Gm : FVec Ideal Cert.Reference6Ideal.S1024 .f32) (y : S256x1024.Idx) (j : S8192x1024.Idx)
    (hj : (j 1 : ℕ) = y 1)
    (hx : ∀ k : Fin 1024, k0_pay11 v21 v23 v25 cst v28 (ix2 (y 0) k) = X (ix2 (j 0) k)) (hg : ∀ k : Fin 1024, G (ix2 0 k) = Gm (ix1 k))
    (ht : ∀ k : Fin 1024, T (ix2 (y 0) k) = Tm (ix2 (j 0) k))
    (rX : ∀ k : Fin 1024, IsReal (X (ix2 (j 0) k))) (rC : ∀ k : Fin 1024, IsReal (cot X Tm Gm (ix2 (j 0) k))) :
    k0_pay18 (F := Ideal) G (k0_pay12 v21 v23 v25 cst v28) (k0_pay13 v21 v23 v25 cst v28) (k0_pay16 G v21 v23 v25 cst v28 T) y = back X (cot X Tm Gm) j := by
  obtain ⟨a, b, rfl⟩ : ∃ (a : Fin 256) (b : Fin 1024), y = ix2 a b := ⟨_, _, eq_ix2 y⟩
  obtain ⟨u, v, rfl⟩ : ∃ (u : Fin 8192) (v : Fin 1024), j = ix2 u v := ⟨_, _, eq_ix2 j⟩
  obtain rfl : v = b := Fin.ext hj
  exact core_0 v21 v23 v25 cst v28 G T X Tm Gm a v u hx hg ht rX rC

/-- One entry of a tile of rows: the kernel's derivative of the norm is the reference's. -/
theorem core_256 (v90 : FVec Ideal S256x1024 .f32) (v92 : FVec Ideal S256x704 .bf16) (v94 : FVec Ideal S704x1024 .bf16) (cst : FVec Ideal S256x1024 .f32) (v97 : Vec Ideal S1x256x704 .bf16) (v99 : Vec Ideal S1x704x1024 .bf16) (v103 : Vec Ideal S256x1024 .f32) (G : FVec Ideal S1x1024 .f32) (T : Vec Ideal S256x1024 .f32)
    (X Tm : FVec Ideal S8192x1024 .f32) (Gm : FVec Ideal Cert.Reference6Ideal.S1024 .f32) (a : Fin 256) (b : Fin 1024) (u : Fin 8192)
    (hx : ∀ k : Fin 1024, k0_pay23 v90 v92 v94 cst v97 v99 v103 (ix2 a k) = X (ix2 u k)) (hg : ∀ k : Fin 1024, G (ix2 0 k) = Gm (ix1 k))
    (ht : ∀ k : Fin 1024, T (ix2 a k) = Tm (ix2 u k))
    (rX : ∀ k : Fin 1024, IsReal (X (ix2 u k))) (rC : ∀ k : Fin 1024, IsReal (cot X Tm Gm (ix2 u k))) :
    k0_pay3 (F := Ideal) G (k0_pay24 v90 v92 v94 cst v97 v99 v103) (k0_pay25 v90 v92 v94 cst v97 v99 v103) (k0_pay26 G v90 v92 v94 cst v97 v99 v103 T) k0_pay28 (ix2 a b) = back X (cot X Tm Gm) (ix2 u b) := by
  have hC := fun k => cot_apply X Tm Gm u k
  generalize cot X Tm Gm = C at hC rC ⊢
  simp only [k0_pay24, k0_pay25, k0_pay26, k0_pay28, k0_pay27, k0_pay3]
  generalize k0_pay23 (F := Ideal) v90 v92 v94 cst v97 v99 v103 = H at hx ⊢
  pointwise [back, slope, meanSq, k0_pay1]
  simp only [hx, hg, ht]
  simp only [← hC]
  simpa only [zero_add] using Cert.Proof.rms_bwd (fun k : Fin 1024 => X (ix2 u k)) (fun k : Fin 1024 => C (ix2 u k)) b 0 rX rC

/-- The same, at any index of the tile and of the array. -/
theorem tile_256 (v90 : FVec Ideal S256x1024 .f32) (v92 : FVec Ideal S256x704 .bf16) (v94 : FVec Ideal S704x1024 .bf16) (cst : FVec Ideal S256x1024 .f32) (v97 : Vec Ideal S1x256x704 .bf16) (v99 : Vec Ideal S1x704x1024 .bf16) (v103 : Vec Ideal S256x1024 .f32) (G : FVec Ideal S1x1024 .f32) (T : Vec Ideal S256x1024 .f32)
    (X Tm : FVec Ideal S8192x1024 .f32) (Gm : FVec Ideal Cert.Reference6Ideal.S1024 .f32) (y : S256x1024.Idx) (j : S8192x1024.Idx)
    (hj : (j 1 : ℕ) = y 1)
    (hx : ∀ k : Fin 1024, k0_pay23 v90 v92 v94 cst v97 v99 v103 (ix2 (y 0) k) = X (ix2 (j 0) k)) (hg : ∀ k : Fin 1024, G (ix2 0 k) = Gm (ix1 k))
    (ht : ∀ k : Fin 1024, T (ix2 (y 0) k) = Tm (ix2 (j 0) k))
    (rX : ∀ k : Fin 1024, IsReal (X (ix2 (j 0) k))) (rC : ∀ k : Fin 1024, IsReal (cot X Tm Gm (ix2 (j 0) k))) :
    k0_pay3 (F := Ideal) G (k0_pay24 v90 v92 v94 cst v97 v99 v103) (k0_pay25 v90 v92 v94 cst v97 v99 v103) (k0_pay26 G v90 v92 v94 cst v97 v99 v103 T) k0_pay28 y = back X (cot X Tm Gm) j := by
  obtain ⟨a, b, rfl⟩ : ∃ (a : Fin 256) (b : Fin 1024), y = ix2 a b := ⟨_, _, eq_ix2 y⟩
  obtain ⟨u, v, rfl⟩ : ∃ (u : Fin 8192) (v : Fin 1024), j = ix2 u v := ⟨_, _, eq_ix2 j⟩
  obtain rfl : v = b := Fin.ext hj
  exact core_256 v90 v92 v94 cst v97 v99 v103 G T X Tm Gm a v u hx hg ht rX rC

/-- The gain's window is the gain, as a row. -/
theorem gain_at (c : Dev nD) (t : Fin cfg0.N) (k : Fin 1024) :
    k0_pay7 (F := Ideal) (iblk m c 3 t) (ix2 0 k) = m ((c.tc : Thread nD τ).loc main_arg3) (ix1 k) := by
  pointwise [k0_pay7]
  blk_point [iblk, V, idx t]

/-- The residual is real where its parts are. -/
theorem real_resid (P : FVec Ideal Cert.Reference6Ideal.S8192x2816 .bf16) (H : FVec Ideal S8192x1024 .f32) (W : FVec Ideal Cert.Reference6Ideal.S2816x1024 .f32)
    (rP : ∀ j, IsReal (P j)) (rH : ∀ j, IsReal (H j)) (rW : ∀ j, IsReal (W j)) (u : Fin 8192) (k : Fin 1024) : IsReal (resid P H W (ix2 u k)) := by
  pointwise [resid]
  exact (rH _).add (IsReal.sum _ _ fun k => (rP _).mul (rW _))

/-- ... and the cotangent of the normalised rows. -/
theorem real_cot (X T : FVec Ideal S8192x1024 .f32) (G : FVec Ideal Cert.Reference6Ideal.S1024 .f32) (u : Fin 8192)
    (rX : ∀ k : Fin 1024, IsReal (X (ix2 u k))) (rT : ∀ j, IsReal (T j)) (rG : ∀ j, IsReal (G j)) (k : Fin 1024) : IsReal (cot X T G (ix2 u k)) := by
  rw [cot_apply, factor]
  refine IsReal.mul (IsReal.mul ?_ (IsReal.mul ?_ ((((rX k).mul (Cert.Proof.rowScale_real _ rX)).mul (rG _)).sub (rT _)))) (rG _)
  · rw [bits_half, bits_one, Cert.Proof.bits_1024, ← EReal.coe_mul, Cert.Proof.div_coe _ _ (by norm_num)]
    exact ⟨_, rfl⟩
  · rw [bits_two]
    exact ⟨_, rfl⟩

/-- The array of the cotangent after the run. -/
theorem final5 (c : Dev nD)
    (rP : ∀ j, IsReal ((m ((c.tc : Thread nD τ).loc main_arg0)) j)) (rH : ∀ j, IsReal ((m ((c.tc : Thread nD τ).loc main_arg1)) j)) (rT : ∀ j, IsReal ((m ((c.tc : Thread nD τ).loc main_arg2)) j))
    (rG : ∀ j, IsReal ((m ((c.tc : Thread nD τ).loc main_arg3)) j)) (rW : ∀ j, IsReal ((m ((c.tc : Thread nD τ).loc main_arg4)) j)) :
    (dats m 0 c).arrAt 5 (cfgs 0).N = back (resid (m ((c.tc : Thread nD τ).loc main_arg0)) (m ((c.tc : Thread nD τ).loc main_arg1)) (m ((c.tc : Thread nD τ).loc main_arg4))) (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3))) := by
  refine (dats m 0 c).arrAt_eq_of_covers 5 _ (by decide +kernel) fun t hf y => ?_
  blk_simp
  rw [after0_5]
  have rX : ∀ (u : Fin 8192) (k : Fin 1024), IsReal (resid (m ((c.tc : Thread nD τ).loc main_arg0)) (m ((c.tc : Thread nD τ).loc main_arg1)) (m ((c.tc : Thread nD τ).loc main_arg4)) (ix2 u k)) := fun u k => real_resid _ _ _ rP rH rW u k
  have rC : ∀ (u : Fin 8192) (k : Fin 1024), IsReal (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3)) (ix2 u k)) := fun u k => real_cot _ _ _ u (rX u) rT rG k
  by_cases h0 : t.val % 16 = 0
  · rw [outsAt0_A m c t h0]
    dsimp only
    frame_out
    canon_tiles x h
    · refine tile_256 _ _ _ _ _ _ _ _ _ _ _ _ x _ ?_ (fun k => ?_) (fun k => ?_) (fun k => ?_) (fun k => rX _ k) (fun k => rC _ k)
      · blk_simp [idx t]; omega
      · refine resid_256 m c t (x 0) k _ ?_
        blk_simp [idx t]; omega
      · exact gain_at m c t k
      · blk_simp [idx t]
        blk_point [iblk, V, idx t]
    · refine tile_0 _ _ _ _ _ _ _ _ _ _ x _ ?_ (fun k => ?_) (fun k => ?_) (fun k => ?_) (fun k => rX _ k) (fun k => rC _ k)
      · blk_simp [idx t]; omega
      · refine resid_0 m c t (x 0) k _ ?_
        blk_simp [idx t]; omega
      · exact gain_at m c t k
      · blk_simp [idx t]
        blk_point [iblk, V, idx t]
  · rw [outsAt0_B m c t h0]
    dsimp only
    frame_out
    canon_tiles x h
    · refine tile_256 _ _ _ _ _ _ _ _ _ _ _ _ x _ ?_ (fun k => ?_) (fun k => ?_) (fun k => ?_) (fun k => rX _ k) (fun k => rC _ k)
      · blk_simp [idx t]; omega
      · refine resid_256 m c t (x 0) k _ ?_
        blk_simp [idx t]; omega
      · exact gain_at m c t k
      · blk_simp [idx t]
        blk_point [iblk, V, idx t]
    · refine tile_0 _ _ _ _ _ _ _ _ _ _ x _ ?_ (fun k => ?_) (fun k => ?_) (fun k => ?_) (fun k => rX _ k) (fun k => rC _ k)
      · blk_simp [idx t]; omega
      · refine resid_0 m c t (x 0) k _ ?_
        blk_simp [idx t]; omega
      · exact gain_at m c t k
      · blk_simp [idx t]
        blk_point [iblk, V, idx t]

/-- The array of the cotangent as the products take it, after the run. -/
theorem final6 (c : Dev nD)
    (rP : ∀ j, IsReal ((m ((c.tc : Thread nD τ).loc main_arg0)) j)) (rH : ∀ j, IsReal ((m ((c.tc : Thread nD τ).loc main_arg1)) j)) (rT : ∀ j, IsReal ((m ((c.tc : Thread nD τ).loc main_arg2)) j))
    (rG : ∀ j, IsReal ((m ((c.tc : Thread nD τ).loc main_arg3)) j)) (rW : ∀ j, IsReal ((m ((c.tc : Thread nD τ).loc main_arg4)) j)) :
    (dats m 0 c).arrAt 6 (cfgs 0).N = truncf .bf16 (back (resid (m ((c.tc : Thread nD τ).loc main_arg0)) (m ((c.tc : Thread nD τ).loc main_arg1)) (m ((c.tc : Thread nD τ).loc main_arg4))) (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3)))) Cert.Reference6Ideal.Gen.bitsLt_bf16_f32 := by
  refine (dats m 0 c).arrAt_eq_of_covers 6 _ (by decide +kernel) fun t hf y => ?_
  blk_simp
  rw [after0_6]
  rw [show ∀ j, truncf (F := Ideal) .bf16 (back (resid (m ((c.tc : Thread nD τ).loc main_arg0)) (m ((c.tc : Thread nD τ).loc main_arg1)) (m ((c.tc : Thread nD τ).loc main_arg4))) (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3)))) Cert.Reference6Ideal.Gen.bitsLt_bf16_f32 j = back (resid (m ((c.tc : Thread nD τ).loc main_arg0)) (m ((c.tc : Thread nD τ).loc main_arg1)) (m ((c.tc : Thread nD τ).loc main_arg4))) (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3))) j from fun _ => rfl]
  have rX : ∀ (u : Fin 8192) (k : Fin 1024), IsReal (resid (m ((c.tc : Thread nD τ).loc main_arg0)) (m ((c.tc : Thread nD τ).loc main_arg1)) (m ((c.tc : Thread nD τ).loc main_arg4)) (ix2 u k)) := fun u k => real_resid _ _ _ rP rH rW u k
  have rC : ∀ (u : Fin 8192) (k : Fin 1024), IsReal (cot (resid (m ((c.tc : Thread nD τ).loc main_arg0)) (m ((c.tc : Thread nD τ).loc main_arg1)) (m ((c.tc : Thread nD τ).loc main_arg4))) (m ((c.tc : Thread nD τ).loc main_arg2)) (m ((c.tc : Thread nD τ).loc main_arg3)) (ix2 u k)) := fun u k => real_cot _ _ _ u (rX u) rT rG k
  by_cases h0 : t.val % 16 = 0
  · rw [outsAt0_A m c t h0]
    dsimp only
    frame_out
    canon_tiles x h
    · refine tile_256 _ _ _ _ _ _ _ _ _ _ _ _ x _ ?_ (fun k => ?_) (fun k => ?_) (fun k => ?_) (fun k => rX _ k) (fun k => rC _ k)
      · blk_simp [idx t]; omega
      · refine resid_256 m c t (x 0) k _ ?_
        blk_simp [idx t]; omega
      · exact gain_at m c t k
      · blk_simp [idx t]
        blk_point [iblk, V, idx t]
    · refine tile_0 _ _ _ _ _ _ _ _ _ _ x _ ?_ (fun k => ?_) (fun k => ?_) (fun k => ?_) (fun k => rX _ k) (fun k => rC _ k)
      · blk_simp [idx t]; omega
      · refine resid_0 m c t (x 0) k _ ?_
        blk_simp [idx t]; omega
      · exact gain_at m c t k
      · blk_simp [idx t]
        blk_point [iblk, V, idx t]
  · rw [outsAt0_B m c t h0]
    dsimp only
    frame_out
    canon_tiles x h
    · refine tile_256 _ _ _ _ _ _ _ _ _ _ _ _ x _ ?_ (fun k => ?_) (fun k => ?_) (fun k => ?_) (fun k => rX _ k) (fun k => rC _ k)
      · blk_simp [idx t]; omega
      · refine resid_256 m c t (x 0) k _ ?_
        blk_simp [idx t]; omega
      · exact gain_at m c t k
      · blk_simp [idx t]
        blk_point [iblk, V, idx t]
    · refine tile_0 _ _ _ _ _ _ _ _ _ _ x _ ?_ (fun k => ?_) (fun k => ?_) (fun k => ?_) (fun k => rX _ k) (fun k => rC _ k)
      · blk_simp [idx t]; omega
      · refine resid_0 m c t (x 0) k _ ?_
        blk_simp [idx t]; omega
      · exact gain_at m c t k
      · blk_simp [idx t]
        blk_point [iblk, V, idx t]

/-- Where the precondition holds, the arguments are real numbers. -/
theorem real_of_finite (hpre : Cert.Pre_Kernel6Ideal_finite6 m) (c : Dev nD) :
    (∀ j, IsReal ((m ((c.tc : Thread nD τ).loc main_arg0)) j)) ∧ (∀ j, IsReal ((m ((c.tc : Thread nD τ).loc main_arg1)) j)) ∧ (∀ j, IsReal ((m ((c.tc : Thread nD τ).loc main_arg2)) j)) ∧ (∀ j, IsReal ((m ((c.tc : Thread nD τ).loc main_arg3)) j)) ∧ (∀ j, IsReal ((m ((c.tc : Thread nD τ).loc main_arg4)) j)) := by
  obtain ⟨h0, h1, h2, h3, h4⟩ := hpre c
  refine ⟨fun j => ?_, fun j => ?_, fun j => ?_, fun j => ?_, fun j => ?_⟩
  · have h := congrFun h0 j
    pointwise [Cert.Pre_finite6.fn] at h
    exact IsReal.of_cmp h
  · have h := congrFun h1 j
    pointwise [Cert.Pre_finite6.fn] at h
    exact IsReal.of_cmp h
  · have h := congrFun h2 j
    pointwise [Cert.Pre_finite6.fn] at h
    exact IsReal.of_cmp h
  · have h := congrFun h3 j
    pointwise [Cert.Pre_finite6.fn] at h
    exact IsReal.of_cmp h
  · have h := congrFun h4 j
    pointwise [Cert.Pre_finite6.fn] at h
    exact IsReal.of_cmp h

end Cert.Kernel6Ideal.Down

end
-- ==== Proof.Ffn.DownGain.lean ====
/- The loss, and the gradient of the final norm's gain: its eight partial sums, over the rows 0, 8, …, over the rows 1, 9, … and so on,
   tile by tile and half by half in the kernel and at once in the reference. -/
module

public import proofs.«01_k».proof.Proof.Ffn.Down

@[expose] public section

set_option maxRecDepth 16384

noncomputable section

open Idealize.ShloMosaic Idealize.ShloMosaic.TcCoe Idealize.SL.Sem
open Idealize.ShloMosaic.Pipeline (Dat)
open Cert.Proof (IsReal)

namespace Cert.Kernel6Ideal.Down

open Cert.Kernel6Ideal Cert.Kernel6Ideal.Gen

variable (m : (ℓ : Loc nD τ sig) → Buf (Elt Ideal) ℓ)

open Cert.Reference6Ideal.Gen in
/-- The rows over their root mean squares. -/
abbrev unitRows (X : FVec Ideal S8192x1024 .f32) : FVec Ideal S8192x1024 .f32 :=
  mulf X (broadcastInDim S8192x1024 ![0, 1] bcast_S8192x1_S8192x1024_0_1 (Host.rsqrt (meanSq X)))

open Cert.Reference6Ideal.Gen in
/-- The sums of the products of two arrays' entries, over the rows of each remainder by eight. -/
abbrev eighths (N C : FVec Ideal S8192x1024 .f32) : FVec Ideal S8x1024 .f32 :=
  Host.reduceAdd (shapeCast Cert.Reference6Ideal.S1x8x1024 (Host.reduceAdd (mulf
      (shapeCast Cert.Reference6Ideal.S1024x8x1024 (mulf N (broadcastInDim S8192x1024 ![] bcast_S_S8192x1024 (constant Cert.Reference6Ideal.S_ .f32 0x3F800000#32)))
        shapeCasts_S8192x1024_S1024x8x1024)
      (shapeCast Cert.Reference6Ideal.S1024x8x1024 C shapeCasts_S8192x1024_S1024x8x1024))
      (constant Cert.Reference6Ideal.S_ .f32 0x00000000#32) reducesTo_S1024x8x1024_S8x1024_d0 h_S_) shapeCasts_S8x1024_S1x8x1024)
    (constant Cert.Reference6Ideal.S_ .f32 0x00000000#32) reducesTo_S1x8x1024_S8x1024_d0 h_S_

open Cert.Reference6Ideal.Gen in
/-- The difference of the gained rows and the targets. -/
abbrev diff (X T : FVec Ideal S8192x1024 .f32) (G : FVec Ideal Cert.Reference6Ideal.S1024 .f32) : FVec Ideal S8192x1024 .f32 :=
  subf (mulf (mulf X (broadcastInDim S8192x1024 ![0, 1] bcast_S8192x1_S8192x1024_0_1 (Host.rsqrt (meanSq X)))) (gains G)) T

open Cert.Reference6Ideal.Gen in
/-- The loss: half the sum over the rows of the mean square of the differences, in every entry. -/
abbrev loss (X T : FVec Ideal S8192x1024 .f32) (G : FVec Ideal Cert.Reference6Ideal.S1024 .f32) : FVec Ideal S8x128 .f32 :=
  broadcastInDim S8x128 ![] bcast_S_S8x128 (mulf (constant Cert.Reference6Ideal.S_ .f32 0x3F000000#32) (Host.reduceAdd (Host.divf
      (Host.reduceAdd (mulf (diff X T G) (diff X T G)) (constant Cert.Reference6Ideal.S_ .f32 0x00000000#32) reducesTo_S8192x1024_S8192_d1 h_S_)
      (broadcastInDim Cert.Reference6Ideal.S8192 ![] bcast_S_S8192 (constant Cert.Reference6Ideal.S_ .f32 0x44800000#32)))
    (constant Cert.Reference6Ideal.S_ .f32 0x00000000#32) reducesTo_S8192_S_d0 h_S_))

open Cert.Reference6Ideal.Gen in
/-- The loss's derivative in the gained rows, the gain being one for each remainder by eight. -/
abbrev cotan (X T : FVec Ideal S8192x1024 .f32) (G : FVec Ideal Cert.Reference6Ideal.S1024 .f32) : FVec Ideal S8192x1024 .f32 :=
  mulf (broadcastInDim S8192x1024 ![0] bcast_S8192_S8192x1024_0 (Host.divf
      (broadcastInDim Cert.Reference6Ideal.S8192 ![] bcast_S_S8192 (mulf (constant Cert.Reference6Ideal.S_ .f32 0x3F000000#32) (constant Cert.Reference6Ideal.S_ .f32 0x3F800000#32)))
      (broadcastInDim Cert.Reference6Ideal.S8192 ![] bcast_S_S8192 (constant Cert.Reference6Ideal.S_ .f32 0x44800000#32))))
    (mulf (broadcastInDim S8192x1024 ![] bcast_S_S8192x1024 (constant Cert.Reference6Ideal.S_ .f32 0x40000000#32))
      (subf (shapeCast S8192x1024 (mulf
          (shapeCast Cert.Reference6Ideal.S1024x8x1024 (mulf (unitRows X) (broadcastInDim S8192x1024 ![] bcast_S_S8192x1024 (constant Cert.Reference6Ideal.S_ .f32 0x3F800000#32)))
            shapeCasts_S8192x1024_S1024x8x1024)
          (broadcastInDim Cert.Reference6Ideal.S1024x8x1024 ![0, 1, 2] bcast_S1x8x1024_S1024x8x1024_0_1_2
            (broadcastInDim Cert.Reference6Ideal.S1x8x1024 ![1, 2] bcast_S8x1024_S1x8x1024_1_2 (broadcastInDim S8x1024 ![1] bcast_S1024_S8x1024_1 G))))
        shapeCasts_S1024x8x1024_S8192x1024) T))

/-- The difference, entry by entry. -/
theorem diff_apply (X T : FVec Ideal S8192x1024 .f32) (G : FVec Ideal Cert.Reference6Ideal.S1024 .f32) (u : Fin 8192) (k : Fin 1024) :
    diff X T G (ix2 u k) = X (ix2 u k) * Ideal.rsqrt (Cert.Proof.rowMeanSq fun k : Fin 1024 => X (ix2 u k)) * G (ix1 k) - T (ix2 u k) := by
  pointwise [diff, meanSq, gains]

/-- The derivative is the difference over the width. -/
theorem cotan_apply (X T : FVec Ideal S8192x1024 .f32) (G : FVec Ideal Cert.Reference6Ideal.S1024 .f32) (u : Fin 8192) (k : Fin 1024) :
    cotan X T G (ix2 u k) = diff X T G (ix2 u k) * Ideal.ofBits .f32 0x3A800000#32 := by
  rw [factor, diff_apply]
  have e : (⟨u.val / 8 * 8 + u.val % 8, by omega⟩ : Fin 8192) = u := Fin.ext (by show u.val / 8 * 8 + u.val % 8 = u.val; omega)
  pointwise [cotan, unitRows, meanSq]

/-- One product of the sums. -/
def prod (X C : FVec Ideal S8192x1024 .f32) (u : Fin 8192) (b : Fin 1024) : EReal := C (ix2 u b) * unitRows X (ix2 u b)

/-- The sums, entry by entry. -/
theorem eighths_at (X C : FVec Ideal S8192x1024 .f32) (j : S8x1024.Idx) :
    eighths (unitRows X) C j = ∑ k : Fin 1024, prod X C ⟨k.val * 8 + (j 0).val, by idx_bounds; omega⟩ (j 1) := by
  obtain ⟨s, b, rfl⟩ : ∃ (s : Fin 8) (b : Fin 1024), j = ix2 s b := ⟨_, _, eq_ix2 j⟩
  unfold prod
  generalize unitRows X = N
  pointwise [eighths]
  simp [mul_comm]

theorem zero8 (j) : k0_pay6 (F := Ideal) j = 0 := by pointwise [k0_pay6]

/-- The first half of a tile adds the sums of its rows, ... -/
theorem half_0 (v21 : FVec Ideal S256x1024 .f32) (v23 : FVec Ideal S256x704 .bf16) (v25 : FVec Ideal S704x1024 .bf16) (cst : FVec Ideal S256x1024 .f32)
    (v28 : Vec Ideal S256x1024 .f32) (G : FVec Ideal S1x1024 .f32) (Tt : Vec Ideal S256x1024 .f32) (A : Vec Ideal S8x1024 .f32)
    (X T : FVec Ideal S8192x1024 .f32) (Gm : FVec Ideal Cert.Reference6Ideal.S1024 .f32) (row : Fin 256 → Fin 8192)
    (hx : ∀ a k, k0_pay11 (F := Ideal) v21 v23 v25 cst v28 (ix2 a k) = X (ix2 (row a) k)) (hg : ∀ k : Fin 1024, G (ix2 0 k) = Gm (ix1 k))
    (ht : ∀ a k, Tt (ix2 a k) = T (ix2 (row a) k)) (j : S8x1024.Idx) :
    k0_pay17 (F := Ideal) G v21 v23 v25 cst v28 Tt A j
      = A j + ∑ k : Fin 32, prod X (cotan X T Gm) (row ⟨k.val * 8 + (j 0).val, by idx_bounds; omega⟩) (j 1) := by
  obtain ⟨s, b, rfl⟩ : ∃ (s : Fin 8) (b : Fin 1024), j = ix2 s b := ⟨_, _, eq_ix2 j⟩
  have hC := fun u k => (cotan_apply X T Gm u k).trans (congrArg (· * _) (diff_apply X T Gm u k))
  generalize cotan X T Gm = C at hC ⊢
  unfold prod
  simp only [k0_pay17, k0_pay16, k0_pay14, k0_pay13, k0_pay12]
  generalize k0_pay11 (F := Ideal) v21 v23 v25 cst v28 = H at hx ⊢
  pointwise [unitRows, meanSq]
  simp only [hx, hg, ht, hC]

/-- ... and so does the second. -/
theorem half_256 (v90 : FVec Ideal S256x1024 .f32) (v92 : FVec Ideal S256x704 .bf16) (v94 : FVec Ideal S704x1024 .bf16) (cst : FVec Ideal S256x1024 .f32)
    (v97 : Vec Ideal S1x256x704 .bf16) (v99 : Vec Ideal S1x704x1024 .bf16) (v103 : Vec Ideal S256x1024 .f32) (G : FVec Ideal S1x1024 .f32)
    (Tt : Vec Ideal S256x1024 .f32) (A : Vec Ideal S8x1024 .f32)
    (X T : FVec Ideal S8192x1024 .f32) (Gm : FVec Ideal Cert.Reference6Ideal.S1024 .f32) (row : Fin 256 → Fin 8192)
    (hx : ∀ a k, k0_pay23 (F := Ideal) v90 v92 v94 cst v97 v99 v103 (ix2 a k) = X (ix2 (row a) k)) (hg : ∀ k : Fin 1024, G (ix2 0 k) = Gm (ix1 k))
    (ht : ∀ a k, Tt (ix2 a k) = T (ix2 (row a) k)) (j : S8x1024.Idx) :
    k0_pay2 (F := Ideal) (k0_pay25 v90 v92 v94 cst v97 v99 v103) (k0_pay26 G v90 v92 v94 cst v97 v99 v103 Tt) k0_pay28 A j
      = A j + ∑ k : Fin 32, prod X (cotan X T Gm) (row ⟨k.val * 8 + (j 0).val, by idx_bounds; omega⟩) (j 1) := by
  obtain ⟨s, b, rfl⟩ : ∃ (s : Fin 8) (b : Fin 1024), j = ix2 s b := ⟨_, _, eq_ix2 j⟩
  have hC := fun u k => (cotan_apply X T Gm u k).trans (congrArg (· * _) (diff_apply X T Gm u k))
  generalize cotan X T Gm = C at hC ⊢
  unfold prod
  simp only [k0_pay2, k0_pay1, k0_pay24, k0_pay25, k0_pay26, k0_pay28]
  generalize k0_pay23 (F := Ideal) v90 v92 v94 cst v97 v99 v103 = H at hx ⊢
  pointwise [unitRows, meanSq]
  simp only [hx, hg, ht, hC]

/-- Both halves of a tile. -/
theorem both (X C : FVec Ideal S8192x1024 .f32) (n : ℕ) (hn : n < 16) (j : S8x1024.Idx) (x : EReal) :
    x + (∑ k : Fin 32, prod X C ⟨n * 512 + (k.val * 8 + (j 0).val), by idx_bounds; omega⟩ (j 1))
        + ∑ k : Fin 32, prod X C ⟨n * 512 + (256 + (k.val * 8 + (j 0).val)), by idx_bounds; omega⟩ (j 1)
      = x + ∑ k : Fin 64, prod X C ⟨(n * 64 + k.val) * 8 + (j 0).val, by idx_bounds; omega⟩ (j 1) := by
  rw [add_assoc]
  refine congrArg (x + ·) (Eq.symm ((Fin.sum_univ_add (a := 32) (b := 32)
    (fun k : Fin 64 => prod X C ⟨(n * 64 + k.val) * 8 + (j 0).val, by idx_bounds; omega⟩ (j 1))).trans (congrArg₂ (· + ·) ?_ ?_)))
  · refine Finset.sum_congr rfl fun k _ => congrArg (prod X C · (j 1)) (Fin.ext ?_)
    show (n * 64 + k.val) * 8 + (j 0).val = n * 512 + (k.val * 8 + (j 0).val)
    omega
  · refine Finset.sum_congr rfl fun k _ => congrArg (prod X C · (j 1)) (Fin.ext ?_)
    show (n * 64 + (32 + k.val)) * 8 + (j 0).val = n * 512 + (256 + (k.val * 8 + (j 0).val))
    omega

/-- The second residual, of the arguments. -/
abbrev res (c : Dev nD) : FVec Ideal S8192x1024 .f32 := resid (m ((c.tc : Thread nD τ).loc main_arg0)) (m ((c.tc : Thread nD τ).loc main_arg1)) (m ((c.tc : Thread nD τ).loc main_arg4))

/-- The loss's derivative, of the arguments. -/
abbrev der (c : Dev nD) : FVec Ideal S8192x1024 .f32 := cotan (res m c) (m ((c.tc : Thread nD τ).loc main_arg2)) (m ((c.tc : Thread nD τ).loc main_arg3))

/-- What a point leaves of the gain's gradient: the first over zeros, ... -/
theorem first8 (c : Dev nD) (t : Fin cfg0.N) (ht : t.val < 16) (h : t.val % 16 = 0) (j : S8x1024.Idx) :
    (outsAt0 m c t.val t.isLt).2.2.2 j = 0
      + ∑ k : Fin 64, prod (res m c) (der m c) ⟨(t.val * 64 + k.val) * 8 + (j 0).val, by idx_bounds; omega⟩ (j 1) := by
  rw [outsAt0_A m c t h]
  dsimp only
  frame_out
  refine (half_256 _ _ _ _ _ _ _ _ _ _ (res m c) (m ((c.tc : Thread nD τ).loc main_arg2)) (m ((c.tc : Thread nD τ).loc main_arg3)) (fun a => ⟨t.val * 512 + (256 + a.val), by omega⟩)
    (fun a b => resid_256 m c t a b _ rfl) (fun k => gain_at m c t k) (fun a b => ?_) j).trans ?_
  · blk_point [iblk, V, idx t]
  refine (congrArg (· + _) ((half_0 _ _ _ _ _ _ _ _ (res m c) (m ((c.tc : Thread nD τ).loc main_arg2)) (m ((c.tc : Thread nD τ).loc main_arg3)) (fun a => ⟨t.val * 512 + a.val, by omega⟩)
    (fun a b => resid_0 m c t a b _ rfl) (fun k => gain_at m c t k) (fun a b => ?_) j).trans (congrArg (· + _) (zero8 j)))).trans (both _ _ _ ht j _)
  blk_point [iblk, V, idx t]

/-- ... a later one over what the one before left. -/
theorem later8 (c : Dev nD) (t : Fin cfg0.N) (ht : t.val < 16) (h : ¬ t.val % 16 = 0) (j : S8x1024.Idx) :
    (outsAt0 m c t.val t.isLt).2.2.2 j = (outsAt0 m c (t.val - 1) (by omega)).2.2.2 j
      + ∑ k : Fin 64, prod (res m c) (der m c) ⟨(t.val * 64 + k.val) * 8 + (j 0).val, by idx_bounds; omega⟩ (j 1) := by
  rw [outsAt0_B m c t h]
  dsimp only
  frame_out
  refine (half_256 _ _ _ _ _ _ _ _ _ _ (res m c) (m ((c.tc : Thread nD τ).loc main_arg2)) (m ((c.tc : Thread nD τ).loc main_arg3)) (fun a => ⟨t.val * 512 + (256 + a.val), by omega⟩)
    (fun a b => resid_256 m c t a b _ rfl) (fun k => gain_at m c t k) (fun a b => ?_) j).trans ?_
  · blk_point [iblk, V, idx t]
  refine (congrArg (· + _) (half_0 _ _ _ _ _ _ _ _ (res m c) (m ((c.tc : Thread nD τ).loc main_arg2)) (m ((c.tc : Thread nD τ).loc main_arg3)) (fun a => ⟨t.val * 512 + a.val, by omega⟩)
    (fun a b => resid_0 m c t a b _ rfl) (fun k => gain_at m c t k) (fun a b => ?_) j)).trans (both _ _ _ ht j _)
  blk_point [iblk, V, idx t]

/-- The gain's gradient is one block. -/
theorem idx8 : ∀ t : Fin cfg0.N, win0_8.index t = ![0, 0] := (by decide +kernel : ∀ t : Fin grid0.N, _)

/-- The same product, of the same row and column. -/
theorem prod_congr (X C : FVec Ideal S8192x1024 .f32) (u v : Fin 8192) (a b : Fin 1024) (h : (u : ℕ) = v) (hb : (a : ℕ) = b) :
    prod X C u a = prod X C v b := by
  obtain rfl := Fin.ext h
  obtain rfl := Fin.ext hb
  rfl

/-- The array of the gain's gradient after the run. -/
theorem final8 (c : Dev nD) : (dats m 0 c).arrAt 8 (cfgs 0).N = eighths (unitRows (res m c)) (der m c) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun t j => ∑ k : Fin 64, prod (res m c) (der m c)
      ⟨(t.val * 64 + k.val) * 8 + (j 0).val, by idx_bounds; have : t.val < 16 := t.isLt; omega⟩ (j 1))
    (fun t h j => first8 m c t t.isLt h j) (fun t h j => later8 m c t t.isLt h j) t ((flush0_8 t).mp hf) _, zero_add]
  refine Eq.trans ?_ (eighths_at _ _ _).symm
  refine Fin.sum_mul_add_congr fun s k hl => ?_
  have h16 : t.val / 16 = 0 := by have : t.val < 16 := t.isLt; omega
  refine prod_congr _ _ _ _ _ _ ?_ ?_
  · change ((16 * (t.val / 16) + s.val) * 64 + k.val) * 8 + _ = (s.val * 64 + k.val) * 8 + _
    rw [h16]
    blk_simp [idx8 t]
    omega
  · blk_simp [idx8 t]

end Cert.Kernel6Ideal.Down

end
-- ==== Proof.Ffn.DownLoss.lean ====
/- The loss: the kernel adds, tile by tile and half by half, the squares of the differences times a constant, in every entry of a block;
   the reference takes half the sum of the rows' means. -/
module

public import proofs.«01_k».proof.Proof.Ffn.DownGain

@[expose] public section

set_option maxRecDepth 16384

noncomputable section

open Idealize.ShloMosaic Idealize.ShloMosaic.TcCoe Idealize.SL.Sem
open Idealize.ShloMosaic.Pipeline (Dat)
open Cert.Proof (IsReal)

namespace Cert.Kernel6Ideal.Down

open Cert.Kernel6Ideal Cert.Kernel6Ideal.Gen

variable (m : (ℓ : Loc nD τ sig) → Buf (Elt Ideal) ℓ)

/-- Half of one over the width. -/
theorem bits_half_inv : Ideal.ofBits .f32 0x3A000000#32 = ((1 / 2048 : ℝ) : EReal) := by
  have h1 : ((0x3A000000#32 : BitVec 32).extractLsb' 23 8).toNat = 116 := by decide
  have h2 : ((0x3A000000#32 : BitVec 32).extractLsb' 0 23).toNat = 0 := by decide
  have h3 : ((0x3A000000#32 : BitVec 32).extractLsb' (8 + 23) 1 == 1#1) = false := by decide
  show Ideal.ieee 8 23 (0x3A000000#32) = _
  simp only [Ideal.ieee]
  rw [h1, h2, h3, if_neg (by norm_num), if_neg (by norm_num)]
  norm_num

/-- A constant times a sum of real numbers. -/
theorem sum_scale {n : ℕ} (R : Fin n → EReal) (hR : ∀ u, IsReal (R u)) :
    (∑ u, R u) * Ideal.ofBits .f32 0x3A000000#32 = ∑ u, R u * Ideal.ofBits .f32 0x3A000000#32 := by
  choose r hr using hR
  obtain rfl : R = fun u => (r u : EReal) := funext hr
  simp only [bits_half_inv, ← EReal.coe_mul, IsReal.sum_coe, Finset.sum_mul]

/-- Half the sum of the means. -/
theorem half_means {n : ℕ} (R : Fin n → EReal) (hR : ∀ u, IsReal (R u)) :
    Ideal.ofBits .f32 0x3F000000#32 * ∑ u, Ideal.div (R u) (Ideal.ofBits .f32 0x44800000#32)
      = ∑ u, R u * Ideal.ofBits .f32 0x3A000000#32 := by
  choose r hr using hR
  obtain rfl : R = fun u => (r u : EReal) := funext hr
  simp only [bits_half_inv, bits_half, Cert.Proof.bits_1024, Cert.Proof.div_coe _ _ (by norm_num : (1024 : ℝ) ≠ 0), ← EReal.coe_mul, IsReal.sum_coe,
    Finset.mul_sum]
  refine congrArg _ (Finset.sum_congr rfl fun u _ => ?_)
  ring

/-- The sum of a row's squares. -/
def square (X T : FVec Ideal S8192x1024 .f32) (G : FVec Ideal Cert.Reference6Ideal.S1024 .f32) (u : Fin 8192) : EReal :=
  ∑ k : Fin 1024, diff X T G (ix2 u k) * diff X T G (ix2 u k)

/-- The loss, by the rows' squares. -/
theorem loss_at (X T : FVec Ideal S8192x1024 .f32) (G : FVec Ideal Cert.Reference6Ideal.S1024 .f32) (hR : ∀ u, IsReal (square X T G u)) (j : S8x128.Idx) :
    loss X T G j = ∑ u, square X T G u * Ideal.ofBits .f32 0x3A000000#32 := by
  rw [← half_means _ hR]
  unfold square
  obtain ⟨s, b, rfl⟩ : ∃ (s : Fin 8) (b : Fin 128), j = ix2 s b := ⟨_, _, eq_ix2 j⟩
  pointwise [loss]

theorem zero7 (j) : k0_pay5 (F := Ideal) j = 0 := by pointwise [k0_pay5]

/-- The first half of a tile adds its rows' squares, ... -/
theorem squares_0 (v21 : FVec Ideal S256x1024 .f32) (v23 : FVec Ideal S256x704 .bf16) (v25 : FVec Ideal S704x1024 .bf16) (cst : FVec Ideal S256x1024 .f32)
    (v28 : Vec Ideal S256x1024 .f32) (G : FVec Ideal S1x1024 .f32) (Tt : Vec Ideal S256x1024 .f32) (A : Vec Ideal S8x128 .f32)
    (X T : FVec Ideal S8192x1024 .f32) (Gm : FVec Ideal Cert.Reference6Ideal.S1024 .f32) (row : Fin 256 → Fin 8192)
    (hx : ∀ a k, k0_pay11 (F := Ideal) v21 v23 v25 cst v28 (ix2 a k) = X (ix2 (row a) k)) (hg : ∀ k : Fin 1024, G (ix2 0 k) = Gm (ix1 k))
    (ht : ∀ a k, Tt (ix2 a k) = T (ix2 (row a) k)) (hR : ∀ u, IsReal (square X T Gm u)) (j : S8x128.Idx) :
    k0_pay15 (F := Ideal) G v21 v23 v25 cst v28 Tt A j
      = A j + ∑ a : Fin 256, square X T Gm (row a) * Ideal.ofBits .f32 0x3A000000#32 := by
  obtain ⟨s, b, rfl⟩ : ∃ (s : Fin 8) (b : Fin 128), j = ix2 s b := ⟨_, _, eq_ix2 j⟩
  rw [← sum_scale _ fun a => hR (row a)]
  have hD := diff_apply X T Gm
  unfold square
  generalize diff X T Gm = D at hD ⊢
  simp only [k0_pay15, k0_pay14, k0_pay13, k0_pay12]
  generalize k0_pay11 (F := Ideal) v21 v23 v25 cst v28 = H at hx ⊢
  pointwise
  simp only [hx, hg, ht, hD]

/-- ... and so does the second. -/
theorem squares_256 (v90 : FVec Ideal S256x1024 .f32) (v92 : FVec Ideal S256x704 .bf16) (v94 : FVec Ideal S704x1024 .bf16) (cst : FVec Ideal S256x1024 .f32)
    (v97 : Vec Ideal S1x256x704 .bf16) (v99 : Vec Ideal S1x704x1024 .bf16) (v103 : Vec Ideal S256x1024 .f32) (G : FVec Ideal S1x1024 .f32)
    (Tt : Vec Ideal S256x1024 .f32) (A : Vec Ideal S8x128 .f32)
    (X T : FVec Ideal S8192x1024 .f32) (Gm : FVec Ideal Cert.Reference6Ideal.S1024 .f32) (row : Fin 256 → Fin 8192)
    (hx : ∀ a k, k0_pay23 (F := Ideal) v90 v92 v94 cst v97 v99 v103 (ix2 a k) = X (ix2 (row a) k)) (hg : ∀ k : Fin 1024, G (ix2 0 k) = Gm (ix1 k))
    (ht : ∀ a k, Tt (ix2 a k) = T (ix2 (row a) k)) (hR : ∀ u, IsReal (square X T Gm u)) (j : S8x128.Idx) :
    k0_pay27 (F := Ideal) G v90 v92 v94 cst v97 v99 v103 Tt A j
      = A j + ∑ a : Fin 256, square X T Gm (row a) * Ideal.ofBits .f32 0x3A000000#32 := by
  obtain ⟨s, b, rfl⟩ : ∃ (s : Fin 8) (b : Fin 128), j = ix2 s b := ⟨_, _, eq_ix2 j⟩
  rw [← sum_scale _ fun a => hR (row a)]
  have hD := diff_apply X T Gm
  unfold square
  generalize diff X T Gm = D at hD ⊢
  simp only [k0_pay27, k0_pay26, k0_pay25, k0_pay24]
  generalize k0_pay23 (F := Ideal) v90 v92 v94 cst v97 v99 v103 = H at hx ⊢
  pointwise
  simp only [hx, hg, ht, hD]

/-- Both halves of a tile. -/
theorem tile_rows (f : Fin 8192 → EReal) (n : ℕ) (hn : n < 16) (x : EReal) :
    x + (∑ a : Fin 256, f ⟨n * 512 + a.val, by omega⟩) + ∑ a : Fin 256, f ⟨n * 512 + (256 + a.val), by omega⟩
      = x + ∑ a : Fin 512, f ⟨n * 512 + a.val, by omega⟩ := by
  rw [add_assoc]
  exact congrArg (x + ·) (Fin.sum_univ_add (a := 256) (b := 256) (fun a : Fin 512 => f ⟨n * 512 + a.val, by omega⟩)).symm

/-- The differences' squares, of the arguments, times the constant. -/
def term (c : Dev nD) (u : Fin 8192) : EReal := square (res m c) (m ((c.tc : Thread nD τ).loc main_arg2)) (m ((c.tc : Thread nD τ).loc main_arg3)) u * Ideal.ofBits .f32 0x3A000000#32

/-- What a point leaves of the loss: the first over zeros, ... -/
theorem first7 (c : Dev nD) (t : Fin cfg0.N) (ht : t.val < 16) (h : t.val % 16 = 0) (hR : ∀ u, IsReal (square (res m c) (m ((c.tc : Thread nD τ).loc main_arg2)) (m ((c.tc : Thread nD τ).loc main_arg3)) u)) (j : S8x128.Idx) :
    (outsAt0 m c t.val t.isLt).2.2.1 j = 0 + ∑ a : Fin 512, term m c ⟨t.val * 512 + a.val, by omega⟩ := by
  rw [outsAt0_A m c t h]
  dsimp only
  frame_out
  refine (squares_256 _ _ _ _ _ _ _ _ _ _ (res m c) (m ((c.tc : Thread nD τ).loc main_arg2)) (m ((c.tc : Thread nD τ).loc main_arg3)) (fun a => ⟨t.val * 512 + (256 + a.val), by omega⟩)
    (fun a b => resid_256 m c t a b _ rfl) (fun k => gain_at m c t k) (fun a b => ?_) hR j).trans ?_
  · blk_point [iblk, V, idx t]
  refine (congrArg (· + _) ((squares_0 _ _ _ _ _ _ _ _ (res m c) (m ((c.tc : Thread nD τ).loc main_arg2)) (m ((c.tc : Thread nD τ).loc main_arg3)) (fun a => ⟨t.val * 512 + a.val, by omega⟩)
    (fun a b => resid_0 m c t a b _ rfl) (fun k => gain_at m c t k) (fun a b => ?_) hR j).trans (congrArg (· + _) (zero7 j)))).trans (tile_rows (term m c) _ ht _)
  blk_point [iblk, V, idx t]

/-- ... a later one over what the one before left. -/
theorem later7 (c : Dev nD) (t : Fin cfg0.N) (ht : t.val < 16) (h : ¬ t.val % 16 = 0) (hR : ∀ u, IsReal (square (res m c) (m ((c.tc : Thread nD τ).loc main_arg2)) (m ((c.tc : Thread nD τ).loc main_arg3)) u)) (j : S8x128.Idx) :
    (outsAt0 m c t.val t.isLt).2.2.1 j = (outsAt0 m c (t.val - 1) (by omega)).2.2.1 j + ∑ a : Fin 512, term m c ⟨t.val * 512 + a.val, by omega⟩ := by
  rw [outsAt0_B m c t h]
  dsimp only
  frame_out
  refine (squares_256 _ _ _ _ _ _ _ _ _ _ (res m c) (m ((c.tc : Thread nD τ).loc main_arg2)) (m ((c.tc : Thread nD τ).loc main_arg3)) (fun a => ⟨t.val * 512 + (256 + a.val), by omega⟩)
    (fun a b => resid_256 m c t a b _ rfl) (fun k => gain_at m c t k) (fun a b => ?_) hR j).trans ?_
  · blk_point [iblk, V, idx t]
  refine (congrArg (· + _) (squares_0 _ _ _ _ _ _ _ _ (res m c) (m ((c.tc : Thread nD τ).loc main_arg2)) (m ((c.tc : Thread nD τ).loc main_arg3)) (fun a => ⟨t.val * 512 + a.val, by omega⟩)
    (fun a b => resid_0 m c t a b _ rfl) (fun k => gain_at m c t k) (fun a b => ?_) hR j)).trans (tile_rows (term m c) _ ht _)
  blk_point [iblk, V, idx t]

/-- The squares are real where the arguments are. -/
theorem real_square (X T : FVec Ideal S8192x1024 .f32) (G : FVec Ideal Cert.Reference6Ideal.S1024 .f32)
    (rX : ∀ (u : Fin 8192) (k : Fin 1024), IsReal (X (ix2 u k))) (rT : ∀ j, IsReal (T j)) (rG : ∀ j, IsReal (G j)) (u : Fin 8192) : IsReal (square X T G u) := by
  have h : ∀ k, IsReal (diff X T G (ix2 u k)) := fun k => by
    rw [diff_apply]
    exact (((rX u k).mul (Cert.Proof.rowScale_real _ (rX u))).mul (rG _)).sub (rT _)
  exact IsReal.sum _ _ fun k => (h k).mul (h k)

/-- The array of the loss after the run. -/
theorem final7 (c : Dev nD)
    (rP : ∀ j, IsReal ((m ((c.tc : Thread nD τ).loc main_arg0)) j)) (rH : ∀ j, IsReal ((m ((c.tc : Thread nD τ).loc main_arg1)) j)) (rT : ∀ j, IsReal ((m ((c.tc : Thread nD τ).loc main_arg2)) j))
    (rG : ∀ j, IsReal ((m ((c.tc : Thread nD τ).loc main_arg3)) j)) (rW : ∀ j, IsReal ((m ((c.tc : Thread nD τ).loc main_arg4)) j)) :
    (dats m 0 c).arrAt 7 (cfgs 0).N = loss (res m c) (m ((c.tc : Thread nD τ).loc main_arg2)) (m ((c.tc : Thread nD τ).loc main_arg3)) := by
  have hR := real_square (res m c) (m ((c.tc : Thread nD τ).loc main_arg2)) (m ((c.tc : Thread nD τ).loc main_arg3)) (fun u k => real_resid _ _ _ rP rH rW u k) rT rG
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun t j => ∑ a : Fin 512, term m c ⟨t.val * 512 + a.val, by have : t.val < 16 := t.isLt; omega⟩)
    (fun t h j => first7 m c t t.isLt h hR j) (fun t h j => later7 m c t t.isLt h hR j) t ((flush0_7 t).mp hf) _, zero_add]
  refine Eq.trans ?_ (loss_at _ _ _ hR _).symm
  refine Fin.sum_mul_add_congr fun s k hl => ?_
  have h16 : t.val / 16 = 0 := by have : t.val < 16 := t.isLt; omega
  refine congrArg (term m c) (Fin.ext ?_)
  change (16 * (t.val / 16) + s.val) * 512 + k.val = s.val * 512 + k.val
  omega

end Cert.Kernel6Ideal.Down

end
-- ==== Proof.Ffn.DownClaim.lean ====
/- The claims about the loss and its cotangent. -/
module

public import proofs.«01_k».proof.Defs
public import proofs.«01_k».proof.Proof.Gen.Kernel6
public import proofs.«01_k».proof.Proof.Ffn.DownLoss
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies6 : Cert.Kernel6.defs₀ (F := Bits) = Cert.Kernel6Ideal.defs₀ (F := Bits) := by
  unfold Cert.Kernel6.defs₀ Cert.Kernel6Ideal.defs₀
  refine congrArg Defs.onTc ?_
  funext l x
  match l, x with
  | 0, (t, s) => rfl

/-- ... and so the same table of definitions. -/
theorem table6 : Cert.Kernel6.defs (F := Bits) = Cert.Kernel6Ideal.defs (F := Bits) := by
  unfold Cert.Kernel6.defs Cert.Kernel6Ideal.defs
  exact congrArg (Pipeline.defs Cert.Kernel6Ideal.pcfgs) bodies6

/-- Every run of the kernel over the extended reals ends, without a fault, with the counters at zero and the arguments unchanged. -/
theorem quiescent6I : Cert.quiescent_Kernel6Ideal := fun m ρ _ => Cert.Kernel6Ideal.Gen.frame m ρ

/-- The same of the kernel as it is. -/
theorem quiescent6 : Cert.quiescent_Kernel6 := fun m ρ _ => by
  rw [table6]
  exact Cert.Kernel6Ideal.Gen.frame (F := Bits) m ρ

/-- The same of the reference. -/
theorem quiescent6R : Cert.quiescent_Reference6Ideal := fun m ρ _ =>
  (θ_run Cert.Reference6Ideal.defs _ _).mono (fun r h => ⟨fun c => (h c).2.2.2.2,
    sem_eq_zero_of_no_sems (by decide) r.2⟩) (Cert.Reference6Ideal.Value.run m ρ)

/-- The kernel's ideal program and the reference are harmless where the precondition holds, as everywhere. -/
theorem quiescent6IPre : Cert.quiescent_Kernel6Ideal_pre_finite6 := fun m ρ _ => Cert.Kernel6Ideal.Gen.frame m ρ

theorem quiescent6RPre : Cert.quiescent_Reference6Ideal_pre_finite6 := fun m ρ _ =>
  (θ_run Cert.Reference6Ideal.defs _ _).mono (fun r h => ⟨fun c => (h c).2.2.2.2,
    sem_eq_zero_of_no_sems (by decide) r.2⟩) (Cert.Reference6Ideal.Value.run m ρ)

/-- The reference's result by its operations. -/
theorem result6_49 (m' : (ℓ : Loc Cert.Reference6Ideal.nD Cert.Reference6Ideal.τ Cert.Reference6Ideal.sig) → Buf (Elt Ideal) ℓ) (c : Dev Cert.Reference6Ideal.nD) :
    Cert.Reference6Ideal.Value.res_main_v49 m' c = Cert.Kernel6Ideal.Down.back (Cert.Kernel6Ideal.Down.resid (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4))) (Cert.Kernel6Ideal.Down.cot (Cert.Kernel6Ideal.Down.resid (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4))) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) := rfl

/-- The reference's result by its operations. -/
theorem result6_88 (m' : (ℓ : Loc Cert.Reference6Ideal.nD Cert.Reference6Ideal.τ Cert.Reference6Ideal.sig) → Buf (Elt Ideal) ℓ) (c : Dev Cert.Reference6Ideal.nD) :
    Cert.Reference6Ideal.Value.res_main_v88 m' c = truncf .bf16 (Cert.Kernel6Ideal.Down.back (Cert.Kernel6Ideal.Down.resid (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4))) (Cert.Kernel6Ideal.Down.cot (Cert.Kernel6Ideal.Down.resid (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4))) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)))) Cert.Reference6Ideal.Gen.bitsLt_bf16_f32 := rfl

/-- Where the arguments are finite the kernel and the reference compute the same cotangent, in both formats, the same loss and the same gradient of the gain. -/
theorem algebraic6 : Cert.algebraic_Kernel6Ideal_Reference6Ideal_pre_finite6 := by
  pair_intro
  · run_from Cert.Kernel6Ideal.Value.run_blocks m g
  · run_from Cert.Reference6Ideal.Value.run m' g'
    · obtain ⟨h0, h1, h2, h3, h4⟩ := hagree c
      rw [result6_49, h0, h1, h2, h3, h4]
      exact (Cert.Kernel6Ideal.Down.final5 m c (Cert.Kernel6Ideal.Down.real_of_finite m hpre c).1 (Cert.Kernel6Ideal.Down.real_of_finite m hpre c).2.1 (Cert.Kernel6Ideal.Down.real_of_finite m hpre c).2.2.1 (Cert.Kernel6Ideal.Down.real_of_finite m hpre c).2.2.2.1 (Cert.Kernel6Ideal.Down.real_of_finite m hpre c).2.2.2.2).symm
    · obtain ⟨h0, h1, h2, h3, h4⟩ := hagree c
      rw [result6_88, h0, h1, h2, h3, h4]
      exact (Cert.Kernel6Ideal.Down.final6 m c (Cert.Kernel6Ideal.Down.real_of_finite m hpre c).1 (Cert.Kernel6Ideal.Down.real_of_finite m hpre c).2.1 (Cert.Kernel6Ideal.Down.real_of_finite m hpre c).2.2.1 (Cert.Kernel6Ideal.Down.real_of_finite m hpre c).2.2.2.1 (Cert.Kernel6Ideal.Down.real_of_finite m hpre c).2.2.2.2).symm
    · exact (Cert.Kernel6Ideal.Down.final7 m c (Cert.Kernel6Ideal.Down.real_of_finite m hpre c).1 (Cert.Kernel6Ideal.Down.real_of_finite m hpre c).2.1 (Cert.Kernel6Ideal.Down.real_of_finite m hpre c).2.2.1 (Cert.Kernel6Ideal.Down.real_of_finite m hpre c).2.2.2.1 (Cert.Kernel6Ideal.Down.real_of_finite m hpre c).2.2.2.2).symm
    · exact (Cert.Kernel6Ideal.Down.final8 m c).symm

end Cert.Proof

end
-- ==== Proof.Ffn.Inproj.lean ====
/- The backward of the projection into the mixer: the gradient of the rows, and of the weight accumulated over the points,
   are the reference's. The gradient of the rows needs finite arguments. -/
module

public import proofs.«01_k».proof.Defs
public import proofs.«01_k».proof.Proof.Gen.Pre_finite7
public import proofs.«01_k».proof.Proof.Gen.Kernel7Ideal.Value
public import proofs.«01_k».proof.Proof.Gen.Reference7Ideal.Run
public import proofs.«01_k».proof.Proof.Ffn.Rms
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Proof (IsReal)

namespace Cert.Kernel7Ideal.Inproj

open Cert.Kernel7Ideal Cert.Kernel7Ideal.Gen

variable (m : (ℓ : Loc nD τ sig) → Buf (Elt Ideal) ℓ)

open Cert.Reference7Ideal.Gen in
/-- A row's mean square, with the constant that keeps it from zero. -/
abbrev meanSq (X : FVec Ideal S8192x1024 .f32) : FVec Ideal Cert.Reference7Ideal.S8192x1 .f32 :=
  addf (Host.divf (broadcastInDim Cert.Reference7Ideal.S8192x1 ![0] bcast_S8192_S8192x1_0 (Host.reduceAdd (mulf X X)
      (constant Cert.Reference7Ideal.S_ .f32 0x00000000#32) reducesTo_S8192x1024_S8192_d1 h_S_))
    (broadcastInDim Cert.Reference7Ideal.S8192x1 ![] bcast_S_S8192x1 (constant Cert.Reference7Ideal.S_ .f32 0x44800000#32)))
    (broadcastInDim Cert.Reference7Ideal.S8192x1 ![] bcast_S_S8192x1 (constant Cert.Reference7Ideal.S_ .f32 0x358637BD#32))

open Cert.Reference7Ideal.Gen in
/-- The cotangent of the mean square's square, by the product rule: half of what a row's entries are multiplied with. -/
abbrev slope (X C : FVec Ideal S8192x1024 .f32) : FVec Ideal Cert.Reference7Ideal.S8192 .f32 :=
  Host.reduceAdd (Host.divf (mulf (shapeCast Cert.Reference7Ideal.S8192x1 (Host.reduceAdd (mulf X C)
      (constant Cert.Reference7Ideal.S_ .f32 0x00000000#32) reducesTo_S8192x1024_S8192_d1 h_S_) shapeCasts_S8192_S8192x1)
    (mulf (broadcastInDim Cert.Reference7Ideal.S8192x1 ![] bcast_S_S8192x1 (constant Cert.Reference7Ideal.S_ .f32 0xBF000000#32))
      (Host.divf (Host.rsqrt (meanSq X)) (meanSq X))))
    (broadcastInDim Cert.Reference7Ideal.S8192x1 ![] bcast_S_S8192x1 (constant Cert.Reference7Ideal.S_ .f32 0x44800000#32)))
    (constant Cert.Reference7Ideal.S_ .f32 0x00000000#32) reducesTo_S8192x1_S8192_d1 h_S_

open Cert.Reference7Ideal.Gen in
/-- The reference's gradient of the rows, from the gain-scaled cotangent of the normalised rows. -/
abbrev back (X C D : FVec Ideal S8192x1024 .f32) : FVec Ideal S8192x1024 .f32 :=
  addf (addf (addf D (mulf C (broadcastInDim S8192x1024 ![0, 1] bcast_S8192x1_S8192x1024_0_1 (Host.rsqrt (meanSq X)))))
    (mulf X (broadcastInDim S8192x1024 ![0] bcast_S8192_S8192x1024_0 (slope X C))))
    (mulf (broadcastInDim S8192x1024 ![0] bcast_S8192_S8192x1024_0 (slope X C)) X)

open Cert.Reference7Ideal.Gen in
/-- The gain-scaled cotangent of the normalised rows, through the product. -/
abbrev scaled (W : FVec Ideal Cert.Reference7Ideal.S1024x1536 .f32) (U : FVec Ideal Cert.Reference7Ideal.S8192x1536 .bf16)
    (G : FVec Ideal Cert.Reference7Ideal.S1024 .f32) : FVec Ideal S8192x1024 .f32 :=
  mulf (Host.dotGeneral Cert.Reference7Ideal.dot_S8192x1536_S1024x1536_S8192x1024_1_1_0_0_n_n none
      (extf .f32 U Cert.Reference7Ideal.Gen.bitsLt_bf16_f32) W)
    (broadcastInDim S8192x1024 ![0, 1] bcast_S1x1024_S8192x1024_0_1 (broadcastInDim Cert.Reference7Ideal.S1x1024 ![1] bcast_S1024_S1x1024_1 G))

open Cert.Reference7Ideal.Gen in
/-- The normalised rows. -/
abbrev normed (X : FVec Ideal S8192x1024 .f32) (G : FVec Ideal Cert.Reference7Ideal.S1024 .f32) : FVec Ideal S8192x1024 .f32 :=
  mulf (mulf X (broadcastInDim S8192x1024 ![0, 1] bcast_S8192x1_S8192x1024_0_1 (Host.rsqrt (meanSq X))))
    (broadcastInDim S8192x1024 ![0, 1] bcast_S1x1024_S8192x1024_0_1 (broadcastInDim Cert.Reference7Ideal.S1x1024 ![1] bcast_S1024_S1x1024_1 G))

/-- The reference's gradient of the weight: the transposed product of the cotangent and the normalised rows, its columns split by chip. -/
abbrev wGrad (X : FVec Ideal S8192x1024 .f32) (G : FVec Ideal Cert.Reference7Ideal.S1024 .f32)
    (U : FVec Ideal Cert.Reference7Ideal.S8192x1536 .bf16) : FVec Ideal S4x1024x384 .f32 :=
  transpose Cert.Reference7Ideal.S4x1024x384 [1, 0, 2] (shapeCast Cert.Reference7Ideal.S1024x4x384
    (transpose Cert.Reference7Ideal.S1024x1536 [1, 0]
      (Host.dotGeneral Cert.Reference7Ideal.dot_S8192x1536_S8192x1024_S1536x1024_0_0_1_1_n_n none
        (extf .f32 U Cert.Reference7Ideal.Gen.bitsLt_bf16_f32) (normed X G))
      Cert.Reference7Ideal.Gen.transposes_S1536x1024_S1024x1536_1_0)
    Cert.Reference7Ideal.Gen.shapeCasts_S1024x1536_S1024x4x384) Cert.Reference7Ideal.Gen.transposes_S1024x4x384_S4x1024x384_1_0_2

/-- Which block of its array each window holds at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0, 0] :=
  (by decide +kernel : ∀ t : Fin grid0.N, _)

/-- One entry of a tile: the kernel's derivative of the norm is the reference's. -/
theorem core (H : FVec Ideal S512x1024 .f32) (G : FVec Ideal S1x1024 .f32) (U : FVec Ideal S512x1536 .bf16) (W : FVec Ideal S1024x1536 .bf16)
    (E : Vec Ideal S512x1024 .f32) (X C D : FVec Ideal S8192x1024 .f32)
    (a : Fin 512) (b : Fin 1024) (u : Fin 8192) (hx : ∀ k : Fin 1024, H (ix2 a k) = X (ix2 u k))
    (hc : ∀ k : Fin 1024, k0_pay9 U W (ix2 a k) * G (ix2 0 k) = C (ix2 u k)) (hd : E (ix2 a b) = D (ix2 u b))
    (rX : ∀ k : Fin 1024, IsReal (X (ix2 u k))) (rC : ∀ k : Fin 1024, IsReal (C (ix2 u k))) :
    k0_pay13 (F := Ideal) (k0_pay6 H) (k0_pay7 H) E (k0_pay11 G U W) (k0_pay12 H G U W) (ix2 a b) = back X C D (ix2 u b) := by
  generalize hP : k0_pay9 (F := Ideal) U W = P at hc
  unfold k0_pay12 k0_pay11
  rw [hP]
  pointwise [k0_pay13, k0_pay6, k0_pay7, k0_pay5, back, slope, meanSq]
  simp only [hx, hc, hd]
  exact Cert.Proof.rms_bwd (fun k : Fin 1024 => X (ix2 u k)) (fun k : Fin 1024 => C (ix2 u k)) b _ rX rC

theorem zero6 (j) : k0_pay3 (F := Ideal) j = 0 := by pointwise [k0_pay3]

theorem wGrad_apply (X G U j) : wGrad X G U j
    = ∑ k : Fin 8192, normed X G (ix2 k (j 1)) * U (ix2 k ⟨(j 0).val * 384 + (j 2).val, by idx_bounds; omega⟩) := by
  generalize hN : normed X G = N
  unfold wGrad
  rw [hN]
  idx_vars j
  pointwise
  simp only [mul_comm]

/-- What a point adds to the weight's gradient: the product of its rows. -/
def add (A : FVec Ideal S4x1024x384 .f32) (N : FVec Ideal S512x1024 .bf16) (U : FVec Ideal S512x1536 .bf16) : FVec Ideal S4x1024x384 .f32 := fun j =>
  A j + ∑ k : Fin 512, N (ix2 k (j 1)) * U (ix2 k ⟨(j 0).val * 384 + (j 2).val, by idx_bounds; omega⟩)

/-- The columns of chip 0. -/
theorem add_0 (A : FVec Ideal S4x1024x384 .f32) (B : Vec Ideal S1x1024x384 .f32) (N : FVec Ideal S512x1024 .bf16) (U : FVec Ideal S512x1536 .bf16) (x : S1x1024x384.Idx) (y : S4x1024x384.Idx)
    (h0 : (y 0 : ℕ) = 0) (h1 : (y 1 : ℕ) = x 1) (h2 : (y 2 : ℕ) = x 2) (hB : B x = A y) :
    k0_pay14 (F := Ideal) N U B x = add A N U y := by
  obtain ⟨a, b, d, rfl⟩ : ∃ (a : Fin 1) (b : Fin 1024) (d : Fin 384), x = ix3 a b d := ⟨_, _, _, eq_ix3 x⟩
  obtain ⟨g, e, f, rfl⟩ : ∃ (g : Fin 4) (e : Fin 1024) (f : Fin 384), y = ix3 g e f := ⟨_, _, _, eq_ix3 y⟩
  obtain rfl := Subsingleton.elim a 0
  obtain rfl : g = 0 := Fin.ext h0
  obtain rfl : e = b := Fin.ext h1
  obtain rfl : f = d := Fin.ext h2
  pointwise [k0_pay14]
  exact congrArg₂ (· + ·) hB (Finset.sum_congr rfl fun k _ => congrArg (fun v => N (ix2 k e) * U (ix2 k v))
    (Fin.ext (by change _ = 0 * 384 + (f : ℕ); dsimp only; omega)))

/-- The columns of chip 1. -/
theorem add_1 (A : FVec Ideal S4x1024x384 .f32) (B : Vec Ideal S1x1024x384 .f32) (N : FVec Ideal S512x1024 .bf16) (U : FVec Ideal S512x1536 .bf16) (x : S1x1024x384.Idx) (y : S4x1024x384.Idx)
    (h0 : (y 0 : ℕ) = 1) (h1 : (y 1 : ℕ) = x 1) (h2 : (y 2 : ℕ) = x 2) (hB : B x = A y) :
    k0_pay15 (F := Ideal) N U B x = add A N U y := by
  obtain ⟨a, b, d, rfl⟩ : ∃ (a : Fin 1) (b : Fin 1024) (d : Fin 384), x = ix3 a b d := ⟨_, _, _, eq_ix3 x⟩
  obtain ⟨g, e, f, rfl⟩ : ∃ (g : Fin 4) (e : Fin 1024) (f : Fin 384), y = ix3 g e f := ⟨_, _, _, eq_ix3 y⟩
  obtain rfl := Subsingleton.elim a 0
  obtain rfl : g = 1 := Fin.ext h0
  obtain rfl : e = b := Fin.ext h1
  obtain rfl : f = d := Fin.ext h2
  pointwise [k0_pay15]
  exact congrArg₂ (· + ·) hB (Finset.sum_congr rfl fun k _ => congrArg (fun v => N (ix2 k e) * U (ix2 k v))
    (Fin.ext (by change _ = 1 * 384 + (f : ℕ); dsimp only)))

/-- The columns of chip 2. -/
theorem add_2 (A : FVec Ideal S4x1024x384 .f32) (B : Vec Ideal S1x1024x384 .f32) (N : FVec Ideal S512x1024 .bf16) (U : FVec Ideal S512x1536 .bf16) (x : S1x1024x384.Idx) (y : S4x1024x384.Idx)
    (h0 : (y 0 : ℕ) = 2) (h1 : (y 1 : ℕ) = x 1) (h2 : (y 2 : ℕ) = x 2) (hB : B x = A y) :
    k0_pay1 (F := Ideal) (k0_pay16 N U B) x = add A N U y := by
  obtain ⟨a, b, d, rfl⟩ : ∃ (a : Fin 1) (b : Fin 1024) (d : Fin 384), x = ix3 a b d := ⟨_, _, _, eq_ix3 x⟩
  obtain ⟨g, e, f, rfl⟩ : ∃ (g : Fin 4) (e : Fin 1024) (f : Fin 384), y = ix3 g e f := ⟨_, _, _, eq_ix3 y⟩
  obtain rfl := Subsingleton.elim a 0
  obtain rfl : g = 2 := Fin.ext h0
  obtain rfl : e = b := Fin.ext h1
  obtain rfl : f = d := Fin.ext h2
  pointwise [k0_pay1, k0_pay16]
  exact congrArg₂ (· + ·) hB (Finset.sum_congr rfl fun k _ => congrArg (fun v => N (ix2 k e) * U (ix2 k v))
    (Fin.ext (by change _ = 2 * 384 + (f : ℕ); dsimp only)))

/-- The columns of chip 3. -/
theorem add_3 (A : FVec Ideal S4x1024x384 .f32) (B : Vec Ideal S1x1024x384 .f32) (N : FVec Ideal S512x1024 .bf16) (U : FVec Ideal S512x1536 .bf16) (x : S1x1024x384.Idx) (y : S4x1024x384.Idx)
    (h0 : (y 0 : ℕ) = 3) (h1 : (y 1 : ℕ) = x 1) (h2 : (y 2 : ℕ) = x 2) (hB : B x = A y) :
    k0_pay2 (F := Ideal) N U B x = add A N U y := by
  obtain ⟨a, b, d, rfl⟩ : ∃ (a : Fin 1) (b : Fin 1024) (d : Fin 384), x = ix3 a b d := ⟨_, _, _, eq_ix3 x⟩
  obtain ⟨g, e, f, rfl⟩ : ∃ (g : Fin 4) (e : Fin 1024) (f : Fin 384), y = ix3 g e f := ⟨_, _, _, eq_ix3 y⟩
  obtain rfl := Subsingleton.elim a 0
  obtain rfl : g = 3 := Fin.ext h0
  obtain rfl : e = b := Fin.ext h1
  obtain rfl : f = d := Fin.ext h2
  pointwise [k0_pay2]
  exact congrArg₂ (· + ·) hB (Finset.sum_congr rfl fun k _ => congrArg (fun v => N (ix2 k e) * U (ix2 k v))
    (Fin.ext (by change _ = 3 * 384 + (f : ℕ); dsimp only)))

/-- The kernel's normalised rows are the reference's. -/
theorem normed_at (c : Dev nD) (t : Fin cfg0.N) (a : Fin 512) (b : Fin 1024) (u : Fin 8192) (hu : (u : ℕ) = t.val * 512 + a) :
    k0_pay8 (F := Ideal) (iblk m c 0 t) (iblk m c 3 t) (ix2 a b)
      = normed (m ((c.tc : Thread nD τ).loc main_arg0)) (m ((c.tc : Thread nD τ).loc main_arg1)) (ix2 u b) := by
  have hx : ∀ k : Fin 1024, iblk m c 0 t (ix2 a k) = m ((c.tc : Thread nD τ).loc main_arg0) (ix2 u k) := fun k => by
    blk_point [iblk, V, idx t]
  have hg : iblk m c 3 t (ix2 0 b) = m ((c.tc : Thread nD τ).loc main_arg1) (ix1 b) := by
    blk_point [iblk, V, idx t]
  generalize iblk m c 0 t = X at hx ⊢
  generalize iblk m c 3 t = G at hg ⊢
  pointwise [k0_pay8, k0_pay7, k0_pay6, k0_pay5, normed, meanSq]
  simp only [hx, hg]

/-- What a point leaves of the weight's gradient: the first over zeros, ... -/
theorem first6 (c : Dev nD) (t : Fin cfg0.N) (h : t.val % 16 = 0) :
    (outsAt0 m c t.val t.isLt).2.1 = add k0_pay3 (k0_pay8 (iblk m c 0 t) (iblk m c 3 t)) (iblk m c 1 t) := by
  rw [outsAt0_A m c t h]
  dsimp only
  frame_out
  simp (disch := first | rfl | decide) only [↓View.readCov_skip, ↓View.readCov_fill]
  funext j
  refine View.canon_append_of_piecesOf _ [_] [_, _, _, _] ⟨fun x => ?_, fun x => ?_, fun x => ?_, fun x => ?_, trivial⟩ j
    (View.cover_of_tiled_head _ _ _ (by rfl) _)
  · exact add_3 _ _ _ _ x _ (by rw [Rect.emb_apply]; show 3 + 1 * (x 0 : ℕ) = 3; have := (x 0).isLt; change _ < 1 at this; omega)
      (by rw [Rect.emb_apply]; show 0 + 1 * (x 1 : ℕ) = _; omega) (by rw [Rect.emb_apply]; show 0 + 1 * (x 2 : ℕ) = _; omega) rfl
  · exact add_2 _ _ _ _ x _ (by rw [Rect.emb_apply]; show 2 + 1 * (x 0 : ℕ) = 2; have := (x 0).isLt; change _ < 1 at this; omega)
      (by rw [Rect.emb_apply]; show 0 + 1 * (x 1 : ℕ) = _; omega) (by rw [Rect.emb_apply]; show 0 + 1 * (x 2 : ℕ) = _; omega) rfl
  · exact add_1 _ _ _ _ x _ (by rw [Rect.emb_apply]; show 1 + 1 * (x 0 : ℕ) = 1; have := (x 0).isLt; change _ < 1 at this; omega)
      (by rw [Rect.emb_apply]; show 0 + 1 * (x 1 : ℕ) = _; omega) (by rw [Rect.emb_apply]; show 0 + 1 * (x 2 : ℕ) = _; omega) rfl
  · exact add_0 _ _ _ _ x _ (by rw [Rect.emb_apply]; show 0 + 1 * (x 0 : ℕ) = 0; have := (x 0).isLt; change _ < 1 at this; omega)
      (by rw [Rect.emb_apply]; show 0 + 1 * (x 1 : ℕ) = _; omega) (by rw [Rect.emb_apply]; show 0 + 1 * (x 2 : ℕ) = _; omega) rfl

/-- ... a later one over what the one before left. -/
theorem later6 (c : Dev nD) (t : Fin cfg0.N) (h : ¬ t.val % 16 = 0) :
    (outsAt0 m c t.val t.isLt).2.1
      = add (outsAt0 m c (t.val - 1) (by omega)).2.1 (k0_pay8 (iblk m c 0 t) (iblk m c 3 t)) (iblk m c 1 t) := by
  rw [outsAt0_B m c t h]
  dsimp only
  frame_out
  funext j
  canon_tiles x h
  · refine add_3 _ _ _ _ x j (by omega) (by omega) (by omega) ?_
    rw [View.ld_apply]
    blk_ext
    · show 3 + 1 * (x 0 : ℕ) = _; omega
    · show 0 + 1 * (x 1 : ℕ) = _; omega
    · show 0 + 1 * (x 2 : ℕ) = _; omega
  · refine add_2 _ _ _ _ x j (by omega) (by omega) (by omega) ?_
    rw [View.ld_apply]
    blk_ext
    · show 2 + 1 * (x 0 : ℕ) = _; omega
    · show 0 + 1 * (x 1 : ℕ) = _; omega
    · show 0 + 1 * (x 2 : ℕ) = _; omega
  · refine add_1 _ _ _ _ x j (by omega) (by omega) (by omega) ?_
    rw [View.ld_apply]
    blk_ext
    · show 1 + 1 * (x 0 : ℕ) = _; omega
    · show 0 + 1 * (x 1 : ℕ) = _; omega
    · show 0 + 1 * (x 2 : ℕ) = _; omega
  · refine add_0 _ _ _ _ x j (by omega) (by omega) (by omega) ?_
    rw [View.ld_apply]
    blk_ext
    · show 0 + 1 * (x 0 : ℕ) = _; omega
    · show 0 + 1 * (x 1 : ℕ) = _; omega
    · show 0 + 1 * (x 2 : ℕ) = _; omega

/-- The array of the weight's gradient after the run. -/
theorem final6 (c : Dev nD) : (dats m 0 c).arrAt 6 (cfgs 0).N
    = wGrad (m ((c.tc : Thread nD τ).loc main_arg0)) (m ((c.tc : Thread nD τ).loc main_arg1)) (m ((c.tc : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0)
    (fun t j => ∑ k : Fin 512, k0_pay8 (F := Ideal) (iblk m c 0 t) (iblk m c 3 t) (ix2 k (j 1))
      * iblk m c 1 t (ix2 k ⟨(j 0).val * 384 + (j 2).val, by idx_bounds; omega⟩))
    (fun t h j => by rw [first6 m c t h]; exact congrArg (· + _) (zero6 j))
    (fun t h j => by rw [later6 m c t h]; rfl)
    t ((flush0_6 t).mp hf) _, zero_add, wGrad_apply]
  refine Fin.sum_mul_add_congr fun s k hl => ?_
  have hs := idx ⟨_, Pipeline.run_point_lt_of_flush t ((flush0_6 t).mp hf) s⟩
  refine congrArg₂ (· * ·) ((normed_at m c _ k _ ⟨s * 512 + k, hl⟩ ?_).trans (congrArg _ ?_)) ?_
  · have h16 : t.val / 16 = 0 := by have : t.val < 16 := t.isLt; omega
    change s.val * 512 + k.val = (16 * (t.val / 16) + s.val) * 512 + k.val
    omega
  · blk_ext
    simp [idx t]
  · blk_point [iblk, V, idx t, hs]

/-- One entry of the tile, at any index of the tile and of the array. -/
theorem core_at (H : FVec Ideal S512x1024 .f32) (G : FVec Ideal S1x1024 .f32) (U : FVec Ideal S512x1536 .bf16) (W : FVec Ideal S1024x1536 .bf16)
    (E : Vec Ideal S512x1024 .f32) (X C D : FVec Ideal S8192x1024 .f32)
    (y : S512x1024.Idx) (j : S8192x1024.Idx) (hx : ∀ k : Fin 1024, H (ix2 (y 0) k) = X (ix2 (j 0) k))
    (hc : ∀ k : Fin 1024, k0_pay9 U W (ix2 (y 0) k) * G (ix2 0 k) = C (ix2 (j 0) k)) (hd : E y = D j) (hj : (j 1 : ℕ) = y 1)
    (rX : ∀ k : Fin 1024, IsReal (X (ix2 (j 0) k))) (rC : ∀ k : Fin 1024, IsReal (C (ix2 (j 0) k))) :
    k0_pay13 (F := Ideal) (k0_pay6 H) (k0_pay7 H) E (k0_pay11 G U W) (k0_pay12 H G U W) y = back X C D j := by
  obtain ⟨a, b, rfl⟩ : ∃ (a : Fin 512) (b : Fin 1024), y = ix2 a b := ⟨_, _, eq_ix2 y⟩
  obtain ⟨u, v, rfl⟩ : ∃ (u : Fin 8192) (v : Fin 1024), j = ix2 u v := ⟨_, _, eq_ix2 j⟩
  obtain rfl : v = b := Fin.ext hj
  exact core H G U W E X C D a v u hx hc hd rX rC

/-- The cotangent of the normalised rows at a point, times the gain. -/
theorem scaled_at (c : Dev nD) (t : Fin cfg0.N) (a : Fin 512) (k : Fin 1024) (u : Fin 8192) (hu : (u : ℕ) = t.val * 512 + a) :
    k0_pay9 (F := Ideal) (iblk m c 1 t) (iblk m c 4 t) (ix2 a k) * iblk m c 3 t (ix2 0 k)
      = scaled (m ((c.tc : Thread nD τ).loc main_arg2)) (m ((c.tc : Thread nD τ).loc main_arg3)) (m ((c.tc : Thread nD τ).loc main_arg1)) (ix2 u k) := by
  have hU : ∀ x : Fin 1536, iblk m c 1 t (ix2 a x) = m ((c.tc : Thread nD τ).loc main_arg3) (ix2 u x) := fun x => by
    blk_point [iblk, V, idx t]
  have hW : ∀ x : Fin 1536, iblk m c 4 t (ix2 k x) = m ((c.tc : Thread nD τ).loc main_arg2) (ix2 k x) := fun x => by
    blk_point [iblk, V, idx t]
  have hg : iblk m c 3 t (ix2 0 k) = m ((c.tc : Thread nD τ).loc main_arg1) (ix1 k) := by
    blk_point [iblk, V, idx t]
  generalize iblk m c 1 t = U at hU ⊢
  generalize iblk m c 4 t = W at hW ⊢
  generalize iblk m c 3 t = G at hg ⊢
  pointwise [k0_pay9, scaled]
  simp only [hU, hW, hg]

/-- The array of the rows' gradient after the run. -/
theorem final5 (c : Dev nD)
    (rX : ∀ j, IsReal (m ((c.tc : Thread nD τ).loc main_arg0) j)) (rG : ∀ j, IsReal (m ((c.tc : Thread nD τ).loc main_arg1) j))
    (rW : ∀ j, IsReal (m ((c.tc : Thread nD τ).loc main_arg2) j)) (rU : ∀ j, IsReal (m ((c.tc : Thread nD τ).loc main_arg3) j)) :
    (dats m 0 c).arrAt 5 (cfgs 0).N = back (m ((c.tc : Thread nD τ).loc main_arg0)) (scaled (m ((c.tc : Thread nD τ).loc main_arg2)) (m ((c.tc : Thread nD τ).loc main_arg3)) (m ((c.tc : Thread nD τ).loc main_arg1))) (m ((c.tc : Thread nD τ).loc main_arg4)) := by
  refine (dats m 0 c).arrAt_eq_of_covers 5 _ (by decide +kernel) fun t hf y => ?_
  blk_simp
  rw [after0_5]
  have rC : ∀ (u : Fin 8192) (k : Fin 1024), IsReal (scaled (m ((c.tc : Thread nD τ).loc main_arg2)) (m ((c.tc : Thread nD τ).loc main_arg3)) (m ((c.tc : Thread nD τ).loc main_arg1)) (ix2 u k)) := fun u k => by
    pointwise [scaled]
    exact (IsReal.sum _ _ fun k => (rU _).mul (rW _)).mul (rG _)
  by_cases h0 : t.val % 16 = 0
  · rw [outsAt0_A m c t h0]
    dsimp only
    frame_out
    refine core_at _ _ _ _ _ _ _ _ y _ (fun k => ?_) (fun k => ?_) ?_ ?_ (fun k => rX _) (fun k => rC _ k)
    · blk_simp [idx t]
      blk_point [iblk, V, idx t]
    · refine scaled_at m c t (y 0) k _ ?_
      blk_simp [idx t]
    · blk_point [iblk, V, idx t]
    · blk_simp [idx t]
  · rw [outsAt0_B m c t h0]
    dsimp only
    frame_out
    refine core_at _ _ _ _ _ _ _ _ y _ (fun k => ?_) (fun k => ?_) ?_ ?_ (fun k => rX _) (fun k => rC _ k)
    · blk_simp [idx t]
      blk_point [iblk, V, idx t]
    · refine scaled_at m c t (y 0) k _ ?_
      blk_simp [idx t]
    · blk_point [iblk, V, idx t]
    · blk_simp [idx t]

/-- Where the precondition holds, the arguments are real numbers. -/
theorem real_of_finite (hpre : Cert.Pre_Kernel7Ideal_finite7 m) (c : Dev nD) :
    (∀ j, IsReal ((m ((c.tc : Thread nD τ).loc main_arg0)) j)) ∧ (∀ j, IsReal ((m ((c.tc : Thread nD τ).loc main_arg1)) j)) ∧ (∀ j, IsReal ((m ((c.tc : Thread nD τ).loc main_arg2)) j)) ∧ (∀ j, IsReal ((m ((c.tc : Thread nD τ).loc main_arg3)) j)) ∧ (∀ j, IsReal ((m ((c.tc : Thread nD τ).loc main_arg4)) j)) := by
  obtain ⟨h0, h1, h2, h3, h4⟩ := hpre c
  refine ⟨fun j => ?_, fun j => ?_, fun j => ?_, fun j => ?_, fun j => ?_⟩
  · have h := congrFun h0 j
    pointwise [Cert.Pre_finite7.fn] at h
    exact IsReal.of_cmp h
  · have h := congrFun h1 j
    pointwise [Cert.Pre_finite7.fn] at h
    exact IsReal.of_cmp h
  · have h := congrFun h2 j
    pointwise [Cert.Pre_finite7.fn] at h
    exact IsReal.of_cmp h
  · have h := congrFun h3 j
    pointwise [Cert.Pre_finite7.fn] at h
    exact IsReal.of_cmp h
  · have h := congrFun h4 j
    pointwise [Cert.Pre_finite7.fn] at h
    exact IsReal.of_cmp h

end Cert.Kernel7Ideal.Inproj

end
-- ==== Proof.Ffn.InprojGain.lean ====
/- The gradient of the input norm's gain: its eight partial sums, over the rows 0, 8, …, over the rows 1, 9, … and so on, tile by tile
   in the kernel and at once in the reference. -/
module

public import proofs.«01_k».proof.Proof.Ffn.Inproj

@[expose] public section

set_option maxRecDepth 16384

noncomputable section

open Idealize.ShloMosaic Idealize.ShloMosaic.TcCoe Idealize.SL.Sem
open Idealize.ShloMosaic.Pipeline (Dat)

namespace Cert.Kernel7Ideal.Inproj

open Cert.Kernel7Ideal Cert.Kernel7Ideal.Gen

variable (m : (ℓ : Loc nD τ sig) → Buf (Elt Ideal) ℓ)

open Cert.Reference7Ideal.Gen in
/-- The rows over their root mean squares. -/
abbrev unitRows (X : FVec Ideal S8192x1024 .f32) : FVec Ideal S8192x1024 .f32 :=
  mulf X (broadcastInDim S8192x1024 ![0, 1] bcast_S8192x1_S8192x1024_0_1 (Host.rsqrt (meanSq X)))

/-- The cotangent of the normalised rows. -/
abbrev cotan (W : FVec Ideal Cert.Reference7Ideal.S1024x1536 .f32) (U : FVec Ideal Cert.Reference7Ideal.S8192x1536 .bf16) :
    FVec Ideal S8192x1024 .f32 :=
  Host.dotGeneral Cert.Reference7Ideal.dot_S8192x1536_S1024x1536_S8192x1024_1_1_0_0_n_n none
    (extf .f32 U Cert.Reference7Ideal.Gen.bitsLt_bf16_f32) W

open Cert.Reference7Ideal.Gen in
/-- The sums of the products of two arrays' entries, over the rows of each remainder by eight. -/
abbrev eighths (N C : FVec Ideal S8192x1024 .f32) : FVec Ideal S8x1024 .f32 :=
  Host.reduceAdd (shapeCast Cert.Reference7Ideal.S1x8x1024 (Host.reduceAdd (mulf
      (shapeCast Cert.Reference7Ideal.S1024x8x1024 (mulf N (broadcastInDim S8192x1024 ![] bcast_S_S8192x1024 (constant Cert.Reference7Ideal.S_ .f32 0x3F800000#32)))
        shapeCasts_S8192x1024_S1024x8x1024)
      (shapeCast Cert.Reference7Ideal.S1024x8x1024 C shapeCasts_S8192x1024_S1024x8x1024))
      (constant Cert.Reference7Ideal.S_ .f32 0x00000000#32) reducesTo_S1024x8x1024_S8x1024_d0 h_S_) shapeCasts_S8x1024_S1x8x1024)
    (constant Cert.Reference7Ideal.S_ .f32 0x00000000#32) reducesTo_S1x8x1024_S8x1024_d0 h_S_

/-- ... entry by entry. -/
theorem eighths_apply (N C : FVec Ideal S8192x1024 .f32) (s : Fin 8) (b : Fin 1024) :
    eighths N C (ix2 s b) = ∑ k : Fin 1024, C (ix2 ⟨k.val * 8 + s.val, by omega⟩ b) * N (ix2 ⟨k.val * 8 + s.val, by omega⟩ b) := by
  pointwise [eighths]
  simp [mul_comm]

/-- ... at any index. -/
theorem eighths_at (N C : FVec Ideal S8192x1024 .f32) (j : S8x1024.Idx) :
    eighths N C j = ∑ k : Fin 1024, C (ix2 ⟨k.val * 8 + (j 0).val, by idx_bounds; omega⟩ (j 1))
      * N (ix2 ⟨k.val * 8 + (j 0).val, by idx_bounds; omega⟩ (j 1)) := by
  obtain ⟨s, b, rfl⟩ : ∃ (s : Fin 8) (b : Fin 1024), j = ix2 s b := ⟨_, _, eq_ix2 j⟩
  exact eighths_apply N C s b

theorem zero7 (j) : k0_pay4 (F := Ideal) j = 0 := by pointwise [k0_pay4]

/-- One point adds the sums of its rows. -/
theorem step7 (H : Vec Ideal S512x1024 .f32) (U : Vec Ideal S512x1536 .bf16) (W : Vec Ideal S1024x1536 .bf16) (A : Vec Ideal S8x1024 .f32)
    (s : Fin 8) (b : Fin 1024) :
    k0_pay10 (F := Ideal) H U W A (ix2 s b) = A (ix2 s b)
      + ∑ k : Fin 64, k0_pay9 U W (ix2 ⟨k.val * 8 + s.val, by omega⟩ b) * k0_pay7 H (ix2 ⟨k.val * 8 + s.val, by omega⟩ b) := by
  unfold k0_pay10
  generalize k0_pay9 (F := Ideal) U W = P
  generalize k0_pay7 (F := Ideal) H = Q
  pointwise

/-- The normalised row of a point. -/
theorem unit_at (c : Dev nD) (t : Fin cfg0.N) (a : Fin 512) (b : Fin 1024) (u : Fin 8192) (hu : (u : ℕ) = t.val * 512 + a) :
    k0_pay7 (F := Ideal) (iblk m c 0 t) (ix2 a b) = unitRows (m ((c.tc : Thread nD τ).loc main_arg0)) (ix2 u b) := by
  have hx : ∀ k : Fin 1024, iblk m c 0 t (ix2 a k) = m ((c.tc : Thread nD τ).loc main_arg0) (ix2 u k) := fun k => by
    blk_point [iblk, V, idx t]
  generalize iblk m c 0 t = X at hx ⊢
  pointwise [k0_pay7, k0_pay6, k0_pay5, unitRows, meanSq]
  simp only [hx]

/-- The cotangent of the normalised rows at a point. -/
theorem cotan_at (c : Dev nD) (t : Fin cfg0.N) (a : Fin 512) (k : Fin 1024) (u : Fin 8192) (hu : (u : ℕ) = t.val * 512 + a) :
    k0_pay9 (F := Ideal) (iblk m c 1 t) (iblk m c 4 t) (ix2 a k)
      = cotan (m ((c.tc : Thread nD τ).loc main_arg2)) (m ((c.tc : Thread nD τ).loc main_arg3)) (ix2 u k) := by
  have hU : ∀ x : Fin 1536, iblk m c 1 t (ix2 a x) = m ((c.tc : Thread nD τ).loc main_arg3) (ix2 u x) := fun x => by
    blk_point [iblk, V, idx t]
  have hW : ∀ x : Fin 1536, iblk m c 4 t (ix2 k x) = m ((c.tc : Thread nD τ).loc main_arg2) (ix2 k x) := fun x => by
    blk_point [iblk, V, idx t]
  generalize iblk m c 1 t = U at hU ⊢
  generalize iblk m c 4 t = W at hW ⊢
  pointwise [k0_pay9, cotan]
  simp only [hU, hW]

/-- What a point leaves of the gain's gradient: the first over zeros, ... -/
theorem first7 (c : Dev nD) (t : Fin cfg0.N) (h : t.val % 16 = 0) :
    (outsAt0 m c t.val t.isLt).2.2 = k0_pay10 (iblk m c 0 t) (iblk m c 1 t) (iblk m c 4 t) (k0_pay4 (F := Ideal)) := by
  rw [outsAt0_A m c t h]
  dsimp only
  frame_out

/-- ... a later one over what the one before left. -/
theorem later7 (c : Dev nD) (t : Fin cfg0.N) (h : ¬ t.val % 16 = 0) :
    (outsAt0 m c t.val t.isLt).2.2
      = k0_pay10 (iblk m c 0 t) (iblk m c 1 t) (iblk m c 4 t) (outsAt0 m c (t.val - 1) (by omega)).2.2 := by
  rw [outsAt0_B m c t h]
  dsimp only
  frame_out

/-- The gain's gradient is one block. -/
theorem idx7 : ∀ t : Fin cfg0.N, win0_7.index t = ![0, 0] := (by decide +kernel : ∀ t : Fin grid0.N, _)

/-- A point's part of an entry: one row of a remainder by eight. -/
def part (c : Dev nD) (t : Fin cfg0.N) (k : Fin 64) (j : S8x1024.Idx) : EReal :=
  k0_pay9 (F := Ideal) (iblk m c 1 t) (iblk m c 4 t) (ix2 ⟨k.val * 8 + (j 0).val, by idx_bounds; omega⟩ (j 1))
    * k0_pay7 (F := Ideal) (iblk m c 0 t) (ix2 ⟨k.val * 8 + (j 0).val, by idx_bounds; omega⟩ (j 1))

/-- ... of the whole array's row. -/
theorem part_at (c : Dev nD) (t : Fin cfg0.N) (k : Fin 64) (j j' : S8x1024.Idx) (u : Fin 1024) (hj : j = j') (hu : (u : ℕ) = t.val * 64 + k) :
    part m c t k j = cotan (m ((c.tc : Thread nD τ).loc main_arg2)) (m ((c.tc : Thread nD τ).loc main_arg3))
        (ix2 ⟨u.val * 8 + (j' 0).val, by idx_bounds; omega⟩ (j' 1))
      * unitRows (m ((c.tc : Thread nD τ).loc main_arg0)) (ix2 ⟨u.val * 8 + (j' 0).val, by idx_bounds; omega⟩ (j' 1)) := by
  subst hj
  exact congrArg₂ (· * ·) (cotan_at m c t _ _ _ (by show u.val * 8 + (j 0).val = t.val * 512 + (k.val * 8 + (j 0).val); omega))
    (unit_at m c t _ _ _ (by show u.val * 8 + (j 0).val = t.val * 512 + (k.val * 8 + (j 0).val); omega))

/-- The first point, ... -/
theorem first7_at (c : Dev nD) (t : Fin cfg0.N) (h : t.val % 16 = 0) (j : S8x1024.Idx) :
    (outsAt0 m c t.val t.isLt).2.2 j = 0 + ∑ k : Fin 64, part m c t k j := by
  rw [first7 m c t h]
  obtain ⟨s, b, rfl⟩ : ∃ (s : Fin 8) (b : Fin 1024), j = ix2 s b := ⟨_, _, eq_ix2 j⟩
  rw [step7, zero7]
  rfl

/-- ... and a later one, entry by entry. -/
theorem later7_at (c : Dev nD) (t : Fin cfg0.N) (h : ¬ t.val % 16 = 0) (j : S8x1024.Idx) :
    (outsAt0 m c t.val t.isLt).2.2 j = (outsAt0 m c (t.val - 1) (by omega)).2.2 j + ∑ k : Fin 64, part m c t k j := by
  rw [later7 m c t h]
  obtain ⟨s, b, rfl⟩ : ∃ (s : Fin 8) (b : Fin 1024), j = ix2 s b := ⟨_, _, eq_ix2 j⟩
  rw [step7]
  rfl

/-- The array of the gain's gradient after the run. -/
theorem final7 (c : Dev nD) : (dats m 0 c).arrAt 7 (cfgs 0).N
    = eighths (unitRows (m ((c.tc : Thread nD τ).loc main_arg0)))
      (cotan (m ((c.tc : Thread nD τ).loc main_arg2)) (m ((c.tc : Thread nD τ).loc main_arg3))) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0)
    (fun t j => ∑ k : Fin 64, part m c t k j)
    (fun t h j => first7_at m c t h j) (fun t h j => later7_at m c t h j) t ((flush0_7 t).mp hf) _, zero_add]
  refine Eq.trans ?_ (eighths_at _ _ _).symm
  refine Fin.sum_mul_add_congr fun s k hl => ?_
  have hs := idx ⟨_, Pipeline.run_point_lt_of_flush t ((flush0_7 t).mp hf) s⟩
  have h16 : t.val / 16 = 0 := by have : t.val < 16 := t.isLt; omega
  refine part_at m c _ k _ _ ⟨s * 64 + k, hl⟩ ?_ ?_
  · blk_ext
    all_goals simp [idx7 t]
  · change s.val * 64 + k.val = (16 * (t.val / 16) + s.val) * 64 + k.val
    omega

end Cert.Kernel7Ideal.Inproj

end
-- ==== Proof.Ffn.InprojClaim.lean ====
/- The claims about the backward of the projection into the mixer. -/
module

public import proofs.«01_k».proof.Defs
public import proofs.«01_k».proof.Proof.Gen.Kernel7
public import proofs.«01_k».proof.Proof.Ffn.InprojGain
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies7 : Cert.Kernel7.defs₀ (F := Bits) = Cert.Kernel7Ideal.defs₀ (F := Bits) := by
  unfold Cert.Kernel7.defs₀ Cert.Kernel7Ideal.defs₀
  refine congrArg Defs.onTc ?_
  funext l x
  match l, x with
  | 0, (t, s) => rfl

/-- ... and so the same table of definitions. -/
theorem table7 : Cert.Kernel7.defs (F := Bits) = Cert.Kernel7Ideal.defs (F := Bits) := by
  unfold Cert.Kernel7.defs Cert.Kernel7Ideal.defs
  exact congrArg (Pipeline.defs Cert.Kernel7Ideal.pcfgs) bodies7

/-- Every run of the kernel over the extended reals ends, without a fault, with the counters at zero and the arguments unchanged. -/
theorem quiescent7I : Cert.quiescent_Kernel7Ideal := fun m ρ _ => Cert.Kernel7Ideal.Gen.frame m ρ

/-- The same of the kernel as it is. -/
theorem quiescent7 : Cert.quiescent_Kernel7 := fun m ρ _ => by
  rw [table7]
  exact Cert.Kernel7Ideal.Gen.frame (F := Bits) m ρ

/-- The same of the reference. -/
theorem quiescent7R : Cert.quiescent_Reference7Ideal := fun m ρ _ =>
  (θ_run Cert.Reference7Ideal.defs _ _).mono (fun r h => ⟨fun c => (h c).2.2.2,
    sem_eq_zero_of_no_sems (by decide) r.2⟩) (Cert.Reference7Ideal.Value.run m ρ)

/-- The kernel's ideal program and the reference are harmless where the precondition holds, as everywhere. -/
theorem quiescent7IPre : Cert.quiescent_Kernel7Ideal_pre_finite7 := fun m ρ _ => Cert.Kernel7Ideal.Gen.frame m ρ

theorem quiescent7RPre : Cert.quiescent_Reference7Ideal_pre_finite7 := fun m ρ _ =>
  (θ_run Cert.Reference7Ideal.defs _ _).mono (fun r h => ⟨fun c => (h c).2.2.2,
    sem_eq_zero_of_no_sems (by decide) r.2⟩) (Cert.Reference7Ideal.Value.run m ρ)

/-- The reference's result by its operations. -/
theorem result7_37 (m' : (ℓ : Loc Cert.Reference7Ideal.nD Cert.Reference7Ideal.τ Cert.Reference7Ideal.sig) → Buf (Elt Ideal) ℓ) (c : Dev Cert.Reference7Ideal.nD) :
    Cert.Reference7Ideal.Value.res_main_v37 m' c = Cert.Kernel7Ideal.Inproj.back (m' ((c.tc : Thread Cert.Reference7Ideal.nD Cert.Reference7Ideal.τ).loc Cert.Reference7Ideal.main_arg0)) (Cert.Kernel7Ideal.Inproj.scaled (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg1))) (m' ((c.tc : Thread Cert.Reference7Ideal.nD Cert.Reference7Ideal.τ).loc Cert.Reference7Ideal.main_arg4)) := rfl

/-- Where the arguments are finite the kernel and the reference compute the same gradients of the rows, of the weight and of the gain. -/
theorem algebraic7 : Cert.algebraic_Kernel7Ideal_Reference7Ideal_pre_finite7 := by
  pair_intro
  · run_from Cert.Kernel7Ideal.Value.run_blocks m g
  · run_from Cert.Reference7Ideal.Value.run m' g'
    · obtain ⟨h0, h1, h2, h3, h4⟩ := hagree c
      rw [result7_37, h0, h1, h2, h3, h4]
      exact (Cert.Kernel7Ideal.Inproj.final5 m c (Cert.Kernel7Ideal.Inproj.real_of_finite m hpre c).1 (Cert.Kernel7Ideal.Inproj.real_of_finite m hpre c).2.1 (Cert.Kernel7Ideal.Inproj.real_of_finite m hpre c).2.2.1 (Cert.Kernel7Ideal.Inproj.real_of_finite m hpre c).2.2.2.1).symm
    · exact (Cert.Kernel7Ideal.Inproj.final6 m c).symm
    · exact (Cert.Kernel7Ideal.Inproj.final7 m c).symm

end Cert.Proof

end
-- ==== Proof.Ffn.Project.lean ====
/- The input projection: the product of a tile's normalised rows with the weight is the reference's, tile by tile. -/
module

public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Project

open Cert.Kernel8Ideal Cert.Kernel8Ideal.Gen

variable (m : (ℓ : Loc nD τ sig) → Buf (Elt Ideal) ℓ)

open Cert.Reference8Ideal.Gen in
/-- The reference's normalised rows. -/
def normed (X : FVec Ideal S8192x1024 .f32) (G : FVec Ideal Cert.Reference8Ideal.S1024 .f32) : FVec Ideal S8192x1024 .f32 :=
  mulf (mulf X (broadcastInDim S8192x1024 ![0, 1] bcast_S8192x1_S8192x1024_0_1 (Host.rsqrt (addf (Host.divf
    (broadcastInDim Cert.Reference8Ideal.S8192x1 ![0] bcast_S8192_S8192x1_0 (Host.reduceAdd (mulf X X)
      (constant Cert.Reference8Ideal.S_ .f32 0x00000000#32) reducesTo_S8192x1024_S8192_d1 h_S_))
    (broadcastInDim Cert.Reference8Ideal.S8192x1 ![] bcast_S_S8192x1 (constant Cert.Reference8Ideal.S_ .f32 0x44800000#32)))
    (broadcastInDim Cert.Reference8Ideal.S8192x1 ![] bcast_S_S8192x1 (constant Cert.Reference8Ideal.S_ .f32 0x358637BD#32))))))
    (broadcastInDim S8192x1024 ![0, 1] bcast_S1x1024_S8192x1024_0_1 (broadcastInDim Cert.Reference8Ideal.S1x1024 ![1] bcast_S1024_S1x1024_1 G))

/-- The reference's product of the normalised rows with the weight. -/
def projected (X : FVec Ideal S8192x1024 .f32) (G : FVec Ideal Cert.Reference8Ideal.S1024 .f32)
    (W : FVec Ideal Cert.Reference8Ideal.S1024x1536 .f32) : FVec Ideal S8192x1536 .f32 :=
  Host.dotGeneral Cert.Reference8Ideal.dot_S8192x1024_S1024x1536_S8192x1536_1_0_0_1_n_n none (normed X G) W

/-- Which block of its array each window holds at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The product of a point's rows is the reference's at the rows the point holds. -/
theorem tile_at (c : Dev nD) (t : Fin cfg0.N) (y : S512x1536.Idx) (j : S8192x1536.Idx)
    (hj0 : (j 0 : ℕ) = t.val * 512 + y 0) (hj1 : (j 1 : ℕ) = y 1) :
    k0_pay1 (F := Ideal) (iblk m c 0 t) (iblk m c 1 t) (iblk m c 2 t) y
      = projected (m ((c.tc : Thread nD τ).loc main_arg0)) (m ((c.tc : Thread nD τ).loc main_arg1))
        (m ((c.tc : Thread nD τ).loc main_arg2)) j := by
  pointwise [k0_pay1, projected, normed]
  refine Finset.sum_congr rfl fun k _ => congrArg₂ (· * ·) ?_ ?_
  · blk_point [iblk, V, idx t]
  · blk_point [iblk, V, idx t]

/-- The array of the products after the run is the reference's product. -/
theorem final3 (c : Dev nD) : (dats m 0 c).arrAt 3 (cfgs 0).N
    = projected (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  blk_simp
  rw [after0_3]
  unfold out0_3
  frame_out
  refine tile_at m c t y _ ?_ ?_ <;> blk_simp [idx t] <;> try omega

end Cert.Kernel8Ideal.Project

end
-- ==== Proof.Ffn.ProjectClaim.lean ====
/- The claims about the input projection. -/
module

public import proofs.«01_k».proof.Defs
public import proofs.«01_k».proof.Proof.Gen.Kernel8
public import proofs.«01_k».proof.Proof.Ffn.Project
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies8 : Cert.Kernel8.defs₀ (F := Bits) = Cert.Kernel8Ideal.defs₀ (F := Bits) := by
  unfold Cert.Kernel8.defs₀ Cert.Kernel8Ideal.defs₀
  refine congrArg Defs.onTc ?_
  funext l x
  match l, x with
  | 0, (t, s) => rfl

/-- ... and so the same table of definitions. -/
theorem table8 : Cert.Kernel8.defs (F := Bits) = Cert.Kernel8Ideal.defs (F := Bits) := by
  unfold Cert.Kernel8.defs Cert.Kernel8Ideal.defs
  exact congrArg (Pipeline.defs Cert.Kernel8Ideal.pcfgs) bodies8

/-- Every run of the kernel over the extended reals ends, without a fault, with the counters at zero and the arguments unchanged. -/
theorem quiescent8I : Cert.quiescent_Kernel8Ideal := fun m ρ _ => Cert.Kernel8Ideal.Gen.frame m ρ

/-- The same of the kernel as it is. -/
theorem quiescent8 : Cert.quiescent_Kernel8 := fun m ρ _ => by
  rw [table8]
  exact Cert.Kernel8Ideal.Gen.frame (F := Bits) m ρ

/-- The same of the reference. -/
theorem quiescent8R : Cert.quiescent_Reference8Ideal := fun m ρ _ =>
  (θ_run Cert.Reference8Ideal.defs _ _).mono (fun r h => ⟨fun c => (h c).2,
    sem_eq_zero_of_no_sems (by decide) r.2⟩) (Cert.Reference8Ideal.Value.run m ρ)

/-- The kernel and the reference compute the same product of the normalised rows with the weight. -/
theorem algebraic8 : Cert.algebraic_Kernel8Ideal_Reference8Ideal := by
  pair_intro
  · run_from Cert.Kernel8Ideal.Value.run_blocks m g
  · run_from Cert.Reference8Ideal.Value.run m' g'
    · exact (Cert.Kernel8Ideal.Project.final3 m c).symm

end Cert.Proof

end
-- ==== Proof.Adam.In.lean ====
/- The optimiser's step of the input projection's weight: the gradient, joined from its two halves, the step and the two new
   moments are the reference's, tile by tile. -/
module

public import proofs.«01_k».proof.Proof.Gen.Kernel9Ideal.Frame
public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Adam

open Cert.Kernel9Ideal Cert.Kernel9Ideal.Gen

section AnyValues

variable {F : FTy → Type} [FloatOps F]
variable (m : (ℓ : Loc nD τ sig) → Buf (Elt F) ℓ) (ρ : Dev nD → PrngReg)

/-- After the run each array of results is what the grid's points left of it, and the arguments are as they were. -/
theorem run_blocks (hO : Ok m) : θ_run defs (onTc (τ := τ) (main (F := F))) ⟨m, fun _ => 0, ρ⟩ fun r => ∀ c : Dev nD,
      r.2.mem ((c : Thread nD τ).loc main_v3_0) = (dats m hO 0 c).arrAt 6 (cfgM m hO).N
      ∧ r.2.mem ((c : Thread nD τ).loc main_v3_1) = (dats m hO 0 c).arrAt 7 (cfgM m hO).N
      ∧ r.2.mem ((c : Thread nD τ).loc main_v3_2) = (dats m hO 0 c).arrAt 8 (cfgM m hO).N
      ∧ r.2.mem ((c : Thread nD τ).loc main_v3_3) = (dats m hO 0 c).arrAt 9 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7, (h c).1 8, (h c).1 9,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

end AnyValues

variable (m : (ℓ : Loc nD τ sig) → Buf (Elt Ideal) ℓ)

open Cert.Reference9Ideal.Gen in
/-- The reference's gradient: the two halves, one below the other. -/
def joined (a b : FVec Ideal S512x384 .f32) : FVec Ideal S1x1024x384 .f32 :=
  broadcastInDim S1x1024x384 ![1, 2] bcast_S1024x384_S1x1024x384_1_2
    (concatenate Cert.Reference9Ideal.S1024x384 0 [⟨S512x384, a⟩, ⟨S512x384, b⟩] concatenates_S512x384_S512x384_S1024x384_d0)

open Cert.Reference9Ideal.Gen in
/-- A number at every place of the weight. -/
def all (k : BitVec 32) : FVec Ideal S1x1024x384 .f32 :=
  broadcastInDim S1x1024x384 ![] bcast_S_S1x1024x384 (constant Cert.Reference9Ideal.S_ .f32 k)

/-- The reference's new first moment. -/
def first (g n : FVec Ideal S1x1024x384 .f32) : FVec Ideal S1x1024x384 .f32 :=
  addf (mulf (all 0x3F666666#32) n) (mulf (all 0x3DCCCCCD#32) g)

/-- The reference's new second moment. -/
def second (g v : FVec Ideal S1x1024x384 .f32) : FVec Ideal S1x1024x384 .f32 :=
  addf (mulf (all 0x3F7FBE77#32) v) (mulf (all 0x3A83126F#32) (mulf g g))

/-- The reference's step. -/
def step (w g n v : FVec Ideal S1x1024x384 .f32) : FVec Ideal S1x1024x384 .f32 :=
  mulf (all 0xBA83126F#32) (addf (Host.divf (Host.divf (first g n) (all 0x3F26BD02#32))
    (addf (Host.sqrt (Host.divf (second g v) (all 0x3C231ACC#32))) (all 0x322BCC77#32))) (mulf (all 0x3C23D70A#32) w))

/-- Which block of its array each window holds at a grid point. -/
theorem idx : ∀ t : Fin grid0.N, (cc0_transform_0 (grid0.coords t) = ![0, t.val, 0]
    ∧ cc0_transform_1 (grid0.coords t) = ![0, 0] ∧ cc0_transform_2 (grid0.coords t) = ![0, 0]
    ∧ cc0_transform_3 (grid0.coords t) = ![0, t.val, 0] ∧ cc0_transform_4 (grid0.coords t) = ![0, t.val, 0])
    ∧ cc0_transform_6 (grid0.coords t) = ![0, t.val, 0] ∧ cc0_transform_7 (grid0.coords t) = ![0, t.val, 0]
    ∧ cc0_transform_8 (grid0.coords t) = ![0, t.val, 0] ∧ cc0_transform_9 (grid0.coords t) = ![0, t.val, 0]
    ∧ (grid0.coords t 0).val = t.val := by decide +kernel

/-- The weight a point holds, in the whole array. -/
theorem blk0 (hO : Ok m) (c : Dev nD) (t : Fin grid0.N) (y : S1x512x384.Idx) (j : S1x1024x384.Idx)
    (h1 : (j 1 : ℕ) = t.val * 512 + y 1) (h2 : (j 2 : ℕ) = y 2) :
    iblk m hO c 0 t y = m ((c.tc : Thread nD τ).loc main_arg0) j := by
  show V m c main_arg0 ((((cfgM m hO).win 0).blk t).view.emb y) = _
  rw [V_main_arg0]
  refine congrArg _ (funext fun a => Fin.ext ?_)
  show cc0_transform_0 (grid0.coords t) a * S1x512x384.size a + 1 * (y a).val = (j a).val
  rw [(idx t).1.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 512 + 1 * (y 1).val = (j 1).val; omega
  | ⟨2, _⟩ => show 0 * 384 + 1 * (y 2).val = (j 2).val; omega

/-- The first moment a point holds, in the whole array. -/
theorem blk3 (hO : Ok m) (c : Dev nD) (t : Fin grid0.N) (y : S1x512x384.Idx) (j : S1x1024x384.Idx)
    (h1 : (j 1 : ℕ) = t.val * 512 + y 1) (h2 : (j 2 : ℕ) = y 2) :
    iblk m hO c 3 t y = m ((c.tc : Thread nD τ).loc main_arg3) j := by
  show V m c main_arg3 ((((cfgM m hO).win 3).blk t).view.emb y) = _
  rw [V_main_arg3]
  refine congrArg _ (funext fun a => Fin.ext ?_)
  show cc0_transform_3 (grid0.coords t) a * S1x512x384.size a + 1 * (y a).val = (j a).val
  rw [(idx t).1.2.2.2.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 512 + 1 * (y 1).val = (j 1).val; omega
  | ⟨2, _⟩ => show 0 * 384 + 1 * (y 2).val = (j 2).val; omega

/-- The second moment a point holds, in the whole array. -/
theorem blk4 (hO : Ok m) (c : Dev nD) (t : Fin grid0.N) (y : S1x512x384.Idx) (j : S1x1024x384.Idx)
    (h1 : (j 1 : ℕ) = t.val * 512 + y 1) (h2 : (j 2 : ℕ) = y 2) :
    iblk m hO c 4 t y = m ((c.tc : Thread nD τ).loc main_arg4) j := by
  show V m c main_arg4 ((((cfgM m hO).win 4).blk t).view.emb y) = _
  rw [V_main_arg4]
  refine congrArg _ (funext fun a => Fin.ext ?_)
  show cc0_transform_4 (grid0.coords t) a * S1x512x384.size a + 1 * (y a).val = (j a).val
  rw [(idx t).1.2.2.2.2]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 512 + 1 * (y 1).val = (j 1).val; omega
  | ⟨2, _⟩ => show 0 * 384 + 1 * (y 2).val = (j 2).val; omega

/-- The rows of the gradient's first half a point holds. -/
theorem blk1 (hO : Ok m) (c : Dev nD) (t : Fin grid0.N) (y : S512x384.Idx) (j : S512x384.Idx)
    (h0 : (j 0 : ℕ) = 0 * 512 + y 0) (h1 : (j 1 : ℕ) = y 1) :
    iblk m hO c 1 t y = m ((c.tc : Thread nD τ).loc main_arg1) j := by
  show V m c main_arg1 ((((cfgM m hO).win 1).blk t).view.emb y) = _
  rw [V_main_arg1]
  refine congrArg _ (funext fun a => Fin.ext ?_)
  show cc0_transform_1 (grid0.coords t) a * S512x384.size a + 1 * (y a).val = (j a).val
  rw [(idx t).1.2.1]
  match a with
  | ⟨0, _⟩ => show 0 * 512 + 1 * (y 0).val = (j 0).val; omega
  | ⟨1, _⟩ => show 0 * 384 + 1 * (y 1).val = (j 1).val; omega

/-- The rows of the gradient's second half a point holds. -/
theorem blk2 (hO : Ok m) (c : Dev nD) (t : Fin grid0.N) (y : S512x384.Idx) (j : S512x384.Idx)
    (h0 : (j 0 : ℕ) = 0 * 512 + y 0) (h1 : (j 1 : ℕ) = y 1) :
    iblk m hO c 2 t y = m ((c.tc : Thread nD τ).loc main_arg2) j := by
  show V m c main_arg2 ((((cfgM m hO).win 2).blk t).view.emb y) = _
  rw [V_main_arg2]
  refine congrArg _ (funext fun a => Fin.ext ?_)
  show cc0_transform_2 (grid0.coords t) a * S512x384.size a + 1 * (y a).val = (j a).val
  rw [(idx t).1.2.2.1]
  match a with
  | ⟨0, _⟩ => show 0 * 512 + 1 * (y 0).val = (j 0).val; omega
  | ⟨1, _⟩ => show 0 * 384 + 1 * (y 1).val = (j 1).val; omega

/-- The host's zeros the point is given. -/
theorem blk5 (hO : Ok m) (c : Dev nD) (t : Fin grid0.N) (y : S8x128.Idx) : iblk m hO c 5 t y = (0 : EReal) := by
  show V m c main_v0 ((((cfgM m hO).win 5).blk t).view.emb y) = _
  have e : V m c main_v0 = fun _ => (0 : EReal) := by
    unfold V hostOps0
    after_results_simp
    funext k
    pointwise []
  rw [e]

/-- The word of the table the point reads. -/
theorem word (k : S1.Idx) : tbl m 0 k = 0#32 := by
  show V m 0 main_v2 k = _
  unfold V hostOps0
  after_results_simp
  rfl

/-- Whether a point's rows are of the first half. -/
def half (n : ℕ) (w : BitVec 32) : BitVec 1 :=
  let i : BitVec 32 := BitVec.ofNat 32 n
  let q := Scalar.divsi i 1#32
  Scalar.cmpi .eq (Scalar.select (Scalar.andi (Scalar.cmpi .ne
      (Scalar.subi (Scalar.extui (Scalar.cmpi .sgt i 0#32)) (Scalar.extui (Scalar.cmpi .slt i 0#32)) : BitVec 32)
      (Scalar.subi (Scalar.extui (Scalar.cmpi .sgt 1#32 0#32)) (Scalar.extui (Scalar.cmpi .slt 1#32 0#32))))
    (Scalar.cmpi .ne (Scalar.remsi i 1#32) 0#32)) (Scalar.subi q 1#32) q) w

theorem half_eq : ∀ t : Fin grid0.N, half (grid0.coords t 0).val 0#32 = if t.val < 1 then 1#1 else 0#1 := by decide +kernel

/-- The gradient a point writes: its rows of the half they are in. -/
theorem pay6_eq (t : Fin grid0.N) (x1 x2 : Vec Ideal S512x384 .f32) (z : Vec Ideal S1x1 .f32) (hz : ∀ k, z k = (0 : EReal)) (y : S512x384.Idx) :
    k0_pay6 (F := Ideal) (grid0.coords t) 0#32 x1 x2 z y = if t.val < 1 then x1 y else x2 y := by
  have e : k0_pay6 (F := Ideal) (grid0.coords t) 0#32 x1 x2 z
      = addf (Scalar.select (half (grid0.coords t 0).val 0#32) x1 x2) (broadcastTo S512x384 (shapeCast S1x1 z shapeCasts_S1x1_S1x1) broadcasts_S1x1_S512x384) := rfl
  rw [e, half_eq]
  have e0 : broadcastTo S512x384 (shapeCast S1x1 z shapeCasts_S1x1_S1x1) broadcasts_S1x1_S512x384 y = (0 : EReal) := hz _
  show Scalar.select _ x1 x2 y + broadcastTo S512x384 (shapeCast S1x1 z shapeCasts_S1x1_S1x1) broadcasts_S1x1_S512x384 y = _
  rw [e0, add_zero]
  split
  · rfl
  · rfl

/-- Every block of an array of results is some point's. -/
theorem reach (ix : grid0.Coords → Fin 3 → ℕ) (h : ∀ t : Fin grid0.N, ix (grid0.coords t) = ![0, t.val, 0])
    (β : (a : Fin 3) → Fin ((S1x1024x384.size a + S1x512x384.size a - 1) / S1x512x384.size a)) :
    ∃ t : Fin grid0.N, ∀ a : Fin 3, ix (grid0.coords t) a = (β a : ℕ) := by
  refine ⟨⟨(β 1).val, (β 1).isLt⟩, fun x => ?_⟩
  rw [h]
  match x with
  | ⟨0, _⟩ => exact (Nat.lt_one_iff.mp (β 0).isLt).symm
  | ⟨1, _⟩ => rfl
  | ⟨2, _⟩ => exact (Nat.lt_one_iff.mp (β 2).isLt).symm

/-- The blocks written back are all of the array. -/
theorem covers6 (a : (pcfg0 (F := Ideal)).Adm) : ((cfg0 a).win 6).Covers :=
  ⟨(by decide : ∀ a : Fin 3, 0 < S1x512x384.size a), fun β =>
    (reach cc0_transform_6 (fun t => (idx t).2.1) β).imp fun t h => ⟨flush0_6 a t, fun x => ⟨h x, Or.inl rfl⟩⟩⟩

/-- The blocks written back are all of the array. -/
theorem covers7 (a : (pcfg0 (F := Ideal)).Adm) : ((cfg0 a).win 7).Covers :=
  ⟨(by decide : ∀ a : Fin 3, 0 < S1x512x384.size a), fun β =>
    (reach cc0_transform_7 (fun t => (idx t).2.2.1) β).imp fun t h => ⟨flush0_7 a t, fun x => ⟨h x, Or.inl rfl⟩⟩⟩

/-- The blocks written back are all of the array. -/
theorem covers8 (a : (pcfg0 (F := Ideal)).Adm) : ((cfg0 a).win 8).Covers :=
  ⟨(by decide : ∀ a : Fin 3, 0 < S1x512x384.size a), fun β =>
    (reach cc0_transform_8 (fun t => (idx t).2.2.2.1) β).imp fun t h => ⟨flush0_8 a t, fun x => ⟨h x, Or.inl rfl⟩⟩⟩

/-- The blocks written back are all of the array. -/
theorem covers9 (a : (pcfg0 (F := Ideal)).Adm) : ((cfg0 a).win 9).Covers :=
  ⟨(by decide : ∀ a : Fin 3, 0 < S1x512x384.size a), fun β =>
    (reach cc0_transform_9 (fun t => (idx t).2.2.2.2.1) β).imp fun t h => ⟨flush0_9 a t, fun x => ⟨h x, Or.inl rfl⟩⟩⟩

set_option maxHeartbeats 0 in
/-- The gradient a point writes is the reference's at the rows the point holds. -/
theorem grad_at (hO : Ok m) (c : Dev nD) (t : Fin grid0.N) (w : BitVec 32) (x1 x2 : Vec Ideal S512x384 .f32) (z : Vec Ideal S1x1 .f32)
    (hw : w = 0#32) (h1 : x1 = iblk m hO c 1 t) (h2 : x2 = iblk m hO c 2 t) (hz : ∀ k, z k = (0 : EReal))
    (y : S512x384.Idx) (j : S1x1024x384.Idx) (hj1 : (j 1 : ℕ) = t.val * 512 + y 0) (hj2 : (j 2 : ℕ) = y 1) :
    k0_pay6 (F := Ideal) (grid0.coords t) w x1 x2 z y
      = joined (m ((c.tc : Thread nD τ).loc main_arg1)) (m ((c.tc : Thread nD τ).loc main_arg2)) j := by
  subst hw
  refine (pay6_eq t x1 x2 z hz y).trans ?_
  have hy := (y 0).isLt
  have hN : t.val < 2 := t.isLt
  have hy' : (y 0).val < 512 := hy
  pointwise [joined]
  by_cases ht : t.val < 1
  · rw [if_pos ht, dif_pos (show (j 1).val < 512 by omega), h1]
    exact blk1 m hO c t y _ (show (j 1).val = 0 * 512 + (y 0).val by omega) hj2
  · rw [if_neg ht, dif_neg (show ¬ (j 1).val < 512 by omega), h2]
    exact blk2 m hO c t y _ (show (j 1).val - 512 = 0 * 512 + (y 0).val by omega) hj2

/-- The same of the block the point writes. -/
theorem grad_block_at (hO : Ok m) (c : Dev nD) (t : Fin grid0.N) (w : BitVec 32) (x1 x2 : Vec Ideal S512x384 .f32) (z : Vec Ideal S1x1 .f32)
    (hw : w = 0#32) (h1 : x1 = iblk m hO c 1 t) (h2 : x2 = iblk m hO c 2 t) (hz : ∀ k, z k = (0 : EReal))
    (y : S1x512x384.Idx) (j : S1x1024x384.Idx) (hj1 : (j 1 : ℕ) = t.val * 512 + y 1) (hj2 : (j 2 : ℕ) = y 2) :
    k0_pay7 (F := Ideal) (grid0.coords t) w x1 x2 z y
      = joined (m ((c.tc : Thread nD τ).loc main_arg1)) (m ((c.tc : Thread nD τ).loc main_arg2)) j := by
  have hg := grad_at m hO c t w x1 x2 z hw h1 h2 hz (ix2 (y 1) (y 2)) j hj1 hj2
  unfold k0_pay7
  generalize k0_pay6 (F := Ideal) (grid0.coords t) w x1 x2 z = G at hg ⊢
  rw [← hg]
  pointwise []

section Places

variable (t : Fin grid0.N) (G : FVec Ideal S512x384 .f32) (g : FVec Ideal S1x1024x384 .f32)
    (hG : ∀ (y : S512x384.Idx) (j : S1x1024x384.Idx), (j 1 : ℕ) = t.val * 512 + y 0 → (j 2 : ℕ) = y 1 → G y = g j)

/-- What a block and an array have in common where the block is that of a point. -/
def Rows (x : Vec Ideal S1x512x384 .f32) (w : FVec Ideal S1x1024x384 .f32) : Prop :=
  ∀ (y : S1x512x384.Idx) (j : S1x1024x384.Idx), (j 1 : ℕ) = t.val * 512 + y 1 → (j 2 : ℕ) = y 2 → x y = w j

include hG

/-- The step, a place at a time. -/
theorem step_at (x0 x3 x4 : Vec Ideal S1x512x384 .f32) (w n v : FVec Ideal S1x1024x384 .f32)
    (h0 : Rows t x0 w) (h3 : Rows t x3 n) (h4 : Rows t x4 v) : Rows t (k0_pay3 (F := Ideal) G (k0_pay8 x0) (k0_pay9 x3) x4) (step w g n v) := by
  intro y j hj1 hj2
  pointwise [k0_pay3, k0_pay1, k0_pay2, k0_pay8, k0_pay9, step, first, second, all]
  rw [h0 y j hj1 hj2, h3 y j hj1 hj2, h4 y j hj1 hj2, hG (ix2 (y 1) (y 2)) j hj1 hj2]

/-- The new first moment, a place at a time. -/
theorem first_at (x3 : Vec Ideal S1x512x384 .f32) (n : FVec Ideal S1x1024x384 .f32) (h3 : Rows t x3 n) :
    Rows t (k0_pay4 (F := Ideal) G (k0_pay9 x3)) (first g n) := by
  intro y j hj1 hj2
  pointwise [k0_pay4, k0_pay1, k0_pay9, first, all]
  rw [h3 y j hj1 hj2, hG (ix2 (y 1) (y 2)) j hj1 hj2]

/-- The new second moment, a place at a time. -/
theorem second_at (x4 : Vec Ideal S1x512x384 .f32) (v : FVec Ideal S1x1024x384 .f32) (h4 : Rows t x4 v) :
    Rows t (k0_pay5 (F := Ideal) G x4) (second g v) := by
  intro y j hj1 hj2
  pointwise [k0_pay5, k0_pay2, second, all]
  rw [h4 y j hj1 hj2, hG (ix2 (y 1) (y 2)) j hj1 hj2]

end Places

/-- The place in the whole array of a place of the block a point writes. -/
theorem place (t : Fin grid0.N) (y : S1x512x384.Idx) (ix : grid0.Coords → Fin 3 → ℕ) (h : ix (grid0.coords t) = ![0, t.val, 0]) :
    ix (grid0.coords t) 1 * 512 + 1 * (y 1).val = t.val * 512 + y 1 ∧ ix (grid0.coords t) 2 * 384 + 1 * (y 2).val = y 2 := by
  rw [h]
  constructor
  · show t.val * 512 + 1 * (y 1).val = t.val * 512 + y 1; omega
  · show 0 * 384 + 1 * (y 2).val = y 2; omega

/-- The array of the gradient after the run is the reference's. -/
theorem final6 (hO : Ok m) (c : Dev nD) : (dats m hO 0 c).arrAt 6 (cfgM m hO).N
    = joined (m ((c.tc : Thread nD τ).loc main_arg1)) (m ((c.tc : Thread nD τ).loc main_arg2)) := by
  refine (dats m hO 0 c).arrAt_eq_of_covers 6 _ (covers6 _) fun t hf y => ?_
  blk_simp
  rw [after0_6]
  unfold outsAt0
  frame_out
  refine grad_block_at m hO c t _ _ _ _ (word m _) ((hs0_1 m hO t).read_unread _) ((hs0_2 m hO t).read_unread _)
    (fun k => (congrFun ((hs0_5 m hO t).read_unread _) _).trans (blk5 m hO c t _)) y _ ?_ ?_
  · exact (place t y cc0_transform_6 (idx t).2.1).1
  · exact (place t y cc0_transform_6 (idx t).2.1).2

/-- The array of the step after the run is the reference's. -/
theorem final7 (hO : Ok m) (c : Dev nD) : (dats m hO 0 c).arrAt 7 (cfgM m hO).N
    = step (m ((c.tc : Thread nD τ).loc main_arg0)) (joined (m ((c.tc : Thread nD τ).loc main_arg1)) (m ((c.tc : Thread nD τ).loc main_arg2)))
      (m ((c.tc : Thread nD τ).loc main_arg3)) (m ((c.tc : Thread nD τ).loc main_arg4)) := by
  refine (dats m hO 0 c).arrAt_eq_of_covers 7 _ (covers7 _) fun t hf y => ?_
  blk_simp
  rw [after0_7]
  unfold outsAt0
  frame_out
  refine step_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _ _ _ _ _
    (fun y' j h h' => (congrFun ((hs0_0 m hO t).read_unread _) _).trans (blk0 m hO c t y' j h h'))
    (fun y' j h h' => (congrFun ((hs0_3 m hO t).read_unread _) _).trans (blk3 m hO c t y' j h h'))
    (fun y' j h h' => (congrFun ((hs0_4 m hO t).read_unread _) _).trans (blk4 m hO c t y' j h h')) y _ ?_ ?_
  · exact (place t y cc0_transform_7 (idx t).2.2.1).1
  · exact (place t y cc0_transform_7 (idx t).2.2.1).2

/-- The array of the first moment after the run is the reference's. -/
theorem final8 (hO : Ok m) (c : Dev nD) : (dats m hO 0 c).arrAt 8 (cfgM m hO).N
    = first (joined (m ((c.tc : Thread nD τ).loc main_arg1)) (m ((c.tc : Thread nD τ).loc main_arg2)))
      (m ((c.tc : Thread nD τ).loc main_arg3)) := by
  refine (dats m hO 0 c).arrAt_eq_of_covers 8 _ (covers8 _) fun t hf y => ?_
  blk_simp
  rw [after0_8]
  unfold outsAt0
  frame_out
  refine first_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_3 m hO t).read_unread _) _).trans (blk3 m hO c t y' j h h')) y _ ?_ ?_
  · exact (place t y cc0_transform_8 (idx t).2.2.2.1).1
  · exact (place t y cc0_transform_8 (idx t).2.2.2.1).2

/-- The array of the second moment after the run is the reference's. -/
theorem final9 (hO : Ok m) (c : Dev nD) : (dats m hO 0 c).arrAt 9 (cfgM m hO).N
    = second (joined (m ((c.tc : Thread nD τ).loc main_arg1)) (m ((c.tc : Thread nD τ).loc main_arg2)))
      (m ((c.tc : Thread nD τ).loc main_arg4)) := by
  refine (dats m hO 0 c).arrAt_eq_of_covers 9 _ (covers9 _) fun t hf y => ?_
  blk_simp
  rw [after0_9]
  unfold outsAt0
  frame_out
  refine second_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_4 m hO t).read_unread _) _).trans (blk4 m hO c t y' j h h')) y _ ?_ ?_
  · exact (place t y cc0_transform_9 (idx t).2.2.2.2.1).1
  · exact (place t y cc0_transform_9 (idx t).2.2.2.2.1).2

/-- A run of the call ends with the joined gradient, the step and the two new moments in its four results, and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = joined (m ((c.tc : Thread nD τ).loc main_arg1)) (m ((c.tc : Thread nD τ).loc main_arg2))
      ∧ r.2.mem ((c : Thread nD τ).loc main_v3_1) = step (m ((c.tc : Thread nD τ).loc main_arg0)) (joined (m ((c.tc : Thread nD τ).loc main_arg1)) (m ((c.tc : Thread nD τ).loc main_arg2))) (m ((c.tc : Thread nD τ).loc main_arg3)) (m ((c.tc : Thread nD τ).loc main_arg4))
      ∧ r.2.mem ((c : Thread nD τ).loc main_v3_2) = first (joined (m ((c.tc : Thread nD τ).loc main_arg1)) (m ((c.tc : Thread nD τ).loc main_arg2))) (m ((c.tc : Thread nD τ).loc main_arg3))
      ∧ r.2.mem ((c : Thread nD τ).loc main_v3_3) = second (joined (m ((c.tc : Thread nD τ).loc main_arg1)) (m ((c.tc : Thread nD τ).loc main_arg2))) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m trivial c), (h c).2.1.trans (final7 m trivial c),
      (h c).2.2.1.trans (final8 m trivial c), (h c).2.2.2.1.trans (final9 m trivial c), (h c).2.2.2.2⟩)
    (run_blocks m ρ trivial)

end Cert.Kernel9Ideal.Adam

end
-- ==== Proof.Adam.InClaim.lean ====
/- The claims about the optimiser's step of the input projection's weight. -/
module

public import proofs.«01_k».proof.Defs
public import proofs.«01_k».proof.Proof.Gen.Kernel9
public import proofs.«01_k».proof.Proof.Adam.In
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies9 : Cert.Kernel9.defs₀ (F := Bits) = Cert.Kernel9Ideal.defs₀ (F := Bits) := by
  unfold Cert.Kernel9.defs₀ Cert.Kernel9Ideal.defs₀
  refine congrArg Defs.onTc ?_
  funext l x
  match l, x with
  | 0, (t, s) => rfl

/-- ... and so the same table of definitions. -/
theorem table9 : Cert.Kernel9.defs (F := Bits) = Cert.Kernel9Ideal.defs (F := Bits) := by
  unfold Cert.Kernel9.defs Cert.Kernel9Ideal.defs
  exact congrArg (Pipeline.defs (Cert.Kernel9Ideal.pcfgs (F := Bits))) bodies9

/-- Every run of the kernel over the extended reals ends, without a fault, with the counters at zero and the arguments unchanged. -/
theorem quiescent9I : Cert.quiescent_Kernel9Ideal := fun m ρ _ => Cert.Kernel9Ideal.Gen.frame m ρ trivial

/-- The same of the kernel as it is. -/
theorem quiescent9 : Cert.quiescent_Kernel9 := fun m ρ _ => by
  rw [table9]
  exact Cert.Kernel9Ideal.Gen.frame (F := Bits) m ρ trivial

/-- The same of the reference. -/
theorem quiescent9R : Cert.quiescent_Reference9Ideal := fun m ρ _ =>
  (θ_run Cert.Reference9Ideal.defs _ _).mono (fun r h => ⟨fun c => (h c).2.2.2.2,
    sem_eq_zero_of_no_sems (by decide) r.2⟩) (Cert.Reference9Ideal.Value.run m ρ)

/-- A run of the reference ends with the joined gradient, the step and the two new moments in its results, and with its arguments unchanged. -/
theorem run9R (m : (ℓ : Loc Cert.Reference9Ideal.nD Cert.Reference9Ideal.τ Cert.Reference9Ideal.sig) → Buf (Elt Ideal) ℓ)
    (ρ : Dev Cert.Reference9Ideal.nD → PrngReg) :
    θ_run Cert.Reference9Ideal.defs (onTc (τ := Cert.Reference9Ideal.τ) (Cert.Reference9Ideal.main (F := Ideal))) ⟨m, fun _ => 0, ρ⟩
      fun r => ∀ c : Dev Cert.Reference9Ideal.nD,
      r.2.mem ((c.tc : Thread Cert.Reference9Ideal.nD Cert.Reference9Ideal.τ).loc Cert.Reference9Ideal.main_v1) = (Cert.Kernel9Ideal.Adam.joined (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)))
      ∧ r.2.mem ((c.tc : Thread Cert.Reference9Ideal.nD Cert.Reference9Ideal.τ).loc Cert.Reference9Ideal.main_v25) = Cert.Kernel9Ideal.Adam.step (m ((c.tc : Thread Cert.Reference9Ideal.nD Cert.Reference9Ideal.τ).loc Cert.Reference9Ideal.main_arg0)) (Cert.Kernel9Ideal.Adam.joined (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))
      ∧ r.2.mem ((c.tc : Thread Cert.Reference9Ideal.nD Cert.Reference9Ideal.τ).loc Cert.Reference9Ideal.main_v6) = Cert.Kernel9Ideal.Adam.first (Cert.Kernel9Ideal.Adam.joined (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) (m ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v12) = Cert.Kernel9Ideal.Adam.second (Cert.Kernel9Ideal.Adam.joined (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) (m ((c.tc : Thread Cert.Reference9Ideal.nD Cert.Reference9Ideal.τ).loc Cert.Reference9Ideal.main_arg4))
      ∧ r.2.mem ((c.tc : Thread Cert.Reference9Ideal.nD Cert.Reference9Ideal.τ).loc Cert.Reference9Ideal.main_arg0) = (m ((c.tc : Thread Cert.Reference9Ideal.nD Cert.Reference9Ideal.τ).loc Cert.Reference9Ideal.main_arg0))
      ∧ r.2.mem ((c.tc : Thread Cert.Reference9Ideal.nD Cert.Reference9Ideal.τ).loc Cert.Reference9Ideal.main_arg1) = (m ((c.tc : Thread Cert.Reference9Ideal.nD Cert.Reference9Ideal.τ).loc Cert.Reference9Ideal.main_arg1))
      ∧ r.2.mem ((c.tc : Thread Cert.Reference9Ideal.nD Cert.Reference9Ideal.τ).loc Cert.Reference9Ideal.main_arg2) = (m ((c.tc : Thread Cert.Reference9Ideal.nD Cert.Reference9Ideal.τ).loc Cert.Reference9Ideal.main_arg2))
      ∧ r.2.mem ((c.tc : Thread Cert.Reference9Ideal.nD Cert.Reference9Ideal.τ).loc Cert.Reference9Ideal.main_arg3) = (m ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_arg4) = (m ((c.tc : Thread Cert.Reference9Ideal.nD Cert.Reference9Ideal.τ).loc Cert.Reference9Ideal.main_arg4)) :=
  (θ_run Cert.Reference9Ideal.defs _ _).mono (fun r h c => ⟨(h c).1.trans rfl, (h c).2.1.trans rfl,
      (h c).2.2.1.trans rfl, (h c).2.2.2.1.trans rfl, (h c).2.2.2.2⟩)
    (Cert.Reference9Ideal.Value.run m ρ)

/-- The kernel and the reference compute the same gradient, step and moments. -/
theorem algebraic9 : Cert.algebraic_Kernel9Ideal_Reference9Ideal := by
  pair_intro
  · run_from Cert.Kernel9Ideal.Adam.run m g
  · run_from Cert.Proof.run9R m' g'

end Cert.Proof

end
-- ==== Proof.Adam.Out.lean ====
/- The optimiser's step of the output projection's weight: the gradient, joined from its two halves, the step and the two new
   moments are the reference's, tile by tile. -/
module

public import proofs.«01_k».proof.Proof.Gen.Kernel10Ideal.Frame
public import proofs.«01_k».proof.Proof.Gen.Reference10Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Adam

open Cert.Kernel10Ideal Cert.Kernel10Ideal.Gen

section AnyValues

variable {F : FTy → Type} [FloatOps F]
variable (m : (ℓ : Loc nD τ sig) → Buf (Elt F) ℓ) (ρ : Dev nD → PrngReg)

/-- After the run each array of results is what the grid's points left of it, and the arguments are as they were. -/
theorem run_blocks (hO : Ok m) : θ_run defs (onTc (τ := τ) (main (F := F))) ⟨m, fun _ => 0, ρ⟩ fun r => ∀ c : Dev nD,
      r.2.mem ((c : Thread nD τ).loc main_v3_0) = (dats m hO 0 c).arrAt 6 (cfgM m hO).N
      ∧ r.2.mem ((c : Thread nD τ).loc main_v3_1) = (dats m hO 0 c).arrAt 7 (cfgM m hO).N
      ∧ r.2.mem ((c : Thread nD τ).loc main_v3_2) = (dats m hO 0 c).arrAt 8 (cfgM m hO).N
      ∧ r.2.mem ((c : Thread nD τ).loc main_v3_3) = (dats m hO 0 c).arrAt 9 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7, (h c).1 8, (h c).1 9,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

end AnyValues

variable (m : (ℓ : Loc nD τ sig) → Buf (Elt Ideal) ℓ)

open Cert.Reference10Ideal.Gen in
/-- The reference's gradient: the two halves, one below the other. -/
def joined (a b : FVec Ideal S128x1024 .f32) : FVec Ideal S1x256x1024 .f32 :=
  broadcastInDim S1x256x1024 ![1, 2] bcast_S256x1024_S1x256x1024_1_2
    (concatenate Cert.Reference10Ideal.S256x1024 0 [⟨S128x1024, a⟩, ⟨S128x1024, b⟩] concatenates_S128x1024_S128x1024_S256x1024_d0)

open Cert.Reference10Ideal.Gen in
/-- A number at every place of the weight. -/
def all (k : BitVec 32) : FVec Ideal S1x256x1024 .f32 :=
  broadcastInDim S1x256x1024 ![] bcast_S_S1x256x1024 (constant Cert.Reference10Ideal.S_ .f32 k)

/-- The reference's new first moment. -/
def first (g n : FVec Ideal S1x256x1024 .f32) : FVec Ideal S1x256x1024 .f32 :=
  addf (mulf (all 0x3F666666#32) n) (mulf (all 0x3DCCCCCD#32) g)

/-- The reference's new second moment. -/
def second (g v : FVec Ideal S1x256x1024 .f32) : FVec Ideal S1x256x1024 .f32 :=
  addf (mulf (all 0x3F7FBE77#32) v) (mulf (all 0x3A83126F#32) (mulf g g))

/-- The reference's step. -/
def step (w g n v : FVec Ideal S1x256x1024 .f32) : FVec Ideal S1x256x1024 .f32 :=
  mulf (all 0xBA83126F#32) (addf (Host.divf (Host.divf (first g n) (all 0x3F26BD02#32))
    (addf (Host.sqrt (Host.divf (second g v) (all 0x3C231ACC#32))) (all 0x322BCC77#32))) (mulf (all 0x3C23D70A#32) w))

/-- Which block of its array each window holds at a grid point. -/
theorem idx : ∀ t : Fin grid0.N, (cc0_transform_0 (grid0.coords t) = ![0, t.val, 0]
    ∧ cc0_transform_1 (grid0.coords t) = ![0, 0] ∧ cc0_transform_2 (grid0.coords t) = ![0, 0]
    ∧ cc0_transform_3 (grid0.coords t) = ![0, t.val, 0] ∧ cc0_transform_4 (grid0.coords t) = ![0, t.val, 0])
    ∧ cc0_transform_6 (grid0.coords t) = ![0, t.val, 0] ∧ cc0_transform_7 (grid0.coords t) = ![0, t.val, 0]
    ∧ cc0_transform_8 (grid0.coords t) = ![0, t.val, 0] ∧ cc0_transform_9 (grid0.coords t) = ![0, t.val, 0]
    ∧ (grid0.coords t 0).val = t.val := by decide +kernel

/-- The weight a point holds, in the whole array. -/
theorem blk0 (hO : Ok m) (c : Dev nD) (t : Fin grid0.N) (y : S1x128x1024.Idx) (j : S1x256x1024.Idx)
    (h1 : (j 1 : ℕ) = t.val * 128 + y 1) (h2 : (j 2 : ℕ) = y 2) :
    iblk m hO c 0 t y = m ((c.tc : Thread nD τ).loc main_arg0) j := by
  show V m c main_arg0 ((((cfgM m hO).win 0).blk t).view.emb y) = _
  rw [V_main_arg0]
  refine congrArg _ (funext fun a => Fin.ext ?_)
  show cc0_transform_0 (grid0.coords t) a * S1x128x1024.size a + 1 * (y a).val = (j a).val
  rw [(idx t).1.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 128 + 1 * (y 1).val = (j 1).val; omega
  | ⟨2, _⟩ => show 0 * 1024 + 1 * (y 2).val = (j 2).val; omega

/-- The first moment a point holds, in the whole array. -/
theorem blk3 (hO : Ok m) (c : Dev nD) (t : Fin grid0.N) (y : S1x128x1024.Idx) (j : S1x256x1024.Idx)
    (h1 : (j 1 : ℕ) = t.val * 128 + y 1) (h2 : (j 2 : ℕ) = y 2) :
    iblk m hO c 3 t y = m ((c.tc : Thread nD τ).loc main_arg3) j := by
  show V m c main_arg3 ((((cfgM m hO).win 3).blk t).view.emb y) = _
  rw [V_main_arg3]
  refine congrArg _ (funext fun a => Fin.ext ?_)
  show cc0_transform_3 (grid0.coords t) a * S1x128x1024.size a + 1 * (y a).val = (j a).val
  rw [(idx t).1.2.2.2.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 128 + 1 * (y 1).val = (j 1).val; omega
  | ⟨2, _⟩ => show 0 * 1024 + 1 * (y 2).val = (j 2).val; omega

/-- The second moment a point holds, in the whole array. -/
theorem blk4 (hO : Ok m) (c : Dev nD) (t : Fin grid0.N) (y : S1x128x1024.Idx) (j : S1x256x1024.Idx)
    (h1 : (j 1 : ℕ) = t.val * 128 + y 1) (h2 : (j 2 : ℕ) = y 2) :
    iblk m hO c 4 t y = m ((c.tc : Thread nD τ).loc main_arg4) j := by
  show V m c main_arg4 ((((cfgM m hO).win 4).blk t).view.emb y) = _
  rw [V_main_arg4]
  refine congrArg _ (funext fun a => Fin.ext ?_)
  show cc0_transform_4 (grid0.coords t) a * S1x128x1024.size a + 1 * (y a).val = (j a).val
  rw [(idx t).1.2.2.2.2]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 128 + 1 * (y 1).val = (j 1).val; omega
  | ⟨2, _⟩ => show 0 * 1024 + 1 * (y 2).val = (j 2).val; omega

/-- The rows of the gradient's first half a point holds. -/
theorem blk1 (hO : Ok m) (c : Dev nD) (t : Fin grid0.N) (y : S128x1024.Idx) (j : S128x1024.Idx)
    (h0 : (j 0 : ℕ) = 0 * 128 + y 0) (h1 : (j 1 : ℕ) = y 1) :
    iblk m hO c 1 t y = m ((c.tc : Thread nD τ).loc main_arg1) j := by
  show V m c main_arg1 ((((cfgM m hO).win 1).blk t).view.emb y) = _
  rw [V_main_arg1]
  refine congrArg _ (funext fun a => Fin.ext ?_)
  show cc0_transform_1 (grid0.coords t) a * S128x1024.size a + 1 * (y a).val = (j a).val
  rw [(idx t).1.2.1]
  match a with
  | ⟨0, _⟩ => show 0 * 128 + 1 * (y 0).val = (j 0).val; omega
  | ⟨1, _⟩ => show 0 * 1024 + 1 * (y 1).val = (j 1).val; omega

/-- The rows of the gradient's second half a point holds. -/
theorem blk2 (hO : Ok m) (c : Dev nD) (t : Fin grid0.N) (y : S128x1024.Idx) (j : S128x1024.Idx)
    (h0 : (j 0 : ℕ) = 0 * 128 + y 0) (h1 : (j 1 : ℕ) = y 1) :
    iblk m hO c 2 t y = m ((c.tc : Thread nD τ).loc main_arg2) j := by
  show V m c main_arg2 ((((cfgM m hO).win 2).blk t).view.emb y) = _
  rw [V_main_arg2]
  refine congrArg _ (funext fun a => Fin.ext ?_)
  show cc0_transform_2 (grid0.coords t) a * S128x1024.size a + 1 * (y a).val = (j a).val
  rw [(idx t).1.2.2.1]
  match a with
  | ⟨0, _⟩ => show 0 * 128 + 1 * (y 0).val = (j 0).val; omega
  | ⟨1, _⟩ => show 0 * 1024 + 1 * (y 1).val = (j 1).val; omega

/-- The host's zeros the point is given. -/
theorem blk5 (hO : Ok m) (c : Dev nD) (t : Fin grid0.N) (y : S8x128.Idx) : iblk m hO c 5 t y = (0 : EReal) := by
  show V m c main_v0 ((((cfgM m hO).win 5).blk t).view.emb y) = _
  have e : V m c main_v0 = fun _ => (0 : EReal) := by
    unfold V hostOps0
    after_results_simp
    funext k
    pointwise []
  rw [e]

/-- The word of the table the point reads. -/
theorem word (k : S1.Idx) : tbl m 0 k = 0#32 := by
  show V m 0 main_v2 k = _
  unfold V hostOps0
  after_results_simp
  rfl

/-- Whether a point's rows are of the first half. -/
def half (n : ℕ) (w : BitVec 32) : BitVec 1 :=
  let i : BitVec 32 := BitVec.ofNat 32 n
  let q := Scalar.divsi i 1#32
  Scalar.cmpi .eq (Scalar.select (Scalar.andi (Scalar.cmpi .ne
      (Scalar.subi (Scalar.extui (Scalar.cmpi .sgt i 0#32)) (Scalar.extui (Scalar.cmpi .slt i 0#32)) : BitVec 32)
      (Scalar.subi (Scalar.extui (Scalar.cmpi .sgt 1#32 0#32)) (Scalar.extui (Scalar.cmpi .slt 1#32 0#32))))
    (Scalar.cmpi .ne (Scalar.remsi i 1#32) 0#32)) (Scalar.subi q 1#32) q) w

theorem half_eq : ∀ t : Fin grid0.N, half (grid0.coords t 0).val 0#32 = if t.val < 1 then 1#1 else 0#1 := by decide +kernel

/-- The gradient a point writes: its rows of the half they are in. -/
theorem pay6_eq (t : Fin grid0.N) (x1 x2 : Vec Ideal S128x1024 .f32) (z : Vec Ideal S1x1 .f32) (hz : ∀ k, z k = (0 : EReal)) (y : S128x1024.Idx) :
    k0_pay6 (F := Ideal) (grid0.coords t) 0#32 x1 x2 z y = if t.val < 1 then x1 y else x2 y := by
  have e : k0_pay6 (F := Ideal) (grid0.coords t) 0#32 x1 x2 z
      = addf (Scalar.select (half (grid0.coords t 0).val 0#32) x1 x2) (broadcastTo S128x1024 (shapeCast S1x1 z shapeCasts_S1x1_S1x1) broadcasts_S1x1_S128x1024) := rfl
  rw [e, half_eq]
  have e0 : broadcastTo S128x1024 (shapeCast S1x1 z shapeCasts_S1x1_S1x1) broadcasts_S1x1_S128x1024 y = (0 : EReal) := hz _
  show Scalar.select _ x1 x2 y + broadcastTo S128x1024 (shapeCast S1x1 z shapeCasts_S1x1_S1x1) broadcasts_S1x1_S128x1024 y = _
  rw [e0, add_zero]
  split
  · rfl
  · rfl

/-- Every block of an array of results is some point's. -/
theorem reach (ix : grid0.Coords → Fin 3 → ℕ) (h : ∀ t : Fin grid0.N, ix (grid0.coords t) = ![0, t.val, 0])
    (β : (a : Fin 3) → Fin ((S1x256x1024.size a + S1x128x1024.size a - 1) / S1x128x1024.size a)) :
    ∃ t : Fin grid0.N, ∀ a : Fin 3, ix (grid0.coords t) a = (β a : ℕ) := by
  refine ⟨⟨(β 1).val, (β 1).isLt⟩, fun x => ?_⟩
  rw [h]
  match x with
  | ⟨0, _⟩ => exact (Nat.lt_one_iff.mp (β 0).isLt).symm
  | ⟨1, _⟩ => rfl
  | ⟨2, _⟩ => exact (Nat.lt_one_iff.mp (β 2).isLt).symm

/-- The blocks written back are all of the array. -/
theorem covers6 (a : (pcfg0 (F := Ideal)).Adm) : ((cfg0 a).win 6).Covers :=
  ⟨(by decide : ∀ a : Fin 3, 0 < S1x128x1024.size a), fun β =>
    (reach cc0_transform_6 (fun t => (idx t).2.1) β).imp fun t h => ⟨flush0_6 a t, fun x => ⟨h x, Or.inl rfl⟩⟩⟩

/-- The blocks written back are all of the array. -/
theorem covers7 (a : (pcfg0 (F := Ideal)).Adm) : ((cfg0 a).win 7).Covers :=
  ⟨(by decide : ∀ a : Fin 3, 0 < S1x128x1024.size a), fun β =>
    (reach cc0_transform_7 (fun t => (idx t).2.2.1) β).imp fun t h => ⟨flush0_7 a t, fun x => ⟨h x, Or.inl rfl⟩⟩⟩

/-- The blocks written back are all of the array. -/
theorem covers8 (a : (pcfg0 (F := Ideal)).Adm) : ((cfg0 a).win 8).Covers :=
  ⟨(by decide : ∀ a : Fin 3, 0 < S1x128x1024.size a), fun β =>
    (reach cc0_transform_8 (fun t => (idx t).2.2.2.1) β).imp fun t h => ⟨flush0_8 a t, fun x => ⟨h x, Or.inl rfl⟩⟩⟩

/-- The blocks written back are all of the array. -/
theorem covers9 (a : (pcfg0 (F := Ideal)).Adm) : ((cfg0 a).win 9).Covers :=
  ⟨(by decide : ∀ a : Fin 3, 0 < S1x128x1024.size a), fun β =>
    (reach cc0_transform_9 (fun t => (idx t).2.2.2.2.1) β).imp fun t h => ⟨flush0_9 a t, fun x => ⟨h x, Or.inl rfl⟩⟩⟩

/-- The gradient a point writes is the reference's at the rows the point holds. -/
theorem grad_at (hO : Ok m) (c : Dev nD) (t : Fin grid0.N) (w : BitVec 32) (x1 x2 : Vec Ideal S128x1024 .f32) (z : Vec Ideal S1x1 .f32)
    (hw : w = 0#32) (h1 : x1 = iblk m hO c 1 t) (h2 : x2 = iblk m hO c 2 t) (hz : ∀ k, z k = (0 : EReal))
    (y : S128x1024.Idx) (j : S1x256x1024.Idx) (hj1 : (j 1 : ℕ) = t.val * 128 + y 0) (hj2 : (j 2 : ℕ) = y 1) :
    k0_pay6 (F := Ideal) (grid0.coords t) w x1 x2 z y
      = joined (m ((c.tc : Thread nD τ).loc main_arg1)) (m ((c.tc : Thread nD τ).loc main_arg2)) j := by
  subst hw
  refine (pay6_eq t x1 x2 z hz y).trans ?_
  have hy := (y 0).isLt
  have hN : t.val < 2 := t.isLt
  have hy' : (y 0).val < 128 := hy
  pointwise [joined]
  by_cases ht : t.val < 1
  · rw [if_pos ht, dif_pos (show (j 1).val < 128 by omega), h1]
    exact blk1 m hO c t y _ (show (j 1).val = 0 * 128 + (y 0).val by omega) hj2
  · rw [if_neg ht, dif_neg (show ¬ (j 1).val < 128 by omega), h2]
    exact blk2 m hO c t y _ (show (j 1).val - 128 = 0 * 128 + (y 0).val by omega) hj2

/-- The same of the block the point writes. -/
theorem grad_block_at (hO : Ok m) (c : Dev nD) (t : Fin grid0.N) (w : BitVec 32) (x1 x2 : Vec Ideal S128x1024 .f32) (z : Vec Ideal S1x1 .f32)
    (hw : w = 0#32) (h1 : x1 = iblk m hO c 1 t) (h2 : x2 = iblk m hO c 2 t) (hz : ∀ k, z k = (0 : EReal))
    (y : S1x128x1024.Idx) (j : S1x256x1024.Idx) (hj1 : (j 1 : ℕ) = t.val * 128 + y 1) (hj2 : (j 2 : ℕ) = y 2) :
    k0_pay7 (F := Ideal) (grid0.coords t) w x1 x2 z y
      = joined (m ((c.tc : Thread nD τ).loc main_arg1)) (m ((c.tc : Thread nD τ).loc main_arg2)) j := by
  have hg := grad_at m hO c t w x1 x2 z hw h1 h2 hz (ix2 (y 1) (y 2)) j hj1 hj2
  unfold k0_pay7
  generalize k0_pay6 (F := Ideal) (grid0.coords t) w x1 x2 z = G at hg ⊢
  rw [← hg]
  pointwise []

section Places

variable (t : Fin grid0.N) (G : FVec Ideal S128x1024 .f32) (g : FVec Ideal S1x256x1024 .f32)
    (hG : ∀ (y : S128x1024.Idx) (j : S1x256x1024.Idx), (j 1 : ℕ) = t.val * 128 + y 0 → (j 2 : ℕ) = y 1 → G y = g j)

/-- What a block and an array have in common where the block is that of a point. -/
def Rows (x : Vec Ideal S1x128x1024 .f32) (w : FVec Ideal S1x256x1024 .f32) : Prop :=
  ∀ (y : S1x128x1024.Idx) (j : S1x256x1024.Idx), (j 1 : ℕ) = t.val * 128 + y 1 → (j 2 : ℕ) = y 2 → x y = w j

include hG

/-- The step, a place at a time. -/
theorem step_at (x0 x3 x4 : Vec Ideal S1x128x1024 .f32) (w n v : FVec Ideal S1x256x1024 .f32)
    (h0 : Rows t x0 w) (h3 : Rows t x3 n) (h4 : Rows t x4 v) : Rows t (k0_pay3 (F := Ideal) G (k0_pay8 x0) (k0_pay9 x3) x4) (step w g n v) := by
  intro y j hj1 hj2
  pointwise [k0_pay3, k0_pay1, k0_pay2, k0_pay8, k0_pay9, step, first, second, all]
  rw [h0 y j hj1 hj2, h3 y j hj1 hj2, h4 y j hj1 hj2, hG (ix2 (y 1) (y 2)) j hj1 hj2]

/-- The new first moment, a place at a time. -/
theorem first_at (x3 : Vec Ideal S1x128x1024 .f32) (n : FVec Ideal S1x256x1024 .f32) (h3 : Rows t x3 n) :
    Rows t (k0_pay4 (F := Ideal) G (k0_pay9 x3)) (first g n) := by
  intro y j hj1 hj2
  pointwise [k0_pay4, k0_pay1, k0_pay9, first, all]
  rw [h3 y j hj1 hj2, hG (ix2 (y 1) (y 2)) j hj1 hj2]

/-- The new second moment, a place at a time. -/
theorem second_at (x4 : Vec Ideal S1x128x1024 .f32) (v : FVec Ideal S1x256x1024 .f32) (h4 : Rows t x4 v) :
    Rows t (k0_pay5 (F := Ideal) G x4) (second g v) := by
  intro y j hj1 hj2
  pointwise [k0_pay5, k0_pay2, second, all]
  rw [h4 y j hj1 hj2, hG (ix2 (y 1) (y 2)) j hj1 hj2]

end Places

/-- The place in the whole array of a place of the block a point writes. -/
theorem place (t : Fin grid0.N) (y : S1x128x1024.Idx) (ix : grid0.Coords → Fin 3 → ℕ) (h : ix (grid0.coords t) = ![0, t.val, 0]) :
    ix (grid0.coords t) 1 * 128 + 1 * (y 1).val = t.val * 128 + y 1 ∧ ix (grid0.coords t) 2 * 1024 + 1 * (y 2).val = y 2 := by
  rw [h]
  constructor
  · show t.val * 128 + 1 * (y 1).val = t.val * 128 + y 1; omega
  · show 0 * 1024 + 1 * (y 2).val = y 2; omega

/-- The array of the gradient after the run is the reference's. -/
theorem final6 (hO : Ok m) (c : Dev nD) : (dats m hO 0 c).arrAt 6 (cfgM m hO).N
    = joined (m ((c.tc : Thread nD τ).loc main_arg1)) (m ((c.tc : Thread nD τ).loc main_arg2)) := by
  refine (dats m hO 0 c).arrAt_eq_of_covers 6 _ (covers6 _) fun t hf y => ?_
  blk_simp
  rw [after0_6]
  unfold outsAt0
  frame_out
  refine grad_block_at m hO c t _ _ _ _ (word m _) ((hs0_1 m hO t).read_unread _) ((hs0_2 m hO t).read_unread _)
    (fun k => (congrFun ((hs0_5 m hO t).read_unread _) _).trans (blk5 m hO c t _)) y _ ?_ ?_
  · exact (place t y cc0_transform_6 (idx t).2.1).1
  · exact (place t y cc0_transform_6 (idx t).2.1).2

/-- The array of the step after the run is the reference's. -/
theorem final7 (hO : Ok m) (c : Dev nD) : (dats m hO 0 c).arrAt 7 (cfgM m hO).N
    = step (m ((c.tc : Thread nD τ).loc main_arg0)) (joined (m ((c.tc : Thread nD τ).loc main_arg1)) (m ((c.tc : Thread nD τ).loc main_arg2)))
      (m ((c.tc : Thread nD τ).loc main_arg3)) (m ((c.tc : Thread nD τ).loc main_arg4)) := by
  refine (dats m hO 0 c).arrAt_eq_of_covers 7 _ (covers7 _) fun t hf y => ?_
  blk_simp
  rw [after0_7]
  unfold outsAt0
  frame_out
  refine step_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _ _ _ _ _
    (fun y' j h h' => (congrFun ((hs0_0 m hO t).read_unread _) _).trans (blk0 m hO c t y' j h h'))
    (fun y' j h h' => (congrFun ((hs0_3 m hO t).read_unread _) _).trans (blk3 m hO c t y' j h h'))
    (fun y' j h h' => (congrFun ((hs0_4 m hO t).read_unread _) _).trans (blk4 m hO c t y' j h h')) y _ ?_ ?_
  · exact (place t y cc0_transform_7 (idx t).2.2.1).1
  · exact (place t y cc0_transform_7 (idx t).2.2.1).2

/-- The array of the first moment after the run is the reference's. -/
theorem final8 (hO : Ok m) (c : Dev nD) : (dats m hO 0 c).arrAt 8 (cfgM m hO).N
    = first (joined (m ((c.tc : Thread nD τ).loc main_arg1)) (m ((c.tc : Thread nD τ).loc main_arg2)))
      (m ((c.tc : Thread nD τ).loc main_arg3)) := by
  refine (dats m hO 0 c).arrAt_eq_of_covers 8 _ (covers8 _) fun t hf y => ?_
  blk_simp
  rw [after0_8]
  unfold outsAt0
  frame_out
  refine first_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_3 m hO t).read_unread _) _).trans (blk3 m hO c t y' j h h')) y _ ?_ ?_
  · exact (place t y cc0_transform_8 (idx t).2.2.2.1).1
  · exact (place t y cc0_transform_8 (idx t).2.2.2.1).2

/-- The array of the second moment after the run is the reference's. -/
theorem final9 (hO : Ok m) (c : Dev nD) : (dats m hO 0 c).arrAt 9 (cfgM m hO).N
    = second (joined (m ((c.tc : Thread nD τ).loc main_arg1)) (m ((c.tc : Thread nD τ).loc main_arg2)))
      (m ((c.tc : Thread nD τ).loc main_arg4)) := by
  refine (dats m hO 0 c).arrAt_eq_of_covers 9 _ (covers9 _) fun t hf y => ?_
  blk_simp
  rw [after0_9]
  unfold outsAt0
  frame_out
  refine second_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_4 m hO t).read_unread _) _).trans (blk4 m hO c t y' j h h')) y _ ?_ ?_
  · exact (place t y cc0_transform_9 (idx t).2.2.2.2.1).1
  · exact (place t y cc0_transform_9 (idx t).2.2.2.2.1).2

/-- A run of the call ends with the joined gradient, the step and the two new moments in its four results, and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = joined (m ((c.tc : Thread nD τ).loc main_arg1)) (m ((c.tc : Thread nD τ).loc main_arg2))
      ∧ r.2.mem ((c : Thread nD τ).loc main_v3_1) = step (m ((c.tc : Thread nD τ).loc main_arg0)) (joined (m ((c.tc : Thread nD τ).loc main_arg1)) (m ((c.tc : Thread nD τ).loc main_arg2))) (m ((c.tc : Thread nD τ).loc main_arg3)) (m ((c.tc : Thread nD τ).loc main_arg4))
      ∧ r.2.mem ((c : Thread nD τ).loc main_v3_2) = first (joined (m ((c.tc : Thread nD τ).loc main_arg1)) (m ((c.tc : Thread nD τ).loc main_arg2))) (m ((c.tc : Thread nD τ).loc main_arg3))
      ∧ r.2.mem ((c : Thread nD τ).loc main_v3_3) = second (joined (m ((c.tc : Thread nD τ).loc main_arg1)) (m ((c.tc : Thread nD τ).loc main_arg2))) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m trivial c), (h c).2.1.trans (final7 m trivial c),
      (h c).2.2.1.trans (final8 m trivial c), (h c).2.2.2.1.trans (final9 m trivial c), (h c).2.2.2.2⟩)
    (run_blocks m ρ trivial)

end Cert.Kernel10Ideal.Adam

end
-- ==== Proof.Adam.OutClaim.lean ====
/- The claims about the optimiser's step of the output projection's weight. -/
module

public import proofs.«01_k».proof.Defs
public import proofs.«01_k».proof.Proof.Gen.Kernel10
public import proofs.«01_k».proof.Proof.Adam.Out
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies10 : Cert.Kernel10.defs₀ (F := Bits) = Cert.Kernel10Ideal.defs₀ (F := Bits) := by
  unfold Cert.Kernel10.defs₀ Cert.Kernel10Ideal.defs₀
  refine congrArg Defs.onTc ?_
  funext l x
  match l, x with
  | 0, (t, s) => rfl

/-- ... and so the same table of definitions. -/
theorem table10 : Cert.Kernel10.defs (F := Bits) = Cert.Kernel10Ideal.defs (F := Bits) := by
  unfold Cert.Kernel10.defs Cert.Kernel10Ideal.defs
  exact congrArg (Pipeline.defs (Cert.Kernel10Ideal.pcfgs (F := Bits))) bodies10

/-- Every run of the kernel over the extended reals ends, without a fault, with the counters at zero and the arguments unchanged. -/
theorem quiescent10I : Cert.quiescent_Kernel10Ideal := fun m ρ _ => Cert.Kernel10Ideal.Gen.frame m ρ trivial

/-- The same of the kernel as it is. -/
theorem quiescent10 : Cert.quiescent_Kernel10 := fun m ρ _ => by
  rw [table10]
  exact Cert.Kernel10Ideal.Gen.frame (F := Bits) m ρ trivial

/-- The same of the reference. -/
theorem quiescent10R : Cert.quiescent_Reference10Ideal := fun m ρ _ =>
  (θ_run Cert.Reference10Ideal.defs _ _).mono (fun r h => ⟨fun c => (h c).2.2.2.2,
    sem_eq_zero_of_no_sems (by decide) r.2⟩) (Cert.Reference10Ideal.Value.run m ρ)

/-- A run of the reference ends with the joined gradient, the step and the two new moments in its results, and with its arguments unchanged. -/
theorem run10R (m : (ℓ : Loc Cert.Reference10Ideal.nD Cert.Reference10Ideal.τ Cert.Reference10Ideal.sig) → Buf (Elt Ideal) ℓ)
    (ρ : Dev Cert.Reference10Ideal.nD → PrngReg) :
    θ_run Cert.Reference10Ideal.defs (onTc (τ := Cert.Reference10Ideal.τ) (Cert.Reference10Ideal.main (F := Ideal))) ⟨m, fun _ => 0, ρ⟩
      fun r => ∀ c : Dev Cert.Reference10Ideal.nD,
      r.2.mem ((c.tc : Thread Cert.Reference10Ideal.nD Cert.Reference10Ideal.τ).loc Cert.Reference10Ideal.main_v1) = (Cert.Kernel10Ideal.Adam.joined (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)))
      ∧ r.2.mem ((c.tc : Thread Cert.Reference10Ideal.nD Cert.Reference10Ideal.τ).loc Cert.Reference10Ideal.main_v25) = Cert.Kernel10Ideal.Adam.step (m ((c.tc : Thread Cert.Reference10Ideal.nD Cert.Reference10Ideal.τ).loc Cert.Reference10Ideal.main_arg0)) (Cert.Kernel10Ideal.Adam.joined (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))
      ∧ r.2.mem ((c.tc : Thread Cert.Reference10Ideal.nD Cert.Reference10Ideal.τ).loc Cert.Reference10Ideal.main_v6) = Cert.Kernel10Ideal.Adam.first (Cert.Kernel10Ideal.Adam.joined (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) (m ((c.tc : Thread Cert.Reference10Ideal.nD Cert.Reference10Ideal.τ).loc Cert.Reference10Ideal.main_arg3))
      ∧ r.2.mem ((c.tc : Thread Cert.Reference10Ideal.nD Cert.Reference10Ideal.τ).loc Cert.Reference10Ideal.main_v12) = Cert.Kernel10Ideal.Adam.second (Cert.Kernel10Ideal.Adam.joined (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) (m ((c.tc : Thread Cert.Reference10Ideal.nD Cert.Reference10Ideal.τ).loc Cert.Reference10Ideal.main_arg4))
      ∧ r.2.mem ((c.tc : Thread Cert.Reference10Ideal.nD Cert.Reference10Ideal.τ).loc Cert.Reference10Ideal.main_arg0) = (m ((c.tc : Thread Cert.Reference10Ideal.nD Cert.Reference10Ideal.τ).loc Cert.Reference10Ideal.main_arg0))
      ∧ r.2.mem ((c.tc : Thread Cert.Reference10Ideal.nD Cert.Reference10Ideal.τ).loc Cert.Reference10Ideal.main_arg1) = (m ((c.tc : Thread Cert.Reference10Ideal.nD Cert.Reference10Ideal.τ).loc Cert.Reference10Ideal.main_arg1))
      ∧ r.2.mem ((c.tc : Thread Cert.Reference10Ideal.nD Cert.Reference10Ideal.τ).loc Cert.Reference10Ideal.main_arg2) = (m ((c.tc : Thread Cert.Reference10Ideal.nD Cert.Reference10Ideal.τ).loc Cert.Reference10Ideal.main_arg2))
      ∧ r.2.mem ((c.tc : Thread Cert.Reference10Ideal.nD Cert.Reference10Ideal.τ).loc Cert.Reference10Ideal.main_arg3) = (m ((c.tc : Thread Cert.Reference10Ideal.nD Cert.Reference10Ideal.τ).loc Cert.Reference10Ideal.main_arg3))
      ∧ r.2.mem ((c.tc : Thread Cert.Reference10Ideal.nD Cert.Reference10Ideal.τ).loc Cert.Reference10Ideal.main_arg4) = (m ((c.tc : Thread Cert.Reference10Ideal.nD Cert.Reference10Ideal.τ).loc Cert.Reference10Ideal.main_arg4)) :=
  (θ_run Cert.Reference10Ideal.defs _ _).mono (fun r h c => ⟨(h c).1.trans rfl, (h c).2.1.trans rfl,
      (h c).2.2.1.trans rfl, (h c).2.2.2.1.trans rfl, (h c).2.2.2.2⟩)
    (Cert.Reference10Ideal.Value.run m ρ)

/-- The kernel and the reference compute the same gradient, step and moments. -/
theorem algebraic10 : Cert.algebraic_Kernel10Ideal_Reference10Ideal := by
  pair_intro
  · run_from Cert.Kernel10Ideal.Adam.run m g
  · run_from Cert.Proof.run10R m' g'

end Cert.Proof

end
-- ==== Proof.Adam.Down.lean ====
/- The optimiser's step of the down projection's weight: the gradient, joined from its two halves, the step and the two new
   moments are the reference's, tile by tile. -/
module

public import proofs.«01_k».proof.Proof.Gen.Kernel11Ideal.Frame
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Adam

open Cert.Kernel11Ideal Cert.Kernel11Ideal.Gen

section AnyValues

variable {F : FTy → Type} [FloatOps F]
variable (m : (ℓ : Loc nD τ sig) → Buf (Elt F) ℓ) (ρ : Dev nD → PrngReg)

/-- After the run each array of results is what the grid's points left of it, and the arguments are as they were. -/
theorem run_blocks (hO : Ok m) : θ_run defs (onTc (τ := τ) (main (F := F))) ⟨m, fun _ => 0, ρ⟩ fun r => ∀ c : Dev nD,
      r.2.mem ((c : Thread nD τ).loc main_v3_0) = (dats m hO 0 c).arrAt 6 (cfgM m hO).N
      ∧ r.2.mem ((c : Thread nD τ).loc main_v3_1) = (dats m hO 0 c).arrAt 7 (cfgM m hO).N
      ∧ r.2.mem ((c : Thread nD τ).loc main_v3_2) = (dats m hO 0 c).arrAt 8 (cfgM m hO).N
      ∧ r.2.mem ((c : Thread nD τ).loc main_v3_3) = (dats m hO 0 c).arrAt 9 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7, (h c).1 8, (h c).1 9,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

end AnyValues

variable (m : (ℓ : Loc nD τ sig) → Buf (Elt Ideal) ℓ)

open Cert.Reference11Ideal.Gen in
/-- The reference's gradient: the two halves, one below the other. -/
def joined (a b : FVec Ideal S352x1024 .f32) : FVec Ideal S1x704x1024 .f32 :=
  broadcastInDim S1x704x1024 ![1, 2] bcast_S704x1024_S1x704x1024_1_2
    (concatenate Cert.Reference11Ideal.S704x1024 0 [⟨S352x1024, a⟩, ⟨S352x1024, b⟩] concatenates_S352x1024_S352x1024_S704x1024_d0)

open Cert.Reference11Ideal.Gen in
/-- A number at every place of the weight. -/
def all (k : BitVec 32) : FVec Ideal S1x704x1024 .f32 :=
  broadcastInDim S1x704x1024 ![] bcast_S_S1x704x1024 (constant Cert.Reference11Ideal.S_ .f32 k)

/-- The reference's new first moment. -/
def first (g n : FVec Ideal S1x704x1024 .f32) : FVec Ideal S1x704x1024 .f32 :=
  addf (mulf (all 0x3F666666#32) n) (mulf (all 0x3DCCCCCD#32) g)

/-- The reference's new second moment. -/
def second (g v : FVec Ideal S1x704x1024 .f32) : FVec Ideal S1x704x1024 .f32 :=
  addf (mulf (all 0x3F7FBE77#32) v) (mulf (all 0x3A83126F#32) (mulf g g))

/-- The reference's step. -/
def step (w g n v : FVec Ideal S1x704x1024 .f32) : FVec Ideal S1x704x1024 .f32 :=
  mulf (all 0xBA83126F#32) (addf (Host.divf (Host.divf (first g n) (all 0x3F26BD02#32))
    (addf (Host.sqrt (Host.divf (second g v) (all 0x3C231ACC#32))) (all 0x322BCC77#32))) (mulf (all 0x3C23D70A#32) w))

/-- Which block of its array each window holds at a grid point. -/
theorem idx : ∀ t : Fin grid0.N, (cc0_transform_0 (grid0.coords t) = ![0, t.val, 0]
    ∧ cc0_transform_1 (grid0.coords t) = ![t.val % 2, 0] ∧ cc0_transform_2 (grid0.coords t) = ![t.val % 2, 0]
    ∧ cc0_transform_3 (grid0.coords t) = ![0, t.val, 0] ∧ cc0_transform_4 (grid0.coords t) = ![0, t.val, 0])
    ∧ cc0_transform_6 (grid0.coords t) = ![0, t.val, 0] ∧ cc0_transform_7 (grid0.coords t) = ![0, t.val, 0]
    ∧ cc0_transform_8 (grid0.coords t) = ![0, t.val, 0] ∧ cc0_transform_9 (grid0.coords t) = ![0, t.val, 0]
    ∧ (grid0.coords t 0).val = t.val := by decide +kernel

/-- The weight a point holds, in the whole array. -/
theorem blk0 (hO : Ok m) (c : Dev nD) (t : Fin grid0.N) (y : S1x176x1024.Idx) (j : S1x704x1024.Idx)
    (h1 : (j 1 : ℕ) = t.val * 176 + y 1) (h2 : (j 2 : ℕ) = y 2) :
    iblk m hO c 0 t y = m ((c.tc : Thread nD τ).loc main_arg0) j := by
  show V m c main_arg0 ((((cfgM m hO).win 0).blk t).view.emb y) = _
  rw [V_main_arg0]
  refine congrArg _ (funext fun a => Fin.ext ?_)
  show cc0_transform_0 (grid0.coords t) a * S1x176x1024.size a + 1 * (y a).val = (j a).val
  rw [(idx t).1.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 176 + 1 * (y 1).val = (j 1).val; omega
  | ⟨2, _⟩ => show 0 * 1024 + 1 * (y 2).val = (j 2).val; omega

/-- The first moment a point holds, in the whole array. -/
theorem blk3 (hO : Ok m) (c : Dev nD) (t : Fin grid0.N) (y : S1x176x1024.Idx) (j : S1x704x1024.Idx)
    (h1 : (j 1 : ℕ) = t.val * 176 + y 1) (h2 : (j 2 : ℕ) = y 2) :
    iblk m hO c 3 t y = m ((c.tc : Thread nD τ).loc main_arg3) j := by
  show V m c main_arg3 ((((cfgM m hO).win 3).blk t).view.emb y) = _
  rw [V_main_arg3]
  refine congrArg _ (funext fun a => Fin.ext ?_)
  show cc0_transform_3 (grid0.coords t) a * S1x176x1024.size a + 1 * (y a).val = (j a).val
  rw [(idx t).1.2.2.2.1]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 176 + 1 * (y 1).val = (j 1).val; omega
  | ⟨2, _⟩ => show 0 * 1024 + 1 * (y 2).val = (j 2).val; omega

/-- The second moment a point holds, in the whole array. -/
theorem blk4 (hO : Ok m) (c : Dev nD) (t : Fin grid0.N) (y : S1x176x1024.Idx) (j : S1x704x1024.Idx)
    (h1 : (j 1 : ℕ) = t.val * 176 + y 1) (h2 : (j 2 : ℕ) = y 2) :
    iblk m hO c 4 t y = m ((c.tc : Thread nD τ).loc main_arg4) j := by
  show V m c main_arg4 ((((cfgM m hO).win 4).blk t).view.emb y) = _
  rw [V_main_arg4]
  refine congrArg _ (funext fun a => Fin.ext ?_)
  show cc0_transform_4 (grid0.coords t) a * S1x176x1024.size a + 1 * (y a).val = (j a).val
  rw [(idx t).1.2.2.2.2]
  match a with
  | ⟨0, _⟩ => have e := Nat.lt_one_iff.mp (j 0).isLt; have e' := Nat.lt_one_iff.mp (y 0).isLt; show 0 * 1 + 1 * (y 0).val = (j 0).val; rw [e, e']
  | ⟨1, _⟩ => show t.val * 176 + 1 * (y 1).val = (j 1).val; omega
  | ⟨2, _⟩ => show 0 * 1024 + 1 * (y 2).val = (j 2).val; omega

/-- The rows of the gradient's first half a point holds. -/
theorem blk1 (hO : Ok m) (c : Dev nD) (t : Fin grid0.N) (y : S176x1024.Idx) (j : S352x1024.Idx)
    (h0 : (j 0 : ℕ) = t.val % 2 * 176 + y 0) (h1 : (j 1 : ℕ) = y 1) :
    iblk m hO c 1 t y = m ((c.tc : Thread nD τ).loc main_arg1) j := by
  show V m c main_arg1 ((((cfgM m hO).win 1).blk t).view.emb y) = _
  rw [V_main_arg1]
  refine congrArg _ (funext fun a => Fin.ext ?_)
  show cc0_transform_1 (grid0.coords t) a * S176x1024.size a + 1 * (y a).val = (j a).val
  rw [(idx t).1.2.1]
  match a with
  | ⟨0, _⟩ => show t.val % 2 * 176 + 1 * (y 0).val = (j 0).val; omega
  | ⟨1, _⟩ => show 0 * 1024 + 1 * (y 1).val = (j 1).val; omega

/-- The rows of the gradient's second half a point holds. -/
theorem blk2 (hO : Ok m) (c : Dev nD) (t : Fin grid0.N) (y : S176x1024.Idx) (j : S352x1024.Idx)
    (h0 : (j 0 : ℕ) = t.val % 2 * 176 + y 0) (h1 : (j 1 : ℕ) = y 1) :
    iblk m hO c 2 t y = m ((c.tc : Thread nD τ).loc main_arg2) j := by
  show V m c main_arg2 ((((cfgM m hO).win 2).blk t).view.emb y) = _
  rw [V_main_arg2]
  refine congrArg _ (funext fun a => Fin.ext ?_)
  show cc0_transform_2 (grid0.coords t) a * S176x1024.size a + 1 * (y a).val = (j a).val
  rw [(idx t).1.2.2.1]
  match a with
  | ⟨0, _⟩ => show t.val % 2 * 176 + 1 * (y 0).val = (j 0).val; omega
  | ⟨1, _⟩ => show 0 * 1024 + 1 * (y 1).val = (j 1).val; omega

/-- The host's zeros the point is given. -/
theorem blk5 (hO : Ok m) (c : Dev nD) (t : Fin grid0.N) (y : S8x128.Idx) : iblk m hO c 5 t y = (0 : EReal) := by
  show V m c main_v0 ((((cfgM m hO).win 5).blk t).view.emb y) = _
  have e : V m c main_v0 = fun _ => (0 : EReal) := by
    unfold V hostOps0
    after_results_simp
    funext k
    pointwise []
  rw [e]

/-- The word of the table the point reads. -/
theorem word (k : S1.Idx) : tbl m 0 k = 0#32 := by
  show V m 0 main_v2 k = _
  unfold V hostOps0
  after_results_simp
  rfl

/-- Whether a point's rows are of the first half. -/
def half (n : ℕ) (w : BitVec 32) : BitVec 1 :=
  let i : BitVec 32 := BitVec.ofNat 32 n
  let q := Scalar.divsi i 2#32
  Scalar.cmpi .eq (Scalar.select (Scalar.andi (Scalar.cmpi .ne
      (Scalar.subi (Scalar.extui (Scalar.cmpi .sgt i 0#32)) (Scalar.extui (Scalar.cmpi .slt i 0#32)) : BitVec 32)
      (Scalar.subi (Scalar.extui (Scalar.cmpi .sgt 2#32 0#32)) (Scalar.extui (Scalar.cmpi .slt 2#32 0#32))))
    (Scalar.cmpi .ne (Scalar.remsi i 2#32) 0#32)) (Scalar.subi q 1#32) q) w

theorem half_eq : ∀ t : Fin grid0.N, half (grid0.coords t 0).val 0#32 = if t.val < 2 then 1#1 else 0#1 := by decide +kernel

/-- The gradient a point writes: its rows of the half they are in. -/
theorem pay6_eq (t : Fin grid0.N) (x1 x2 : Vec Ideal S176x1024 .f32) (z : Vec Ideal S1x1 .f32) (hz : ∀ k, z k = (0 : EReal)) (y : S176x1024.Idx) :
    k0_pay6 (F := Ideal) (grid0.coords t) 0#32 x1 x2 z y = if t.val < 2 then x1 y else x2 y := by
  have e : k0_pay6 (F := Ideal) (grid0.coords t) 0#32 x1 x2 z
      = addf (Scalar.select (half (grid0.coords t 0).val 0#32) x1 x2) (broadcastTo S176x1024 (shapeCast S1x1 z shapeCasts_S1x1_S1x1) broadcasts_S1x1_S176x1024) := rfl
  rw [e, half_eq]
  have e0 : broadcastTo S176x1024 (shapeCast S1x1 z shapeCasts_S1x1_S1x1) broadcasts_S1x1_S176x1024 y = (0 : EReal) := hz _
  show Scalar.select _ x1 x2 y + broadcastTo S176x1024 (shapeCast S1x1 z shapeCasts_S1x1_S1x1) broadcasts_S1x1_S176x1024 y = _
  rw [e0, add_zero]
  split
  · rfl
  · rfl

/-- Every block of an array of results is some point's. -/
theorem reach (ix : grid0.Coords → Fin 3 → ℕ) (h : ∀ t : Fin grid0.N, ix (grid0.coords t) = ![0, t.val, 0])
    (β : (a : Fin 3) → Fin ((S1x704x1024.size a + S1x176x1024.size a - 1) / S1x176x1024.size a)) :
    ∃ t : Fin grid0.N, ∀ a : Fin 3, ix (grid0.coords t) a = (β a : ℕ) := by
  refine ⟨⟨(β 1).val, (β 1).isLt⟩, fun x => ?_⟩
  rw [h]
  match x with
  | ⟨0, _⟩ => exact (Nat.lt_one_iff.mp (β 0).isLt).symm
  | ⟨1, _⟩ => rfl
  | ⟨2, _⟩ => exact (Nat.lt_one_iff.mp (β 2).isLt).symm

/-- The blocks written back are all of the array. -/
theorem covers6 (a : (pcfg0 (F := Ideal)).Adm) : ((cfg0 a).win 6).Covers :=
  ⟨(by decide : ∀ a : Fin 3, 0 < S1x176x1024.size a), fun β =>
    (reach cc0_transform_6 (fun t => (idx t).2.1) β).imp fun t h => ⟨flush0_6 a t, fun x => ⟨h x, Or.inl rfl⟩⟩⟩

/-- The blocks written back are all of the array. -/
theorem covers7 (a : (pcfg0 (F := Ideal)).Adm) : ((cfg0 a).win 7).Covers :=
  ⟨(by decide : ∀ a : Fin 3, 0 < S1x176x1024.size a), fun β =>
    (reach cc0_transform_7 (fun t => (idx t).2.2.1) β).imp fun t h => ⟨flush0_7 a t, fun x => ⟨h x, Or.inl rfl⟩⟩⟩

/-- The blocks written back are all of the array. -/
theorem covers8 (a : (pcfg0 (F := Ideal)).Adm) : ((cfg0 a).win 8).Covers :=
  ⟨(by decide : ∀ a : Fin 3, 0 < S1x176x1024.size a), fun β =>
    (reach cc0_transform_8 (fun t => (idx t).2.2.2.1) β).imp fun t h => ⟨flush0_8 a t, fun x => ⟨h x, Or.inl rfl⟩⟩⟩

/-- The blocks written back are all of the array. -/
theorem covers9 (a : (pcfg0 (F := Ideal)).Adm) : ((cfg0 a).win 9).Covers :=
  ⟨(by decide : ∀ a : Fin 3, 0 < S1x176x1024.size a), fun β =>
    (reach cc0_transform_9 (fun t => (idx t).2.2.2.2.1) β).imp fun t h => ⟨flush0_9 a t, fun x => ⟨h x, Or.inl rfl⟩⟩⟩

/-- The gradient a point writes is the reference's at the rows the point holds. -/
theorem grad_at (hO : Ok m) (c : Dev nD) (t : Fin grid0.N) (w : BitVec 32) (x1 x2 : Vec Ideal S176x1024 .f32) (z : Vec Ideal S1x1 .f32)
    (hw : w = 0#32) (h1 : x1 = iblk m hO c 1 t) (h2 : x2 = iblk m hO c 2 t) (hz : ∀ k, z k = (0 : EReal))
    (y : S176x1024.Idx) (j : S1x704x1024.Idx) (hj1 : (j 1 : ℕ) = t.val * 176 + y 0) (hj2 : (j 2 : ℕ) = y 1) :
    k0_pay6 (F := Ideal) (grid0.coords t) w x1 x2 z y
      = joined (m ((c.tc : Thread nD τ).loc main_arg1)) (m ((c.tc : Thread nD τ).loc main_arg2)) j := by
  subst hw
  refine (pay6_eq t x1 x2 z hz y).trans ?_
  have hy := (y 0).isLt
  have hN : t.val < 4 := t.isLt
  have hy' : (y 0).val < 176 := hy
  pointwise [joined]
  by_cases ht : t.val < 2
  · rw [if_pos ht, dif_pos (show (j 1).val < 352 by omega), h1]
    exact blk1 m hO c t y _ (show (j 1).val = t.val % 2 * 176 + (y 0).val by omega) hj2
  · rw [if_neg ht, dif_neg (show ¬ (j 1).val < 352 by omega), h2]
    exact blk2 m hO c t y _ (show (j 1).val - 352 = t.val % 2 * 176 + (y 0).val by omega) hj2

/-- The same of the block the point writes. -/
theorem grad_block_at (hO : Ok m) (c : Dev nD) (t : Fin grid0.N) (w : BitVec 32) (x1 x2 : Vec Ideal S176x1024 .f32) (z : Vec Ideal S1x1 .f32)
    (hw : w = 0#32) (h1 : x1 = iblk m hO c 1 t) (h2 : x2 = iblk m hO c 2 t) (hz : ∀ k, z k = (0 : EReal))
    (y : S1x176x1024.Idx) (j : S1x704x1024.Idx) (hj1 : (j 1 : ℕ) = t.val * 176 + y 1) (hj2 : (j 2 : ℕ) = y 2) :
    k0_pay7 (F := Ideal) (grid0.coords t) w x1 x2 z y
      = joined (m ((c.tc : Thread nD τ).loc main_arg1)) (m ((c.tc : Thread nD τ).loc main_arg2)) j := by
  have hg := grad_at m hO c t w x1 x2 z hw h1 h2 hz (ix2 (y 1) (y 2)) j hj1 hj2
  unfold k0_pay7
  generalize k0_pay6 (F := Ideal) (grid0.coords t) w x1 x2 z = G at hg ⊢
  rw [← hg]
  pointwise []

section Places

variable (t : Fin grid0.N) (G : FVec Ideal S176x1024 .f32) (g : FVec Ideal S1x704x1024 .f32)
    (hG : ∀ (y : S176x1024.Idx) (j : S1x704x1024.Idx), (j 1 : ℕ) = t.val * 176 + y 0 → (j 2 : ℕ) = y 1 → G y = g j)

/-- What a block and an array have in common where the block is that of a point. -/
def Rows (x : Vec Ideal S1x176x1024 .f32) (w : FVec Ideal S1x704x1024 .f32) : Prop :=
  ∀ (y : S1x176x1024.Idx) (j : S1x704x1024.Idx), (j 1 : ℕ) = t.val * 176 + y 1 → (j 2 : ℕ) = y 2 → x y = w j

include hG

/-- The step, a place at a time. -/
theorem step_at (x0 x3 x4 : Vec Ideal S1x176x1024 .f32) (w n v : FVec Ideal S1x704x1024 .f32)
    (h0 : Rows t x0 w) (h3 : Rows t x3 n) (h4 : Rows t x4 v) : Rows t (k0_pay3 (F := Ideal) G (k0_pay8 x0) (k0_pay9 x3) x4) (step w g n v) := by
  intro y j hj1 hj2
  pointwise [k0_pay3, k0_pay1, k0_pay2, k0_pay8, k0_pay9, step, first, second, all]
  rw [h0 y j hj1 hj2, h3 y j hj1 hj2, h4 y j hj1 hj2, hG (ix2 (y 1) (y 2)) j hj1 hj2]

/-- The new first moment, a place at a time. -/
theorem first_at (x3 : Vec Ideal S1x176x1024 .f32) (n : FVec Ideal S1x704x1024 .f32) (h3 : Rows t x3 n) :
    Rows t (k0_pay4 (F := Ideal) G (k0_pay9 x3)) (first g n) := by
  intro y j hj1 hj2
  pointwise [k0_pay4, k0_pay1, k0_pay9, first, all]
  rw [h3 y j hj1 hj2, hG (ix2 (y 1) (y 2)) j hj1 hj2]

/-- The new second moment, a place at a time. -/
theorem second_at (x4 : Vec Ideal S1x176x1024 .f32) (v : FVec Ideal S1x704x1024 .f32) (h4 : Rows t x4 v) :
    Rows t (k0_pay5 (F := Ideal) G x4) (second g v) := by
  intro y j hj1 hj2
  pointwise [k0_pay5, k0_pay2, second, all]
  rw [h4 y j hj1 hj2, hG (ix2 (y 1) (y 2)) j hj1 hj2]

end Places

/-- The place in the whole array of a place of the block a point writes. -/
theorem place (t : Fin grid0.N) (y : S1x176x1024.Idx) (ix : grid0.Coords → Fin 3 → ℕ) (h : ix (grid0.coords t) = ![0, t.val, 0]) :
    ix (grid0.coords t) 1 * 176 + 1 * (y 1).val = t.val * 176 + y 1 ∧ ix (grid0.coords t) 2 * 1024 + 1 * (y 2).val = y 2 := by
  rw [h]
  constructor
  · show t.val * 176 + 1 * (y 1).val = t.val * 176 + y 1; omega
  · show 0 * 1024 + 1 * (y 2).val = y 2; omega

/-- The array of the gradient after the run is the reference's. -/
theorem final6 (hO : Ok m) (c : Dev nD) : (dats m hO 0 c).arrAt 6 (cfgM m hO).N
    = joined (m ((c.tc : Thread nD τ).loc main_arg1)) (m ((c.tc : Thread nD τ).loc main_arg2)) := by
  refine (dats m hO 0 c).arrAt_eq_of_covers 6 _ (covers6 _) fun t hf y => ?_
  blk_simp
  rw [after0_6]
  unfold outsAt0
  frame_out
  refine grad_block_at m hO c t _ _ _ _ (word m _) ((hs0_1 m hO t).read_unread _) ((hs0_2 m hO t).read_unread _)
    (fun k => (congrFun ((hs0_5 m hO t).read_unread _) _).trans (blk5 m hO c t _)) y _ ?_ ?_
  · exact (place t y cc0_transform_6 (idx t).2.1).1
  · exact (place t y cc0_transform_6 (idx t).2.1).2

/-- The array of the step after the run is the reference's. -/
theorem final7 (hO : Ok m) (c : Dev nD) : (dats m hO 0 c).arrAt 7 (cfgM m hO).N
    = step (m ((c.tc : Thread nD τ).loc main_arg0)) (joined (m ((c.tc : Thread nD τ).loc main_arg1)) (m ((c.tc : Thread nD τ).loc main_arg2)))
      (m ((c.tc : Thread nD τ).loc main_arg3)) (m ((c.tc : Thread nD τ).loc main_arg4)) := by
  refine (dats m hO 0 c).arrAt_eq_of_covers 7 _ (covers7 _) fun t hf y => ?_
  blk_simp
  rw [after0_7]
  unfold outsAt0
  frame_out
  refine step_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _ _ _ _ _
    (fun y' j h h' => (congrFun ((hs0_0 m hO t).read_unread _) _).trans (blk0 m hO c t y' j h h'))
    (fun y' j h h' => (congrFun ((hs0_3 m hO t).read_unread _) _).trans (blk3 m hO c t y' j h h'))
    (fun y' j h h' => (congrFun ((hs0_4 m hO t).read_unread _) _).trans (blk4 m hO c t y' j h h')) y _ ?_ ?_
  · exact (place t y cc0_transform_7 (idx t).2.2.1).1
  · exact (place t y cc0_transform_7 (idx t).2.2.1).2

/-- The array of the first moment after the run is the reference's. -/
theorem final8 (hO : Ok m) (c : Dev nD) : (dats m hO 0 c).arrAt 8 (cfgM m hO).N
    = first (joined (m ((c.tc : Thread nD τ).loc main_arg1)) (m ((c.tc : Thread nD τ).loc main_arg2)))
      (m ((c.tc : Thread nD τ).loc main_arg3)) := by
  refine (dats m hO 0 c).arrAt_eq_of_covers 8 _ (covers8 _) fun t hf y => ?_
  blk_simp
  rw [after0_8]
  unfold outsAt0
  frame_out
  refine first_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_3 m hO t).read_unread _) _).trans (blk3 m hO c t y' j h h')) y _ ?_ ?_
  · exact (place t y cc0_transform_8 (idx t).2.2.2.1).1
  · exact (place t y cc0_transform_8 (idx t).2.2.2.1).2

/-- The array of the second moment after the run is the reference's. -/
theorem final9 (hO : Ok m) (c : Dev nD) : (dats m hO 0 c).arrAt 9 (cfgM m hO).N
    = second (joined (m ((c.tc : Thread nD τ).loc main_arg1)) (m ((c.tc : Thread nD τ).loc main_arg2)))
      (m ((c.tc : Thread nD τ).loc main_arg4)) := by
  refine (dats m hO 0 c).arrAt_eq_of_covers 9 _ (covers9 _) fun t hf y => ?_
  blk_simp
  rw [after0_9]
  unfold outsAt0
  frame_out
  refine second_at t _ _ (fun y' j h h' => grad_at m hO c t _ _ _ _ (word m _) ((hs0_1 m hO t).read_unread _) ((hs0_2 m hO t).read_unread _)
      (fun k => (congrFun ((hs0_5 m hO t).read_unread _) _).trans (blk5 m hO c t _)) y' j h h') _ _
    (fun y' j h h' => (congrFun ((hs0_4 m hO t).read_unread _) _).trans (blk4 m hO c t y' j h h')) y _ ?_ ?_
  · exact (place t y cc0_transform_9 (idx t).2.2.2.2.1).1
  · exact (place t y cc0_transform_9 (idx t).2.2.2.2.1).2

/-- A run of the call ends with the joined gradient, the step and the two new moments in its four results, and with its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = joined (m ((c.tc : Thread nD τ).loc main_arg1)) (m ((c.tc : Thread nD τ).loc main_arg2))
      ∧ r.2.mem ((c : Thread nD τ).loc main_v3_1) = step (m ((c.tc : Thread nD τ).loc main_arg0)) (joined (m ((c.tc : Thread nD τ).loc main_arg1)) (m ((c.tc : Thread nD τ).loc main_arg2))) (m ((c.tc : Thread nD τ).loc main_arg3)) (m ((c.tc : Thread nD τ).loc main_arg4))
      ∧ r.2.mem ((c : Thread nD τ).loc main_v3_2) = first (joined (m ((c.tc : Thread nD τ).loc main_arg1)) (m ((c.tc : Thread nD τ).loc main_arg2))) (m ((c.tc : Thread nD τ).loc main_arg3))
      ∧ r.2.mem ((c : Thread nD τ).loc main_v3_3) = second (joined (m ((c.tc : Thread nD τ).loc main_arg1)) (m ((c.tc : Thread nD τ).loc main_arg2))) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m trivial c), (h c).2.1.trans (final7 m trivial c),
      (h c).2.2.1.trans (final8 m trivial c), (h c).2.2.2.1.trans (final9 m trivial c), (h c).2.2.2.2⟩)
    (run_blocks m ρ trivial)

end Cert.Kernel11Ideal.Adam

end
-- ==== Proof.Adam.DownClaim.lean ====
/- The claims about the optimiser's step of the down projection's weight. -/
module

public import proofs.«01_k».proof.Defs
public import proofs.«01_k».proof.Proof.Gen.Kernel11
public import proofs.«01_k».proof.Proof.Adam.Down
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel as it is and its ideal program have the same table of bodies, read at bit patterns. -/
theorem bodies11 : Cert.Kernel11.defs₀ (F := Bits) = Cert.Kernel11Ideal.defs₀ (F := Bits) := by
  unfold Cert.Kernel11.defs₀ Cert.Kernel11Ideal.defs₀
  refine congrArg Defs.onTc ?_
  funext l x
  match l, x with
  | 0, (t, s) => rfl

/-- ... and so the same table of definitions. -/
theorem table11 : Cert.Kernel11.defs (F := Bits) = Cert.Kernel11Ideal.defs (F := Bits) := by
  unfold Cert.Kernel11.defs Cert.Kernel11Ideal.defs
  exact congrArg (Pipeline.defs (Cert.Kernel11Ideal.pcfgs (F := Bits))) bodies11

/-- The two programs have the same lines. -/
theorem main11 : Cert.Kernel11.main (F := Bits) = Cert.Kernel11Ideal.main (F := Bits) := by
  unfold Cert.Kernel11.main Cert.Kernel11Ideal.main
  rfl

/-- Every run of the kernel over the extended reals ends, without a fault, with the counters at zero and the arguments unchanged. -/
theorem quiescent11I : Cert.quiescent_Kernel11Ideal := fun m ρ _ => Cert.Kernel11Ideal.Gen.frame m ρ trivial

set_option maxHeartbeats 0 in
/-- The same of the kernel as it is. -/
theorem quiescent11 : Cert.quiescent_Kernel11 := fun m ρ _ => by
  rw [table11, main11]
  exact Cert.Kernel11Ideal.Gen.frame (F := Bits) m ρ trivial

/-- The same of the reference. -/
theorem quiescent11R : Cert.quiescent_Reference11Ideal := fun m ρ _ =>
  (θ_run Cert.Reference11Ideal.defs _ _).mono (fun r h => ⟨fun c => (h c).2.2.2.2,
    sem_eq_zero_of_no_sems (by decide) r.2⟩) (Cert.Reference11Ideal.Value.run m ρ)

/-- A run of the reference ends with the joined gradient, the step and the two new moments in its results, and with its arguments unchanged. -/
theorem run11R (m : (ℓ : Loc Cert.Reference11Ideal.nD Cert.Reference11Ideal.τ Cert.Reference11Ideal.sig) → Buf (Elt Ideal) ℓ)
    (ρ : Dev Cert.Reference11Ideal.nD → PrngReg) :
    θ_run Cert.Reference11Ideal.defs (onTc (τ := Cert.Reference11Ideal.τ) (Cert.Reference11Ideal.main (F := Ideal))) ⟨m, fun _ => 0, ρ⟩
      fun r => ∀ c : Dev Cert.Reference11Ideal.nD,
      r.2.mem ((c.tc : Thread Cert.Reference11Ideal.nD Cert.Reference11Ideal.τ).loc Cert.Reference11Ideal.main_v1) = (Cert.Kernel11Ideal.Adam.joined (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)))
      ∧ r.2.mem ((c.tc : Thread Cert.Reference11Ideal.nD Cert.Reference11Ideal.τ).loc Cert.Reference11Ideal.main_v25) = Cert.Kernel11Ideal.Adam.step (m ((c.tc : Thread Cert.Reference11Ideal.nD Cert.Reference11Ideal.τ).loc Cert.Reference11Ideal.main_arg0)) (Cert.Kernel11Ideal.Adam.joined (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))
      ∧ r.2.mem ((c.tc : Thread Cert.Reference11Ideal.nD Cert.Reference11Ideal.τ).loc Cert.Reference11Ideal.main_v6) = Cert.Kernel11Ideal.Adam.first (Cert.Kernel11Ideal.Adam.joined (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) (m ((c.tc : Thread Cert.Reference11Ideal.nD Cert.Reference11Ideal.τ).loc Cert.Reference11Ideal.main_arg3))
      ∧ r.2.mem ((c.tc : Thread Cert.Reference11Ideal.nD Cert.Reference11Ideal.τ).loc Cert.Reference11Ideal.main_v12) = Cert.Kernel11Ideal.Adam.second (Cert.Kernel11Ideal.Adam.joined (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) (m ((c.tc : Thread Cert.Reference11Ideal.nD Cert.Reference11Ideal.τ).loc Cert.Reference11Ideal.main_arg4))
      ∧ r.2.mem ((c.tc : Thread Cert.Reference11Ideal.nD Cert.Reference11Ideal.τ).loc Cert.Reference11Ideal.main_arg0) = (m ((c.tc : Thread Cert.Reference11Ideal.nD Cert.Reference11Ideal.τ).loc Cert.Reference11Ideal.main_arg0))
      ∧ r.2.mem ((c.tc : Thread Cert.Reference11Ideal.nD Cert.Reference11Ideal.τ).loc Cert.Reference11Ideal.main_arg1) = (m ((c.tc : Thread Cert.Reference11Ideal.nD Cert.Reference11Ideal.τ).loc Cert.Reference11Ideal.main_arg1))
      ∧ r.2.mem ((c.tc : Thread Cert.Reference11Ideal.nD Cert.Reference11Ideal.τ).loc Cert.Reference11Ideal.main_arg2) = (m ((c.tc : Thread Cert.Reference11Ideal.nD Cert.Reference11Ideal.τ).loc Cert.Reference11Ideal.main_arg2))
      ∧ r.2.mem ((c.tc : Thread Cert.Reference11Ideal.nD Cert.Reference11Ideal.τ).loc Cert.Reference11Ideal.main_arg3) = (m ((c.tc : Thread Cert.Reference11Ideal.nD Cert.Reference11Ideal.τ).loc Cert.Reference11Ideal.main_arg3))
      ∧ r.2.mem ((c.tc : Thread Cert.Reference11Ideal.nD Cert.Reference11Ideal.τ).loc Cert.Reference11Ideal.main_arg4) = (m ((c.tc : Thread Cert.Reference11Ideal.nD Cert.Reference11Ideal.τ).loc Cert.Reference11Ideal.main_arg4)) :=
  (θ_run Cert.Reference11Ideal.defs _ _).mono (fun r h c => ⟨(h c).1.trans rfl, (h c).2.1.trans rfl,
      (h c).2.2.1.trans rfl, (h c).2.2.2.1.trans rfl, (h c).2.2.2.2⟩)
    (Cert.Reference11Ideal.Value.run m ρ)

/-- The kernel and the reference compute the same gradient, step and moments. -/
theorem algebraic11 : Cert.algebraic_Kernel11Ideal_Reference11Ideal := by
  pair_intro
  · run_from Cert.Kernel11Ideal.Adam.run m g
  · run_from Cert.Proof.run11R m' g'

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Mixer.Claim
public import proofs.«01_k».proof.Proof.Gen.Kernel2
public import proofs.«01_k».proof.Proof.Gen.Kernel2Ideal
public import proofs.«01_k».proof.Proof.Gen.Reference2Ideal.Run
public import proofs.«01_k».proof.Proof.Gen.Kernel2Ideal.Value
public import proofs.«01_k».proof.Proof.Ffn.WgradClaim
public import proofs.«01_k».proof.Proof.Gen.Kernel3
public import proofs.«01_k».proof.Proof.Gen.Kernel3Ideal
public import proofs.«01_k».proof.Proof.Gen.Reference3Ideal.Run
public import proofs.«01_k».proof.Proof.Gen.Pre_finite3
public import proofs.«01_k».proof.Proof.Gen.Kernel3Ideal.Value
public import proofs.«01_k».proof.Proof.Ffn.GateClaim
public import proofs.«01_k».proof.Proof.Gen.Kernel4
public import proofs.«01_k».proof.Proof.Gen.Kernel4Ideal
public import proofs.«01_k».proof.Proof.Gen.Reference4Ideal.Run
public import proofs.«01_k».proof.Proof.Gen.Pre_finite4
public import proofs.«01_k».proof.Proof.Gen.Kernel4Ideal.Value
public import proofs.«01_k».proof.Proof.Ffn.BwdDownClaim
public import proofs.«01_k».proof.Proof.Gen.Kernel5
public import proofs.«01_k».proof.Proof.Gen.Kernel5Ideal
public import proofs.«01_k».proof.Proof.Gen.Reference5Ideal.Run
public import proofs.«01_k».proof.Proof.Gen.Kernel5Ideal.Value
public import proofs.«01_k».proof.Proof.Ffn.UpClaim
public import proofs.«01_k».proof.Proof.Gen.Kernel6
public import proofs.«01_k».proof.Proof.Gen.Kernel6Ideal
public import proofs.«01_k».proof.Proof.Gen.Reference6Ideal.Run
public import proofs.«01_k».proof.Proof.Gen.Pre_finite6
public import proofs.«01_k».proof.Proof.Gen.Kernel6Ideal.Value
public import proofs.«01_k».proof.Proof.Ffn.DownClaim
public import proofs.«01_k».proof.Proof.Gen.Kernel7
public import proofs.«01_k».proof.Proof.Gen.Kernel7Ideal
public import proofs.«01_k».proof.Proof.Gen.Reference7Ideal.Run
public import proofs.«01_k».proof.Proof.Gen.Pre_finite7
public import proofs.«01_k».proof.Proof.Gen.Kernel7Ideal.Value
public import proofs.«01_k».proof.Proof.Ffn.InprojClaim
public import proofs.«01_k».proof.Proof.Gen.Kernel8
public import proofs.«01_k».proof.Proof.Gen.Kernel8Ideal
public import proofs.«01_k».proof.Proof.Gen.Reference8Ideal.Run
public import proofs.«01_k».proof.Proof.Gen.Kernel8Ideal.Value
public import proofs.«01_k».proof.Proof.Ffn.ProjectClaim
public import proofs.«01_k».proof.Proof.Gen.Kernel9
public import proofs.«01_k».proof.Proof.Gen.Kernel9Ideal
public import proofs.«01_k».proof.Proof.Gen.Reference9Ideal.Run
public import proofs.«01_k».proof.Proof.Adam.InClaim
public import proofs.«01_k».proof.Proof.Gen.Kernel10
public import proofs.«01_k».proof.Proof.Gen.Kernel10Ideal
public import proofs.«01_k».proof.Proof.Gen.Reference10Ideal.Run
public import proofs.«01_k».proof.Proof.Adam.OutClaim
public import proofs.«01_k».proof.Proof.Gen.Kernel11
public import proofs.«01_k».proof.Proof.Gen.Kernel11Ideal
public import proofs.«01_k».proof.Proof.Gen.Reference11Ideal.Run
public import proofs.«01_k».proof.Proof.Adam.DownClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite3.Gen.facts, Cert.Pre_finite4.Gen.facts, Cert.Pre_finite6.Gen.facts,
    Cert.Pre_finite7.Gen.facts,
    quiescent1, quiescent1I, quiescent1R, quiescent2, quiescent2I, quiescent2R, quiescent3, quiescent3I, quiescent3IPre, quiescent3R, quiescent3RPre, quiescent4, quiescent4I, quiescent4IPre, quiescent4R, quiescent4RPre, quiescent5, quiescent5I, quiescent5R, quiescent6, quiescent6I, quiescent6IPre, quiescent6R, quiescent6RPre, quiescent7, quiescent7I, quiescent7IPre, quiescent7R, quiescent7RPre, quiescent8, quiescent8I, quiescent8R, quiescent9, quiescent9I, quiescent9R, quiescent10, quiescent10I, quiescent10R, quiescent11, quiescent11I, quiescent11R,
    trivial, algebraic1, trivial, algebraic2, trivial, algebraic3, trivial, algebraic4, trivial, algebraic5, trivial, algebraic6, trivial, algebraic7, trivial, algebraic8, trivial, algebraic9, trivial, algebraic10, trivial, algebraic11⟩

end Cert.Proof

end
